-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_on_live [hKernelIdeal : Cert.KernelIdeal.Facts] [hReferenceIdeal : Cert.ReferenceIdeal.Facts] [hOn_live : Cert.On_live.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![167, 1536, 768]⟩ : Shape).Idx, (Cert.On_live.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v0_0) i = v0 c i)
          ∧ (∀ i : (⟨3, ![167, 1536, 768]⟩ : Shape).Idx, (Cert.On_live.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v0_1) i = v1 c i)
          ∧ (∀ i : (⟨2, ![1536, 128]⟩ : Shape).Idx, (Cert.On_live.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.KernelIdeal.nD Cert.KernelIdeal.τ).loc Cert.KernelIdeal.main_v0_2) i = v2 c i)
          ∧ (∀ i : (⟨2, ![1536, 128]⟩ : Shape).Idx, (Cert.On_live.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 i = 1#1 → r.2.mem ((c.tc : Thread Cert.KernelIdeal.nD Cert.KernelIdeal.τ).loc Cert.KernelIdeal.main_v0_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![167, 1536, 768]⟩ : Shape).Idx, (Cert.On_live.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v17_0) i = v0 c i)
          ∧ (∀ i : (⟨3, ![167, 1536, 768]⟩ : Shape).Idx, (Cert.On_live.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v17_1) i = v1 c i)
          ∧ (∀ i : (⟨2, ![1536, 128]⟩ : Shape).Idx, (Cert.On_live.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.ReferenceIdeal.nD Cert.ReferenceIdeal.τ).loc Cert.ReferenceIdeal.main_v17_2) i = v2 c i)
          ∧ (∀ i : (⟨2, ![1536, 128]⟩ : Shape).Idx, (Cert.On_live.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 i = 1#1 → r.2.mem ((c.tc : Thread Cert.ReferenceIdeal.nD Cert.ReferenceIdeal.τ).loc Cert.ReferenceIdeal.main_v17_3) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hOn_live : Cert.On_live.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_live (hKernelIdeal := hKernelIdeal) (hReferenceIdeal := hReferenceIdeal) (hOn_live := hOn_live)
-- ==== On_live.lean ====
abbrev S1 : Shape := ⟨1, ![1]⟩
abbrev S1536x3072 : Shape := ⟨2, ![1536, 3072]⟩
abbrev S1536x2048 : Shape := ⟨2, ![1536, 2048]⟩
abbrev S1536x128 : Shape := ⟨2, ![1536, 128]⟩
abbrev S1536x128256 : Shape := ⟨2, ![1536, 128256]⟩
abbrev S24x128256 : Shape := ⟨2, ![24, 128256]⟩
abbrev S128256x2048 : Shape := ⟨2, ![128256, 2048]⟩
abbrev S167x1x768 : Shape := ⟨3, ![167, 1, 768]⟩
abbrev S167x1536x768 : Shape := ⟨3, ![167, 1536, 768]⟩
abbrev S_ : Shape := ⟨0, ![]⟩

class Facts : Prop where
  bcast_S_S167x1536x768 : S_.BroadcastsInDim S167x1536x768 (![] : Fin 0 → Fin S167x1536x768.rank)
  shapeCasts_S1_S_ : S1.ShapeCasts S_
  bcast_S_S1536x128 : S_.BroadcastsInDim S1536x128 (![] : Fin 0 → Fin S1536x128.rank)

variable [Facts]

def fn {F : FTy → Type} [FloatOps F] (main_arg0 : IVec S1 32) (main_arg1 : FVec F S1536x3072 .bf16) (main_arg2 : FVec F S1536x2048 .fp8e4m3) (main_arg3 : FVec F S1536x128 .f32) (main_arg4 : IVec S1536x128256 8) (main_arg5 : FVec F S24x128256 .f32) (main_arg6 : FVec F S24x128256 .f32) (main_arg7 : FVec F S128256x2048 .fp8e4m3) (main_arg8 : FVec F S167x1x768 .f32) : IVec S167x1536x768 1 × IVec S167x1536x768 1 × IVec S1536x128 1 × IVec S1536x128 1 :=
  let main_v0 : IVec S167x1536x768 32 := iotaInDim S167x1536x768 32 1
  let main_c : IVec S_ 32 := constantI S_ 32 256#32
  let main_v1 : IVec S167x1536x768 32 := broadcastInDim S167x1536x768 ![] bcast_S_S167x1536x768 main_c
  let main_v2 : IVec S167x1536x768 32 := Host.divsi main_v0 main_v1
  let main_v3 : IVec S_ 32 := shapeCast S_ main_arg0 shapeCasts_S1_S_
  let main_v4 : IVec S167x1536x768 32 := broadcastInDim S167x1536x768 ![] bcast_S_S167x1536x768 main_v3
  let main_v5 : IVec S167x1536x768 1 := cmpi .slt main_v2 main_v4
  let main_c_0 : IVec S_ 1 := constantI S_ 1 1#1
  let main_v6 : IVec S1536x128 1 := broadcastInDim S1536x128 ![] bcast_S_S1536x128 main_c_0
  let main_c_1 : IVec S_ 1 := constantI S_ 1 1#1
  let main_v7 : IVec S1536x128 1 := broadcastInDim S1536x128 ![] bcast_S_S1536x128 main_c_1
  (main_v5, main_v5, main_v6, main_v7)
-- ==== Kernel.lean ====
abbrev S1 : Shape := ⟨1, ![1]⟩
abbrev S1536x3072 : Shape := ⟨2, ![1536, 3072]⟩
abbrev S1536x2048 : Shape := ⟨2, ![1536, 2048]⟩
abbrev S1536x128 : Shape := ⟨2, ![1536, 128]⟩
abbrev S1536x128256 : Shape := ⟨2, ![1536, 128256]⟩
abbrev S24x128256 : Shape := ⟨2, ![24, 128256]⟩
abbrev S128256x2048 : Shape := ⟨2, ![128256, 2048]⟩
abbrev S167x1x768 : Shape := ⟨3, ![167, 1, 768]⟩
abbrev S167x1536x768 : Shape := ⟨3, ![167, 1536, 768]⟩
abbrev S1536x768 : Shape := ⟨2, ![1536, 768]⟩
abbrev S24x768 : Shape := ⟨2, ![24, 768]⟩
abbrev S768x2048 : Shape := ⟨2, ![768, 2048]⟩
abbrev S1x1x768 : Shape := ⟨3, ![1, 1, 768]⟩
abbrev S3072x768 : Shape := ⟨2, ![3072, 768]⟩
abbrev S2x1536x768 : Shape := ⟨3, ![2, 1536, 768]⟩
abbrev S2x2x6 : Shape := ⟨3, ![2, 2, 6]⟩
abbrev S1x1x1 : Shape := ⟨3, ![1, 1, 1]⟩
abbrev S_ : Shape := ⟨0, ![]⟩
abbrev S1x256x768 : Shape := ⟨3, ![1, 256, 768]⟩
abbrev S256x768 : Shape := ⟨2, ![256, 768]⟩
abbrev S1x768 : Shape := ⟨2, ![1, 768]⟩
abbrev S64x768 : Shape := ⟨2, ![64, 768]⟩
abbrev S256x3072 : Shape := ⟨2, ![256, 3072]⟩
abbrev S256x128 : Shape := ⟨2, ![256, 128]⟩
abbrev S256x2048 : Shape := ⟨2, ![256, 2048]⟩
abbrev S1536 : Shape := ⟨1, ![1536]⟩
abbrev S1536x1 : Shape := ⟨2, ![1536, 1]⟩

abbrev nBuf : Space → Nat
  | .hbm => 12
  | .vmem => 22
  | .smem => 1
  | _ => 0

abbrev bufTy : (tb : Table) → Fin (tcTables nBuf tb) → BufTy
  | .hbm, ⟨0, _⟩ => ⟨S1536x3072, .bf16⟩
  | .hbm, ⟨1, _⟩ => ⟨S1536x2048, .fp8e4m3⟩
  | .hbm, ⟨2, _⟩ => ⟨S1536x128, .f32⟩
  | .hbm, ⟨3, _⟩ => ⟨S1536x128256, .i8⟩
  | .hbm, ⟨4, _⟩ => ⟨S24x128256, .f32⟩
  | .hbm, ⟨5, _⟩ => ⟨S24x128256, .f32⟩
  | .hbm, ⟨6, _⟩ => ⟨S128256x2048, .fp8e4m3⟩
  | .hbm, ⟨7, _⟩ => ⟨S167x1x768, .f32⟩
  | .hbm, ⟨8, _⟩ => ⟨S167x1536x768, .f32⟩
  | .hbm, ⟨9, _⟩ => ⟨S167x1536x768, .f32⟩
  | .hbm, ⟨10, _⟩ => ⟨S1536x128, .f32⟩
  | .hbm, ⟨11, _⟩ => ⟨S1536x128, .f32⟩
  | .local _ .vmem, ⟨0, _⟩ => ⟨S1536x3072, .bf16⟩
  | .local _ .vmem, ⟨1, _⟩ => ⟨S1536x2048, .fp8e4m3⟩
  | .local _ .vmem, ⟨2, _⟩ => ⟨S1536x128, .f32⟩
  | .local _ .vmem, ⟨3, _⟩ => ⟨S1536x768, .i8⟩
  | .local _ .vmem, ⟨4, _⟩ => ⟨S1536x768, .i8⟩
  | .local _ .vmem, ⟨5, _⟩ => ⟨S24x768, .f32⟩
  | .local _ .vmem, ⟨6, _⟩ => ⟨S24x768, .f32⟩
  | .local _ .vmem, ⟨7, _⟩ => ⟨S24x768, .f32⟩
  | .local _ .vmem, ⟨8, _⟩ => ⟨S24x768, .f32⟩
  | .local _ .vmem, ⟨9, _⟩ => ⟨S768x2048, .fp8e4m3⟩
  | .local _ .vmem, ⟨10, _⟩ => ⟨S768x2048, .fp8e4m3⟩
  | .local _ .vmem, ⟨11, _⟩ => ⟨S1x1x768, .f32⟩
  | .local _ .vmem, ⟨12, _⟩ => ⟨S1x1x768, .f32⟩
  | .local _ .vmem, ⟨13, _⟩ => ⟨S1536x128, .f32⟩
  | .local _ .vmem, ⟨14, _⟩ => ⟨S1536x128, .f32⟩
  | .local _ .vmem, ⟨15, _⟩ => ⟨S3072x768, .bf16⟩
  | .local _ .vmem, ⟨16, _⟩ => ⟨S2x1536x768, .f32⟩
  | .local _ .vmem, ⟨17, _⟩ => ⟨S2x1536x768, .f32⟩
  | .local _ .vmem, ⟨18, _⟩ => ⟨S1536x128, .f32⟩
  | .local _ .vmem, ⟨19, _⟩ => ⟨S1536x128, .f32⟩
  | .local _ .vmem, ⟨20, _⟩ => ⟨S1536x128, .f32⟩
  | .local _ .vmem, ⟨21, _⟩ => ⟨S1536x128, .f32⟩
  | .local _ .smem, ⟨0, _⟩ => ⟨S1, .i32⟩
  | _, _ => ⟨S1536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![167], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg0 : BitVec 32 := BitVec.ofNat 32 (i 0).val
  let c2_i32_1 : BitVec 32 := 2#32
  let v5 : BitVec 1 := Scalar.cmpi .sge arg0 c2_i32_1
  let v6 : BitVec 32 := Scalar.extui v5
  let c0_i32_2 : BitVec 32 := 0#32
  let v7 : BitVec 1 := Scalar.cmpi .ne v6 c0_i32_2
  v7

def k0_off1 (i : grid0.Coords) : Fin 3 → Nat :=
  let arg0 : BitVec 32 := BitVec.ofNat 32 (i 0).val
  let c2_i32 : BitVec 32 := 2#32
  let v1 : BitVec 32 := Scalar.remsi arg0 c2_i32
  let c0_i32_442 : BitVec 32 := 0#32
  let c0_i32_443 : BitVec 32 := 0#32
  ![v1.toNat, 0, 0]
def k0_off2 (i : grid0.Coords) : Fin 3 → Nat :=
  let arg0 : BitVec 32 := BitVec.ofNat 32 (i 0).val
  let c2_i32_429 : BitVec 32 := 2#32
  let v1273 : BitVec 32 := Scalar.subi arg0 c2_i32_429
  let c0_i32_444 : BitVec 32 := 0#32
  let c0_i32_445 : BitVec 32 := 0#32
  ![v1273.toNat, 0, 0]
def k0_off3 (i : grid0.Coords) : Fin 3 → Nat :=
  let arg0 : BitVec 32 := BitVec.ofNat 32 (i 0).val
  let c2_i32 : BitVec 32 := 2#32
  let v1 : BitVec 32 := Scalar.remsi arg0 c2_i32
  let c0_i32_446 : BitVec 32 := 0#32
  let c0_i32_447 : BitVec 32 := 0#32
  ![v1.toNat, 0, 0]
def k0_off4 (i : grid0.Coords) : Fin 3 → Nat :=
  let arg0 : BitVec 32 := BitVec.ofNat 32 (i 0).val
  let c2_i32 : BitVec 32 := 2#32
  let v1 : BitVec 32 := Scalar.remsi arg0 c2_i32
  let c1_i32_448 : BitVec 32 := 1#32
  let c0_i32_449 : BitVec 32 := 0#32
  ![v1.toNat, 1, 0]
def k0_off5 (i : grid0.Coords) : Fin 3 → Nat :=
  let arg0 : BitVec 32 := BitVec.ofNat 32 (i 0).val
  let c2_i32 : BitVec 32 := 2#32
  let v1 : BitVec 32 := Scalar.remsi arg0 c2_i32
  let c0_i32_442 : BitVec 32 := 0#32
  let c1_i32_443 : BitVec 32 := 1#32
  ![v1.toNat, 0, 1]
def k0_off6 (i : grid0.Coords) : Fin 3 → Nat :=
  let arg0 : BitVec 32 := BitVec.ofNat 32 (i 0).val
  let c2_i32_429 : BitVec 32 := 2#32
  let v1273 : BitVec 32 := Scalar.subi arg0 c2_i32_429
  let c256_i32 : BitVec 32 := 256#32
  let c0_i32_444 : BitVec 32 := 0#32
  ![v1273.toNat, 256, 0]
def k0_off7 (i : grid0.Coords) : Fin 3 → Nat :=
  let arg0 : BitVec 32 := BitVec.ofNat 32 (i 0).val
  let c2_i32 : BitVec 32 := 2#32
  let v1 : BitVec 32 := Scalar.remsi arg0 c2_i32
  let c256_i32_445 : BitVec 32 := 256#32
  let c0_i32_446 : BitVec 32 := 0#32
  ![v1.toNat, 256, 0]
def k0_off8 (i : grid0.Coords) : Fin 3 → Nat :=
  let arg0 : BitVec 32 := BitVec.ofNat 32 (i 0).val
  let c2_i32 : BitVec 32 := 2#32
  let v1 : BitVec 32 := Scalar.remsi arg0 c2_i32
  let c1_i32_447 : BitVec 32 := 1#32
  let c1_i32_448 : BitVec 32 := 1#32
  ![v1.toNat, 1, 1]
def k0_off9 (i : grid0.Coords) : Fin 3 → Nat :=
  let arg0 : BitVec 32 := BitVec.ofNat 32 (i 0).val
  let c2_i32 : BitVec 32 := 2#32
  let v1 : BitVec 32 := Scalar.remsi arg0 c2_i32
  let c0_i32_442 : BitVec 32 := 0#32
  let c2_i32_443 : BitVec 32 := 2#32
  ![v1.toNat, 0, 2]
def k0_off10 (i : grid0.Coords) : Fin 3 → Nat :=
  let arg0 : BitVec 32 := BitVec.ofNat 32 (i 0).val
  let c2_i32_429 : BitVec 32 := 2#32
  let v1273 : BitVec 32 := Scalar.subi arg0 c2_i32_429
  let c512_i32 : BitVec 32 := 512#32
  let c0_i32_444 : BitVec 32 := 0#32
  ![v1273.toNat, 512, 0]
def k0_off11 (i : grid0.Coords) : Fin 3 → Nat :=
  let arg0 : BitVec 32 := BitVec.ofNat 32 (i 0).val
  let c2_i32 : BitVec 32 := 2#32
  let v1 : BitVec 32 := Scalar.remsi arg0 c2_i32
  let c512_i32_445 : BitVec 32 := 512#32
  let c0_i32_446 : BitVec 32 := 0#32
  ![v1.toNat, 512, 0]
def k0_off12 (i : grid0.Coords) : Fin 3 → Nat :=
  let arg0 : BitVec 32 := BitVec.ofNat 32 (i 0).val
  let c2_i32 : BitVec 32 := 2#32
  let v1 : BitVec 32 := Scalar.remsi arg0 c2_i32
  let c1_i32_447 : BitVec 32 := 1#32
  let c2_i32_448 : BitVec 32 := 2#32
  ![v1.toNat, 1, 2]
def k0_off13 (i : grid0.Coords) : Fin 3 → Nat :=
  let arg0 : BitVec 32 := BitVec.ofNat 32 (i 0).val
  let c2_i32 : BitVec 32 := 2#32
  let v1 : BitVec 32 := Scalar.remsi arg0 c2_i32
  let c0_i32_442 : BitVec 32 := 0#32
  let c3_i32_443 : BitVec 32 := 3#32
  ![v1.toNat, 0, 3]
def k0_off14 (i : grid0.Coords) : Fin 3 → Nat :=
  let arg0 : BitVec 32 := BitVec.ofNat 32 (i 0).val
  let c2_i32_429 : BitVec 32 := 2#32
  let v1273 : BitVec 32 := Scalar.subi arg0 c2_i32_429
  let c768_i32 : BitVec 32 := 768#32
  let c0_i32_444 : BitVec 32 := 0#32
  ![v1273.toNat, 768, 0]
def k0_off15 (i : grid0.Coords) : Fin 3 → Nat :=
  let arg0 : BitVec 32 := BitVec.ofNat 32 (i 0).val
  let c2_i32 : BitVec 32 := 2#32
  let v1 : BitVec 32 := Scalar.remsi arg0 c2_i32
  let c768_i32_445 : BitVec 32 := 768#32
  let c0_i32_446 : BitVec 32 := 0#32
  ![v1.toNat, 768, 0]
def k0_off16 (i : grid0.Coords) : Fin 3 → Nat :=
  let arg0 : BitVec 32 := BitVec.ofNat 32 (i 0).val
  let c2_i32 : BitVec 32 := 2#32
  let v1 : BitVec 32 := Scalar.remsi arg0 c2_i32
  let c1_i32_447 : BitVec 32 := 1#32
  let c3_i32_448 : BitVec 32 := 3#32
  ![v1.toNat, 1, 3]
def k0_off17 (i : grid0.Coords) : Fin 3 → Nat :=
  let arg0 : BitVec 32 := BitVec.ofNat 32 (i 0).val
  let c2_i32 : BitVec 32 := 2#32
  let v1 : BitVec 32 := Scalar.remsi arg0 c2_i32
  let c0_i32_442 : BitVec 32 := 0#32
  let c4_i32_443 : BitVec 32 := 4#32
  ![v1.toNat, 0, 4]
def k0_off18 (i : grid0.Coords) : Fin 3 → Nat :=
  let arg0 : BitVec 32 := BitVec.ofNat 32 (i 0).val
  let c2_i32_429 : BitVec 32 := 2#32
  let v1273 : BitVec 32 := Scalar.subi arg0 c2_i32_429
  let c1024_i32 : BitVec 32 := 1024#32
  let c0_i32_444 : BitVec 32 := 0#32
  ![v1273.toNat, 1024, 0]
def k0_off19 (i : grid0.Coords) : Fin 3 → Nat :=
  let arg0 : BitVec 32 := BitVec.ofNat 32 (i 0).val
  let c2_i32 : BitVec 32 := 2#32
  let v1 : BitVec 32 := Scalar.remsi arg0 c2_i32
  let c1024_i32_445 : BitVec 32 := 1024#32
  let c0_i32_446 : BitVec 32 := 0#32
  ![v1.toNat, 1024, 0]
def k0_off20 (i : grid0.Coords) : Fin 3 → Nat :=
  let arg0 : BitVec 32 := BitVec.ofNat 32 (i 0).val
  let c2_i32 : BitVec 32 := 2#32
  let v1 : BitVec 32 := Scalar.remsi arg0 c2_i32
  let c1_i32_447 : BitVec 32 := 1#32
  let c4_i32_448 : BitVec 32 := 4#32
  ![v1.toNat, 1, 4]
def k0_off21 (i : grid0.Coords) : Fin 3 → Nat :=
  let arg0 : BitVec 32 := BitVec.ofNat 32 (i 0).val
  let c2_i32 : BitVec 32 := 2#32
  let v1 : BitVec 32 := Scalar.remsi arg0 c2_i32
  let c0_i32_442 : BitVec 32 := 0#32
  let c5_i32_443 : BitVec 32 := 5#32
  ![v1.toNat, 0, 5]
def k0_off22 (i : grid0.Coords) : Fin 3 → Nat :=
  let arg0 : BitVec 32 := BitVec.ofNat 32 (i 0).val
  let c2_i32_429 : BitVec 32 := 2#32
  let v1273 : BitVec 32 := Scalar.subi arg0 c2_i32_429
  let c1280_i32 : BitVec 32 := 1280#32
  let c0_i32_444 : BitVec 32 := 0#32
  ![v1273.toNat, 1280, 0]
def k0_off23 (i : grid0.Coords) : Fin 3 → Nat :=
  let arg0 : BitVec 32 := BitVec.ofNat 32 (i 0).val
  let c2_i32 : BitVec 32 := 2#32
  let v1 : BitVec 32 := Scalar.remsi arg0 c2_i32
  let c1280_i32_445 : BitVec 32 := 1280#32
  let c0_i32_446 : BitVec 32 := 0#32
  ![v1.toNat, 1280, 0]
def k0_off24 (i : grid0.Coords) : Fin 3 → Nat :=
  let arg0 : BitVec 32 := BitVec.ofNat 32 (i 0).val
  let c2_i32 : BitVec 32 := 2#32
  let v1 : BitVec 32 := Scalar.remsi arg0 c2_i32
  let c1_i32_447 : BitVec 32 := 1#32
  let c5_i32_448 : BitVec 32 := 5#32
  ![v1.toNat, 1, 5]
def k0_off25 (i : grid0.Coords) : Fin 3 → Nat :=
  let arg0 : BitVec 32 := BitVec.ofNat 32 (i 0).val
  let c2_i32 : BitVec 32 := 2#32
  let v1 : BitVec 32 := Scalar.remsi arg0 c2_i32
  let v639 : Index := Scalar.indexCast v1
  let c0_227 : Index := 0#32
  let c0_228 : Index := 0#32
  ![v639.toNat, 0, 0]
def k0_off26 (i : grid0.Coords) : Fin 3 → Nat :=
  let arg0 : BitVec 32 := BitVec.ofNat 32 (i 0).val
  let c2_i32 : BitVec 32 := 2#32
  let v1 : BitVec 32 := Scalar.remsi arg0 c2_i32
  let v742 : Index := Scalar.indexCast v1
  let c256_260 : Index := 256#32
  let c0_261 : Index := 0#32
  ![v742.toNat, 256, 0]
def k0_off27 (i : grid0.Coords) : Fin 3 → Nat :=
  let arg0 : BitVec 32 := BitVec.ofNat 32 (i 0).val
  let c2_i32 : BitVec 32 := 2#32
  let v1 : BitVec 32 := Scalar.remsi arg0 c2_i32
  let v845 : Index := Scalar.indexCast v1
  let c512_293 : Index := 512#32
  let c0_294 : Index := 0#32
  ![v845.toNat, 512, 0]
def k0_off28 (i : grid0.Coords) : Fin 3 → Nat :=
  let arg0 : BitVec 32 := BitVec.ofNat 32 (i 0).val
  let c2_i32 : BitVec 32 := 2#32
  let v1 : BitVec 32 := Scalar.remsi arg0 c2_i32
  let v948 : Index := Scalar.indexCast v1
  let c768_326 : Index := 768#32
  let c0_327 : Index := 0#32
  ![v948.toNat, 768, 0]
def k0_off29 (i : grid0.Coords) : Fin 3 → Nat :=
  let arg0 : BitVec 32 := BitVec.ofNat 32 (i 0).val
  let c2_i32 : BitVec 32 := 2#32
  let v1 : BitVec 32 := Scalar.remsi arg0 c2_i32
  let v1051 : Index := Scalar.indexCast v1
  let c1024_359 : Index := 1024#32
  let c0_360 : Index := 0#32
  ![v1051.toNat, 1024, 0]
def k0_off30 (i : grid0.Coords) : Fin 3 → Nat :=
  let arg0 : BitVec 32 := BitVec.ofNat 32 (i 0).val
  let c2_i32 : BitVec 32 := 2#32
  let v1 : BitVec 32 := Scalar.remsi arg0 c2_i32
  let v1154 : Index := Scalar.indexCast v1
  let c1280_392 : Index := 1280#32
  let c0_393 : Index := 0#32
  ![v1154.toNat, 1280, 0]
def k0_off31 (i : grid0.Coords) : Fin 3 → Nat :=
  let arg0 : BitVec 32 := BitVec.ofNat 32 (i 0).val
  let c2_i32 : BitVec 32 := 2#32
  let v1 : BitVec 32 := Scalar.remsi arg0 c2_i32
  let c0_i32_429 : BitVec 32 := 0#32
  let c0_i32_430 : BitVec 32 := 0#32
  ![v1.toNat, 0, 0]
def k0_off32 (i : grid0.Coords) : Fin 3 → Nat :=
  let arg0 : BitVec 32 := BitVec.ofNat 32 (i 0).val
  let c0_i32_431 : BitVec 32 := 0#32
  let c0_i32_432 : BitVec 32 := 0#32
  ![arg0.toNat, 0, 0]
def k0_off33 (i : grid0.Coords) : Fin 3 → Nat :=
  let arg0 : BitVec 32 := BitVec.ofNat 32 (i 0).val
  let c2_i32 : BitVec 32 := 2#32
  let v1 : BitVec 32 := Scalar.remsi arg0 c2_i32
  let c0_i32_433 : BitVec 32 := 0#32
  let c0_i32_434 : BitVec 32 := 0#32
  ![v1.toNat, 0, 0]
def k0_off34 (i : grid0.Coords) : Fin 3 → Nat :=
  let arg0 : BitVec 32 := BitVec.ofNat 32 (i 0).val
  let c2_i32 : BitVec 32 := 2#32
  let v1 : BitVec 32 := Scalar.remsi arg0 c2_i32
  let c1_i32_435 : BitVec 32 := 1#32
  let c0_i32_436 : BitVec 32 := 0#32
  ![v1.toNat, 1, 0]
def k0_off35 (i : grid0.Coords) : Fin 3 → Nat :=
  let arg0 : BitVec 32 := BitVec.ofNat 32 (i 0).val
  let c2_i32 : BitVec 32 := 2#32
  let v1 : BitVec 32 := Scalar.remsi arg0 c2_i32
  let c0_i32_429 : BitVec 32 := 0#32
  let c1_i32_430 : BitVec 32 := 1#32
  ![v1.toNat, 0, 1]
def k0_off36 (i : grid0.Coords) : Fin 3 → Nat :=
  let arg0 : BitVec 32 := BitVec.ofNat 32 (i 0).val
  let c256_i32 : BitVec 32 := 256#32
  let c0_i32_431 : BitVec 32 := 0#32
  ![arg0.toNat, 256, 0]
def k0_off37 (i : grid0.Coords) : Fin 3 → Nat :=
  let arg0 : BitVec 32 := BitVec.ofNat 32 (i 0).val
  let c2_i32 : BitVec 32 := 2#32
  let v1 : BitVec 32 := Scalar.remsi arg0 c2_i32
  let c256_i32_432 : BitVec 32 := 256#32
  let c0_i32_433 : BitVec 32 := 0#32
  ![v1.toNat, 256, 0]
def k0_off38 (i : grid0.Coords) : Fin 3 → Nat :=
  let arg0 : BitVec 32 := BitVec.ofNat 32 (i 0).val
  let c2_i32 : BitVec 32 := 2#32
  let v1 : BitVec 32 := Scalar.remsi arg0 c2_i32
  let c1_i32_434 : BitVec 32 := 1#32
  let c1_i32_435 : BitVec 32 := 1#32
  ![v1.toNat, 1, 1]
def k0_off39 (i : grid0.Coords) : Fin 3 → Nat :=
  let arg0 : BitVec 32 := BitVec.ofNat 32 (i 0).val
  let c2_i32 : BitVec 32 := 2#32
  let v1 : BitVec 32 := Scalar.remsi arg0 c2_i32
  let c0_i32_429 : BitVec 32 := 0#32
  let c2_i32_430 : BitVec 32 := 2#32
  ![v1.toNat, 0, 2]
def k0_off40 (i : grid0.Coords) : Fin 3 → Nat :=
  let arg0 : BitVec 32 := BitVec.ofNat 32 (i 0).val
  let c512_i32 : BitVec 32 := 512#32
  let c0_i32_431 : BitVec 32 := 0#32
  ![arg0.toNat, 512, 0]
def k0_off41 (i : grid0.Coords) : Fin 3 → Nat :=
  let arg0 : BitVec 32 := BitVec.ofNat 32 (i 0).val
  let c2_i32 : BitVec 32 := 2#32
  let v1 : BitVec 32 := Scalar.remsi arg0 c2_i32
  let c512_i32_432 : BitVec 32 := 512#32
  let c0_i32_433 : BitVec 32 := 0#32
  ![v1.toNat, 512, 0]
def k0_off42 (i : grid0.Coords) : Fin 3 → Nat :=
  let arg0 : BitVec 32 := BitVec.ofNat 32 (i 0).val
  let c2_i32 : BitVec 32 := 2#32
  let v1 : BitVec 32 := Scalar.remsi arg0 c2_i32
  let c1_i32_434 : BitVec 32 := 1#32
  let c2_i32_435 : BitVec 32 := 2#32
  ![v1.toNat, 1, 2]
def k0_off43 (i : grid0.Coords) : Fin 3 → Nat :=
  let arg0 : BitVec 32 := BitVec.ofNat 32 (i 0).val
  let c2_i32 : BitVec 32 := 2#32
  let v1 : BitVec 32 := Scalar.remsi arg0 c2_i32
  let c0_i32_429 : BitVec 32 := 0#32
  let c3_i32_430 : BitVec 32 := 3#32
  ![v1.toNat, 0, 3]
def k0_off44 (i : grid0.Coords) : Fin 3 → Nat :=
  let arg0 : BitVec 32 := BitVec.ofNat 32 (i 0).val
  let c768_i32 : BitVec 32 := 768#32
  let c0_i32_431 : BitVec 32 := 0#32
  ![arg0.toNat, 768, 0]
def k0_off45 (i : grid0.Coords) : Fin 3 → Nat :=
  let arg0 : BitVec 32 := BitVec.ofNat 32 (i 0).val
  let c2_i32 : BitVec 32 := 2#32
  let v1 : BitVec 32 := Scalar.remsi arg0 c2_i32
  let c768_i32_432 : BitVec 32 := 768#32
  let c0_i32_433 : BitVec 32 := 0#32
  ![v1.toNat, 768, 0]
def k0_off46 (i : grid0.Coords) : Fin 3 → Nat :=
  let arg0 : BitVec 32 := BitVec.ofNat 32 (i 0).val
  let c2_i32 : BitVec 32 := 2#32
  let v1 : BitVec 32 := Scalar.remsi arg0 c2_i32
  let c1_i32_434 : BitVec 32 := 1#32
  let c3_i32_435 : BitVec 32 := 3#32
  ![v1.toNat, 1, 3]
def k0_off47 (i : grid0.Coords) : Fin 3 → Nat :=
  let arg0 : BitVec 32 := BitVec.ofNat 32 (i 0).val
  let c2_i32 : BitVec 32 := 2#32
  let v1 : BitVec 32 := Scalar.remsi arg0 c2_i32
  let c0_i32_429 : BitVec 32 := 0#32
  let c4_i32_430 : BitVec 32 := 4#32
  ![v1.toNat, 0, 4]
def k0_off48 (i : grid0.Coords) : Fin 3 → Nat :=
  let arg0 : BitVec 32 := BitVec.ofNat 32 (i 0).val
  let c1024_i32 : BitVec 32 := 1024#32
  let c0_i32_431 : BitVec 32 := 0#32
  ![arg0.toNat, 1024, 0]
def k0_off49 (i : grid0.Coords) : Fin 3 → Nat :=
  let arg0 : BitVec 32 := BitVec.ofNat 32 (i 0).val
  let c2_i32 : BitVec 32 := 2#32
  let v1 : BitVec 32 := Scalar.remsi arg0 c2_i32
  let c1024_i32_432 : BitVec 32 := 1024#32
  let c0_i32_433 : BitVec 32 := 0#32
  ![v1.toNat, 1024, 0]
def k0_off50 (i : grid0.Coords) : Fin 3 → Nat :=
  let arg0 : BitVec 32 := BitVec.ofNat 32 (i 0).val
  let c2_i32 : BitVec 32 := 2#32
  let v1 : BitVec 32 := Scalar.remsi arg0 c2_i32
  let c1_i32_434 : BitVec 32 := 1#32
  let c4_i32_435 : BitVec 32 := 4#32
  ![v1.toNat, 1, 4]
def k0_off51 (i : grid0.Coords) : Fin 3 → Nat :=
  let arg0 : BitVec 32 := BitVec.ofNat 32 (i 0).val
  let c2_i32 : BitVec 32 := 2#32
  let v1 : BitVec 32 := Scalar.remsi arg0 c2_i32
  let c0_i32_429 : BitVec 32 := 0#32
  let c5_i32_430 : BitVec 32 := 5#32
  ![v1.toNat, 0, 5]
def k0_off52 (i : grid0.Coords) : Fin 3 → Nat :=
  let arg0 : BitVec 32 := BitVec.ofNat 32 (i 0).val
  let c1280_i32 : BitVec 32 := 1280#32
  let c0_i32_431 : BitVec 32 := 0#32
  ![arg0.toNat, 1280, 0]
def k0_off53 (i : grid0.Coords) : Fin 3 → Nat :=
  let arg0 : BitVec 32 := BitVec.ofNat 32 (i 0).val
  let c2_i32 : BitVec 32 := 2#32
  let v1 : BitVec 32 := Scalar.remsi arg0 c2_i32
  let c1280_i32_432 : BitVec 32 := 1280#32
  let c0_i32_433 : BitVec 32 := 0#32
  ![v1.toNat, 1280, 0]
def k0_off54 (i : grid0.Coords) : Fin 3 → Nat :=
  let arg0 : BitVec 32 := BitVec.ofNat 32 (i 0).val
  let c2_i32 : BitVec 32 := 2#32
  let v1 : BitVec 32 := Scalar.remsi arg0 c2_i32
  let c1_i32_434 : BitVec 32 := 1#32
  let c5_i32_435 : BitVec 32 := 5#32
  ![v1.toNat, 1, 5]
def k0_cond15 (i : grid0.Coords) : BitVec 1 :=
  let arg0 : BitVec 32 := BitVec.ofNat 32 (i 0).val
  let c166_i32 : BitVec 32 := 166#32
  let v1270 : BitVec 1 := Scalar.cmpi .eq arg0 c166_i32
  let v1271 : BitVec 32 := Scalar.extui v1270
  let c0_i32_428 : BitVec 32 := 0#32
  let v1272 : BitVec 1 := Scalar.cmpi .ne v1271 c0_i32_428
  v1272

def k0_off55 (i : grid0.Coords) : Fin 3 → Nat :=
  let c1_i32_448 : BitVec 32 := 1#32
  let arg0 : BitVec 32 := BitVec.ofNat 32 (i 0).val
  let c2_i32 : BitVec 32 := 2#32
  let v1 : BitVec 32 := Scalar.remsi arg0 c2_i32
  let v1310 : BitVec 32 := Scalar.subi c1_i32_448 v1
  let c0_i32_473 : BitVec 32 := 0#32
  let c0_i32_474 : BitVec 32 := 0#32
  ![v1310.toNat, 0, 0]
def k0_off56 (i : grid0.Coords) : Fin 3 → Nat :=
  let arg0 : BitVec 32 := BitVec.ofNat 32 (i 0).val
  let c1_i32_447 : BitVec 32 := 1#32
  let v1309 : BitVec 32 := Scalar.subi arg0 c1_i32_447
  let c0_i32_475 : BitVec 32 := 0#32
  let c0_i32_476 : BitVec 32 := 0#32
  ![v1309.toNat, 0, 0]
def k0_off57 (i : grid0.Coords) : Fin 3 → Nat :=
  let c1_i32_448 : BitVec 32 := 1#32
  let arg0 : BitVec 32 := BitVec.ofNat 32 (i 0).val
  let c2_i32 : BitVec 32 := 2#32
  let v1 : BitVec 32 := Scalar.remsi arg0 c2_i32
  let v1310 : BitVec 32 := Scalar.subi c1_i32_448 v1
  let c0_i32_477 : BitVec 32 := 0#32
  let c0_i32_478 : BitVec 32 := 0#32
  ![v1310.toNat, 0, 0]
def k0_off58 (i : grid0.Coords) : Fin 3 → Nat :=
  let c1_i32_448 : BitVec 32 := 1#32
  let arg0 : BitVec 32 := BitVec.ofNat 32 (i 0).val
  let c2_i32 : BitVec 32 := 2#32
  let v1 : BitVec 32 := Scalar.remsi arg0 c2_i32
  let v1310 : BitVec 32 := Scalar.subi c1_i32_448 v1
  let c1_i32_479 : BitVec 32 := 1#32
  let c0_i32_480 : BitVec 32 := 0#32
  ![v1310.toNat, 1, 0]
def k0_off59 (i : grid0.Coords) : Fin 3 → Nat :=
  let c1_i32_448 : BitVec 32 := 1#32
  let arg0 : BitVec 32 := BitVec.ofNat 32 (i 0).val
  let c2_i32 : BitVec 32 := 2#32
  let v1 : BitVec 32 := Scalar.remsi arg0 c2_i32
  let v1310 : BitVec 32 := Scalar.subi c1_i32_448 v1
  let c0_i32_473 : BitVec 32 := 0#32
  let c1_i32_474 : BitVec 32 := 1#32
  ![v1310.toNat, 0, 1]
def k0_off60 (i : grid0.Coords) : Fin 3 → Nat :=
  let arg0 : BitVec 32 := BitVec.ofNat 32 (i 0).val
  let c1_i32_447 : BitVec 32 := 1#32
  let v1309 : BitVec 32 := Scalar.subi arg0 c1_i32_447
  let c256_i32 : BitVec 32 := 256#32
  let c0_i32_475 : BitVec 32 := 0#32
  ![v1309.toNat, 256, 0]
def k0_off61 (i : grid0.Coords) : Fin 3 → Nat :=
  let c1_i32_448 : BitVec 32 := 1#32
  let arg0 : BitVec 32 := BitVec.ofNat 32 (i 0).val
  let c2_i32 : BitVec 32 := 2#32
  let v1 : BitVec 32 := Scalar.remsi arg0 c2_i32
  let v1310 : BitVec 32 := Scalar.subi c1_i32_448 v1
  let c256_i32_476 : BitVec 32 := 256#32
  let c0_i32_477 : BitVec 32 := 0#32
  ![v1310.toNat, 256, 0]
def k0_off62 (i : grid0.Coords) : Fin 3 → Nat :=
  let c1_i32_448 : BitVec 32 := 1#32
  let arg0 : BitVec 32 := BitVec.ofNat 32 (i 0).val
  let c2_i32 : BitVec 32 := 2#32
  let v1 : BitVec 32 := Scalar.remsi arg0 c2_i32
  let v1310 : BitVec 32 := Scalar.subi c1_i32_448 v1
  let c1_i32_478 : BitVec 32 := 1#32
  let c1_i32_479 : BitVec 32 := 1#32
  ![v1310.toNat, 1, 1]
def k0_off63 (i : grid0.Coords) : Fin 3 → Nat :=
  let c1_i32_448 : BitVec 32 := 1#32
  let arg0 : BitVec 32 := BitVec.ofNat 32 (i 0).val
  let c2_i32 : BitVec 32 := 2#32
  let v1 : BitVec 32 := Scalar.remsi arg0 c2_i32
  let v1310 : BitVec 32 := Scalar.subi c1_i32_448 v1
  let c0_i32_473 : BitVec 32 := 0#32
  let c2_i32_474 : BitVec 32 := 2#32
  ![v1310.toNat, 0, 2]
def k0_off64 (i : grid0.Coords) : Fin 3 → Nat :=
  let arg0 : BitVec 32 := BitVec.ofNat 32 (i 0).val
  let c1_i32_447 : BitVec 32 := 1#32
  let v1309 : BitVec 32 := Scalar.subi arg0 c1_i32_447
  let c512_i32 : BitVec 32 := 512#32
  let c0_i32_475 : BitVec 32 := 0#32
  ![v1309.toNat, 512, 0]
def k0_off65 (i : grid0.Coords) : Fin 3 → Nat :=
  let c1_i32_448 : BitVec 32 := 1#32
  let arg0 : BitVec 32 := BitVec.ofNat 32 (i 0).val
  let c2_i32 : BitVec 32 := 2#32
  let v1 : BitVec 32 := Scalar.remsi arg0 c2_i32
  let v1310 : BitVec 32 := Scalar.subi c1_i32_448 v1
  let c512_i32_476 : BitVec 32 := 512#32
  let c0_i32_477 : BitVec 32 := 0#32
  ![v1310.toNat, 512, 0]
def k0_off66 (i : grid0.Coords) : Fin 3 → Nat :=
  let c1_i32_448 : BitVec 32 := 1#32
  let arg0 : BitVec 32 := BitVec.ofNat 32 (i 0).val
  let c2_i32 : BitVec 32 := 2#32
  let v1 : BitVec 32 := Scalar.remsi arg0 c2_i32
  let v1310 : BitVec 32 := Scalar.subi c1_i32_448 v1
  let c1_i32_478 : BitVec 32 := 1#32
  let c2_i32_479 : BitVec 32 := 2#32
  ![v1310.toNat, 1, 2]
def k0_off67 (i : grid0.Coords) : Fin 3 → Nat :=
  let c1_i32_448 : BitVec 32 := 1#32
  let arg0 : BitVec 32 := BitVec.ofNat 32 (i 0).val
  let c2_i32 : BitVec 32 := 2#32
  let v1 : BitVec 32 := Scalar.remsi arg0 c2_i32
  let v1310 : BitVec 32 := Scalar.subi c1_i32_448 v1
  let c0_i32_473 : BitVec 32 := 0#32
  let c3_i32_474 : BitVec 32 := 3#32
  ![v1310.toNat, 0, 3]
def k0_off68 (i : grid0.Coords) : Fin 3 → Nat :=
  let arg0 : BitVec 32 := BitVec.ofNat 32 (i 0).val
  let c1_i32_447 : BitVec 32 := 1#32
  let v1309 : BitVec 32 := Scalar.subi arg0 c1_i32_447
  let c768_i32 : BitVec 32 := 768#32
  let c0_i32_475 : BitVec 32 := 0#32
  ![v1309.toNat, 768, 0]
def k0_off69 (i : grid0.Coords) : Fin 3 → Nat :=
  let c1_i32_448 : BitVec 32 := 1#32
  let arg0 : BitVec 32 := BitVec.ofNat 32 (i 0).val
  let c2_i32 : BitVec 32 := 2#32
  let v1 : BitVec 32 := Scalar.remsi arg0 c2_i32
  let v1310 : BitVec 32 := Scalar.subi c1_i32_448 v1
  let c768_i32_476 : BitVec 32 := 768#32
  let c0_i32_477 : BitVec 32 := 0#32
  ![v1310.toNat, 768, 0]
def k0_off70 (i : grid0.Coords) : Fin 3 → Nat :=
  let c1_i32_448 : BitVec 32 := 1#32
  let arg0 : BitVec 32 := BitVec.ofNat 32 (i 0).val
  let c2_i32 : BitVec 32 := 2#32
  let v1 : BitVec 32 := Scalar.remsi arg0 c2_i32
  let v1310 : BitVec 32 := Scalar.subi c1_i32_448 v1
  let c1_i32_478 : BitVec 32 := 1#32
  let c3_i32_479 : BitVec 32 := 3#32
  ![v1310.toNat, 1, 3]
def k0_off71 (i : grid0.Coords) : Fin 3 → Nat :=
  let c1_i32_448 : BitVec 32 := 1#32
  let arg0 : BitVec 32 := BitVec.ofNat 32 (i 0).val
  let c2_i32 : BitVec 32 := 2#32
  let v1 : BitVec 32 := Scalar.remsi arg0 c2_i32
  let v1310 : BitVec 32 := Scalar.subi c1_i32_448 v1
  let c0_i32_473 : BitVec 32 := 0#32
  let c4_i32_474 : BitVec 32 := 4#32
  ![v1310.toNat, 0, 4]
def k0_off72 (i : grid0.Coords) : Fin 3 → Nat :=
  let arg0 : BitVec 32 := BitVec.ofNat 32 (i 0).val
  let c1_i32_447 : BitVec 32 := 1#32
  let v1309 : BitVec 32 := Scalar.subi arg0 c1_i32_447
  let c1024_i32 : BitVec 32 := 1024#32
  let c0_i32_475 : BitVec 32 := 0#32
  ![v1309.toNat, 1024, 0]
def k0_off73 (i : grid0.Coords) : Fin 3 → Nat :=
  let c1_i32_448 : BitVec 32 := 1#32
  let arg0 : BitVec 32 := BitVec.ofNat 32 (i 0).val
  let c2_i32 : BitVec 32 := 2#32
  let v1 : BitVec 32 := Scalar.remsi arg0 c2_i32
  let v1310 : BitVec 32 := Scalar.subi c1_i32_448 v1
  let c1024_i32_476 : BitVec 32 := 1024#32
  let c0_i32_477 : BitVec 32 := 0#32
  ![v1310.toNat, 1024, 0]
def k0_off74 (i : grid0.Coords) : Fin 3 → Nat :=
  let c1_i32_448 : BitVec 32 := 1#32
  let arg0 : BitVec 32 := BitVec.ofNat 32 (i 0).val
  let c2_i32 : BitVec 32 := 2#32
  let v1 : BitVec 32 := Scalar.remsi arg0 c2_i32
  let v1310 : BitVec 32 := Scalar.subi c1_i32_448 v1
  let c1_i32_478 : BitVec 32 := 1#32
  let c4_i32_479 : BitVec 32 := 4#32
  ![v1310.toNat, 1, 4]
def k0_off75 (i : grid0.Coords) : Fin 3 → Nat :=
  let c1_i32_448 : BitVec 32 := 1#32
  let arg0 : BitVec 32 := BitVec.ofNat 32 (i 0).val
  let c2_i32 : BitVec 32 := 2#32
  let v1 : BitVec 32 := Scalar.remsi arg0 c2_i32
  let v1310 : BitVec 32 := Scalar.subi c1_i32_448 v1
  let c0_i32_473 : BitVec 32 := 0#32
  let c5_i32_474 : BitVec 32 := 5#32
  ![v1310.toNat, 0, 5]
def k0_off76 (i : grid0.Coords) : Fin 3 → Nat :=
  let arg0 : BitVec 32 := BitVec.ofNat 32 (i 0).val
  let c1_i32_447 : BitVec 32 := 1#32
  let v1309 : BitVec 32 := Scalar.subi arg0 c1_i32_447
  let c1280_i32 : BitVec 32 := 1280#32
  let c0_i32_475 : BitVec 32 := 0#32
  ![v1309.toNat, 1280, 0]
def k0_off77 (i : grid0.Coords) : Fin 3 → Nat :=
  let c1_i32_448 : BitVec 32 := 1#32
  let arg0 : BitVec 32 := BitVec.ofNat 32 (i 0).val
  let c2_i32 : BitVec 32 := 2#32
  let v1 : BitVec 32 := Scalar.remsi arg0 c2_i32
  let v1310 : BitVec 32 := Scalar.subi c1_i32_448 v1
  let c1280_i32_476 : BitVec 32 := 1280#32
  let c0_i32_477 : BitVec 32 := 0#32
  ![v1310.toNat, 1280, 0]
def k0_off78 (i : grid0.Coords) : Fin 3 → Nat :=
  let c1_i32_448 : BitVec 32 := 1#32
  let arg0 : BitVec 32 := BitVec.ofNat 32 (i 0).val
  let c2_i32 : BitVec 32 := 2#32
  let v1 : BitVec 32 := Scalar.remsi arg0 c2_i32
  let v1310 : BitVec 32 := Scalar.subi c1_i32_448 v1
  let c1_i32_478 : BitVec 32 := 1#32
  let c5_i32_479 : BitVec 32 := 5#32
  ![v1310.toNat, 1, 5]
def k0_off79 (i : grid0.Coords) : Fin 3 → Nat :=
  let arg0 : BitVec 32 := BitVec.ofNat 32 (i 0).val
  let c2_i32 : BitVec 32 := 2#32
  let v1 : BitVec 32 := Scalar.remsi arg0 c2_i32
  let c0_i32_473 : BitVec 32 := 0#32
  let c0_i32_474 : BitVec 32 := 0#32
  ![v1.toNat, 0, 0]
def k0_off80 (i : grid0.Coords) : Fin 3 → Nat :=
  let arg0 : BitVec 32 := BitVec.ofNat 32 (i 0).val
  let c0_i32_475 : BitVec 32 := 0#32
  let c0_i32_476 : BitVec 32 := 0#32
  ![arg0.toNat, 0, 0]
def k0_off81 (i : grid0.Coords) : Fin 3 → Nat :=
  let arg0 : BitVec 32 := BitVec.ofNat 32 (i 0).val
  let c2_i32 : BitVec 32 := 2#32
  let v1 : BitVec 32 := Scalar.remsi arg0 c2_i32
  let c0_i32_477 : BitVec 32 := 0#32
  let c0_i32_478 : BitVec 32 := 0#32
  ![v1.toNat, 0, 0]
def k0_off82 (i : grid0.Coords) : Fin 3 → Nat :=
  let arg0 : BitVec 32 := BitVec.ofNat 32 (i 0).val
  let c2_i32 : BitVec 32 := 2#32
  let v1 : BitVec 32 := Scalar.remsi arg0 c2_i32
  let c1_i32_479 : BitVec 32 := 1#32
  let c0_i32_480 : BitVec 32 := 0#32
  ![v1.toNat, 1, 0]
def k0_off83 (i : grid0.Coords) : Fin 3 → Nat :=
  let arg0 : BitVec 32 := BitVec.ofNat 32 (i 0).val
  let c2_i32 : BitVec 32 := 2#32
  let v1 : BitVec 32 := Scalar.remsi arg0 c2_i32
  let c0_i32_473 : BitVec 32 := 0#32
  let c1_i32_474 : BitVec 32 := 1#32
  ![v1.toNat, 0, 1]
def k0_off84 (i : grid0.Coords) : Fin 3 → Nat :=
  let arg0 : BitVec 32 := BitVec.ofNat 32 (i 0).val
  let c256_i32 : BitVec 32 := 256#32
  let c0_i32_475 : BitVec 32 := 0#32
  ![arg0.toNat, 256, 0]
def k0_off85 (i : grid0.Coords) : Fin 3 → Nat :=
  let arg0 : BitVec 32 := BitVec.ofNat 32 (i 0).val
  let c2_i32 : BitVec 32 := 2#32
  let v1 : BitVec 32 := Scalar.remsi arg0 c2_i32
  let c256_i32_476 : BitVec 32 := 256#32
  let c0_i32_477 : BitVec 32 := 0#32
  ![v1.toNat, 256, 0]
def k0_off86 (i : grid0.Coords) : Fin 3 → Nat :=
  let arg0 : BitVec 32 := BitVec.ofNat 32 (i 0).val
  let c2_i32 : BitVec 32 := 2#32
  let v1 : BitVec 32 := Scalar.remsi arg0 c2_i32
  let c1_i32_478 : BitVec 32 := 1#32
  let c1_i32_479 : BitVec 32 := 1#32
  ![v1.toNat, 1, 1]
def k0_off87 (i : grid0.Coords) : Fin 3 → Nat :=
  let arg0 : BitVec 32 := BitVec.ofNat 32 (i 0).val
  let c2_i32 : BitVec 32 := 2#32
  let v1 : BitVec 32 := Scalar.remsi arg0 c2_i32
  let c0_i32_473 : BitVec 32 := 0#32
  let c2_i32_474 : BitVec 32 := 2#32
  ![v1.toNat, 0, 2]
def k0_off88 (i : grid0.Coords) : Fin 3 → Nat :=
  let arg0 : BitVec 32 := BitVec.ofNat 32 (i 0).val
  let c512_i32 : BitVec 32 := 512#32
  let c0_i32_475 : BitVec 32 := 0#32
  ![arg0.toNat, 512, 0]
def k0_off89 (i : grid0.Coords) : Fin 3 → Nat :=
  let arg0 : BitVec 32 := BitVec.ofNat 32 (i 0).val
  let c2_i32 : BitVec 32 := 2#32
  let v1 : BitVec 32 := Scalar.remsi arg0 c2_i32
  let c512_i32_476 : BitVec 32 := 512#32
  let c0_i32_477 : BitVec 32 := 0#32
  ![v1.toNat, 512, 0]
def k0_off90 (i : grid0.Coords) : Fin 3 → Nat :=
  let arg0 : BitVec 32 := BitVec.ofNat 32 (i 0).val
  let c2_i32 : BitVec 32 := 2#32
  let v1 : BitVec 32 := Scalar.remsi arg0 c2_i32
  let c1_i32_478 : BitVec 32 := 1#32
  let c2_i32_479 : BitVec 32 := 2#32
  ![v1.toNat, 1, 2]
def k0_off91 (i : grid0.Coords) : Fin 3 → Nat :=
  let arg0 : BitVec 32 := BitVec.ofNat 32 (i 0).val
  let c2_i32 : BitVec 32 := 2#32
  let v1 : BitVec 32 := Scalar.remsi arg0 c2_i32
  let c0_i32_473 : BitVec 32 := 0#32
  let c3_i32_474 : BitVec 32 := 3#32
  ![v1.toNat, 0, 3]
def k0_off92 (i : grid0.Coords) : Fin 3 → Nat :=
  let arg0 : BitVec 32 := BitVec.ofNat 32 (i 0).val
  let c768_i32 : BitVec 32 := 768#32
  let c0_i32_475 : BitVec 32 := 0#32
  ![arg0.toNat, 768, 0]
def k0_off93 (i : grid0.Coords) : Fin 3 → Nat :=
  let arg0 : BitVec 32 := BitVec.ofNat 32 (i 0).val
  let c2_i32 : BitVec 32 := 2#32
  let v1 : BitVec 32 := Scalar.remsi arg0 c2_i32
  let c768_i32_476 : BitVec 32 := 768#32
  let c0_i32_477 : BitVec 32 := 0#32
  ![v1.toNat, 768, 0]
def k0_off94 (i : grid0.Coords) : Fin 3 → Nat :=
  let arg0 : BitVec 32 := BitVec.ofNat 32 (i 0).val
  let c2_i32 : BitVec 32 := 2#32
  let v1 : BitVec 32 := Scalar.remsi arg0 c2_i32
  let c1_i32_478 : BitVec 32 := 1#32
  let c3_i32_479 : BitVec 32 := 3#32
  ![v1.toNat, 1, 3]
def k0_off95 (i : grid0.Coords) : Fin 3 → Nat :=
  let arg0 : BitVec 32 := BitVec.ofNat 32 (i 0).val
  let c2_i32 : BitVec 32 := 2#32
  let v1 : BitVec 32 := Scalar.remsi arg0 c2_i32
  let c0_i32_473 : BitVec 32 := 0#32
  let c4_i32_474 : BitVec 32 := 4#32
  ![v1.toNat, 0, 4]
def k0_off96 (i : grid0.Coords) : Fin 3 → Nat :=
  let arg0 : BitVec 32 := BitVec.ofNat 32 (i 0).val
  let c1024_i32 : BitVec 32 := 1024#32
  let c0_i32_475 : BitVec 32 := 0#32
  ![arg0.toNat, 1024, 0]
def k0_off97 (i : grid0.Coords) : Fin 3 → Nat :=
  let arg0 : BitVec 32 := BitVec.ofNat 32 (i 0).val
  let c2_i32 : BitVec 32 := 2#32
  let v1 : BitVec 32 := Scalar.remsi arg0 c2_i32
  let c1024_i32_476 : BitVec 32 := 1024#32
  let c0_i32_477 : BitVec 32 := 0#32
  ![v1.toNat, 1024, 0]
def k0_off98 (i : grid0.Coords) : Fin 3 → Nat :=
  let arg0 : BitVec 32 := BitVec.ofNat 32 (i 0).val
  let c2_i32 : BitVec 32 := 2#32
  let v1 : BitVec 32 := Scalar.remsi arg0 c2_i32
  let c1_i32_478 : BitVec 32 := 1#32
  let c4_i32_479 : BitVec 32 := 4#32
  ![v1.toNat, 1, 4]
def k0_off99 (i : grid0.Coords) : Fin 3 → Nat :=
  let arg0 : BitVec 32 := BitVec.ofNat 32 (i 0).val
  let c2_i32 : BitVec 32 := 2#32
  let v1 : BitVec 32 := Scalar.remsi arg0 c2_i32
  let c0_i32_473 : BitVec 32 := 0#32
  let c5_i32_474 : BitVec 32 := 5#32
  ![v1.toNat, 0, 5]
def k0_off100 (i : grid0.Coords) : Fin 3 → Nat :=
  let arg0 : BitVec 32 := BitVec.ofNat 32 (i 0).val
  let c1280_i32 : BitVec 32 := 1280#32
  let c0_i32_475 : BitVec 32 := 0#32
  ![arg0.toNat, 1280, 0]
def k0_off101 (i : grid0.Coords) : Fin 3 → Nat :=
  let arg0 : BitVec 32 := BitVec.ofNat 32 (i 0).val
  let c2_i32 : BitVec 32 := 2#32
  let v1 : BitVec 32 := Scalar.remsi arg0 c2_i32
  let c1280_i32_476 : BitVec 32 := 1280#32
  let c0_i32_477 : BitVec 32 := 0#32
  ![v1.toNat, 1280, 0]
def k0_off102 (i : grid0.Coords) : Fin 3 → Nat :=
  let arg0 : BitVec 32 := BitVec.ofNat 32 (i 0).val
  let c2_i32 : BitVec 32 := 2#32
  let v1 : BitVec 32 := Scalar.remsi arg0 c2_i32
  let c1_i32_478 : BitVec 32 := 1#32
  let c5_i32_479 : BitVec 32 := 5#32
  ![v1.toNat, 1, 5]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1536x768 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S24x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1536x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1536x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S1 : Shape := ⟨1, ![1]⟩
abbrev S1536x3072 : Shape := ⟨2, ![1536, 3072]⟩
abbrev S1536x2048 : Shape := ⟨2, ![1536, 2048]⟩
abbrev S1536x128 : Shape := ⟨2, ![1536, 128]⟩
abbrev S1536x128256 : Shape := ⟨2, ![1536, 128256]⟩
abbrev S24x128256 : Shape := ⟨2, ![24, 128256]⟩
abbrev S128256x2048 : Shape := ⟨2, ![128256, 2048]⟩
abbrev S167x1x768 : Shape := ⟨3, ![167, 1, 768]⟩
abbrev S24x64x128256 : Shape := ⟨3, ![24, 64, 128256]⟩
abbrev S1536x12x2x128 : Shape := ⟨4, ![1536, 12, 2, 128]⟩
abbrev S1536x12x1x128 : Shape := ⟨4, ![1536, 12, 1, 128]⟩
abbrev S1536x12x128 : Shape := ⟨3, ![1536, 12, 128]⟩
abbrev S1536x1536 : Shape := ⟨2, ![1536, 1536]⟩
abbrev S1x1536x1x128 : Shape := ⟨4, ![1, 1536, 1, 128]⟩
abbrev S1x1536x1002x128 : Shape := ⟨4, ![1, 1536, 1002, 128]⟩
abbrev S1x128256 : Shape := ⟨2, ![1, 128256]⟩
abbrev S167x1536x768 : Shape := ⟨3, ![167, 1536, 768]⟩
abbrev S1536x1 : Shape := ⟨2, ![1536, 1]⟩
abbrev S1536x167x768 : Shape := ⟨3, ![1536, 167, 768]⟩
abbrev S1536 : Shape := ⟨1, ![1536]⟩

abbrev nBuf : Space → Nat
  | .hbm => 30
  | .vmem => 13
  | .smem => 0
  | _ => 0

abbrev bufTy : (tb : Table) → Fin (tcTables nBuf tb) → BufTy
  | .hbm, ⟨0, _⟩ => ⟨S1, .i32⟩
  | .hbm, ⟨1, _⟩ => ⟨S1536x3072, .bf16⟩
  | .hbm, ⟨2, _⟩ => ⟨S1536x2048, .fp8e4m3⟩
  | .hbm, ⟨3, _⟩ => ⟨S1536x128, .f32⟩
  | .hbm, ⟨4, _⟩ => ⟨S1536x128256, .i8⟩
  | .hbm, ⟨5, _⟩ => ⟨S24x128256, .f32⟩
  | .hbm, ⟨6, _⟩ => ⟨S24x128256, .f32⟩
  | .hbm, ⟨7, _⟩ => ⟨S128256x2048, .fp8e4m3⟩
  | .hbm, ⟨8, _⟩ => ⟨S167x1x768, .f32⟩
  | .hbm, ⟨9, _⟩ => ⟨S24x128256, .bf16⟩
  | .hbm, ⟨10, _⟩ => ⟨S24x64x128256, .bf16⟩
  | .hbm, ⟨11, _⟩ => ⟨S1536x128256, .bf16⟩
  | .hbm, ⟨12, _⟩ => ⟨S24x128256, .bf16⟩
  | .hbm, ⟨13, _⟩ => ⟨S24x64x128256, .bf16⟩
  | .hbm, ⟨14, _⟩ => ⟨S1536x128256, .bf16⟩
  | .hbm, ⟨15, _⟩ => ⟨S1536x12x2x128, .bf16⟩
  | .hbm, ⟨16, _⟩ => ⟨S1536x12x1x128, .bf16⟩
  | .hbm, ⟨17, _⟩ => ⟨S1536x12x128, .bf16⟩
  | .hbm, ⟨18, _⟩ => ⟨S1536x1536, .bf16⟩
  | .hbm, ⟨19, _⟩ => ⟨S1536x12x1x128, .bf16⟩
  | .hbm, ⟨20, _⟩ => ⟨S1536x12x128, .bf16⟩
  | .hbm, ⟨21, _⟩ => ⟨S1536x1536, .bf16⟩
  | .hbm, ⟨22, _⟩ => ⟨S1x1536x1x128, .f32⟩
  | .hbm, ⟨23, _⟩ => ⟨S1x1536x1002x128, .f32⟩
  | .hbm, ⟨24, _⟩ => ⟨S1536x128256, .f32⟩
  | .hbm, ⟨25, _⟩ => ⟨S1x128256, .f32⟩
  | .hbm, ⟨26, _⟩ => ⟨S167x1536x768, .f32⟩
  | .hbm, ⟨27, _⟩ => ⟨S167x1536x768, .f32⟩
  | .hbm, ⟨28, _⟩ => ⟨S1536x128, .f32⟩
  | .hbm, ⟨29, _⟩ => ⟨S1536x128, .f32⟩
  | .local _ .vmem, ⟨0, _⟩ => ⟨S1536x1536, .bf16⟩
  | .local _ .vmem, ⟨1, _⟩ => ⟨S1536x1536, .bf16⟩
  | .local _ .vmem, ⟨2, _⟩ => ⟨S1536x2048, .fp8e4m3⟩
  | .local _ .vmem, ⟨3, _⟩ => ⟨S1536x128256, .f32⟩
  | .local _ .vmem, ⟨4, _⟩ => ⟨S1536x128256, .i8⟩
  | .local _ .vmem, ⟨5, _⟩ => ⟨S1536x128256, .bf16⟩
  | .local _ .vmem, ⟨6, _⟩ => ⟨S1536x128256, .bf16⟩
  | .local _ .vmem, ⟨7, _⟩ => ⟨S128256x2048, .fp8e4m3⟩
  | .local _ .vmem, ⟨8, _⟩ => ⟨S1x128256, .f32⟩
  | .local _ .vmem, ⟨9, _⟩ => ⟨S167x1536x768, .f32⟩
  | .local _ .vmem, ⟨10, _⟩ => ⟨S167x1536x768, .f32⟩
  | .local _ .vmem, ⟨11, _⟩ => ⟨S1536x128, .f32⟩
  | .local _ .vmem, ⟨12, _⟩ => ⟨S1536x128, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S1536x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x128256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x128256 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x128256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x128256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128256x2048 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S167x1536x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S167x1536x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1536x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1536x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Body.lean ====
/-
  The body of `fwd` as a program of few parametrised pieces: the initialisation of the running statistics, the waits and the
  starts of the copies of one row block, the dequantisation of one group, and the work on one row block. The printed body is
  this program by definitional unfolding, up to the bracketing around its conditionals.
-/
module

public import proofs.«01_k».proof.Kernel
public import proofs.«01_k».proof.Proof.Gen.Kernel.Launch
public import proofs.«01_k».proof.Proof.Gen.Kernel.Skeleton

@[expose] public section

set_option maxRecDepth 65536

noncomputable section

namespace Cert.Proof.Fwd

open Cert.Kernel Cert.Kernel.Gen
open Idealize.ShloMosaic
open Idealize.SL Idealize.SL.Sem

variable {F : FTy → Type} [FloatOps F]

abbrev PG (α : Type) := Prog (TpuEff nD τ sig (Elt F) Λ₀ .tc) α

/-- The condition "row block `rb` is live" as the kernel computes it from the table's word. -/
abbrev liveC (v0 : BitVec 32) (rb : Fin 6) : Prop :=
  Scalar.cmpi .ne (Scalar.extui (Scalar.cmpi .sgt v0 (BitVec.ofNat 32 rb.val) : BitVec 1) : BitVec 32) 0#32 = 1#1
/-- "The first grid point", as the kernel computes it. -/
abbrev firstC (i : grid0.Coords) : Prop :=
  Scalar.cmpi .ne (Scalar.extui (Scalar.cmpi .eq (BitVec.ofNat 32 (i 0).val) 0#32 : BitVec 1) : BitVec 32) 0#32 = 1#1

/-! ## Offsets -/

/-- The first row of `wt` that group `g`'s low codes fill; its high codes fill 64 rows from 128 rows further. -/
abbrev loRow (g : Fin 24) : ℕ := 256 * (g.val / 2) + 64 * (g.val % 2)
theorem inbLo (g : Fin 24) : ∀ a, (![loRow g, 0] : Fin 2 → ℕ) a + S64x768.size a ≤ S3072x768.size a := by
  revert g; decide
theorem inbHi (g : Fin 24) : ∀ a, (![loRow g + 128, 0] : Fin 2 → ℕ) a + S64x768.size a ≤ S3072x768.size a := by
  revert g; decide
theorem pkLo (g : Fin 24) : (Rect.unit (s := S3072x768) ![loRow g, 0] S64x768.size (inbLo g)).PackedRows (EltTy.packing .bf16) := by
  revert g; decide
theorem pkHi (g : Fin 24) : (Rect.unit (s := S3072x768) ![loRow g + 128, 0] S64x768.size (inbHi g)).PackedRows (EltTy.packing .bf16) := by
  revert g; decide
theorem inbRow (g : Fin 24) : ∀ a, (![g.val, 0] : Fin 2 → ℕ) a + S1x768.size a ≤ S24x768.size a := by revert g; decide
theorem inbPk (g : Fin 24) : ∀ a, (![64 * g.val, 0] : Fin 2 → ℕ) a + S64x768.size a ≤ S1536x768.size a := by revert g; decide
theorem inbHt (rb : Fin 6) : ∀ a, (![256 * rb.val, 0] : Fin 2 → ℕ) a + S256x3072.size a ≤ S1536x3072.size a := by revert rb; decide
theorem inbPc (rb : Fin 6) : ∀ a, (![256 * rb.val, 0] : Fin 2 → ℕ) a + S256x2048.size a ≤ S1536x2048.size a := by revert rb; decide
theorem inbSt (rb : Fin 6) : ∀ a, (![256 * rb.val, 0] : Fin 2 → ℕ) a + S256x128.size a ≤ S1536x128.size a := by revert rb; decide
theorem inbSem (s : ℕ) (hs : s < 2) (a : Fin 2) (rb : Fin 6) : ∀ x, (![s, a.val, rb.val] : Fin 3 → ℕ) x + S1x1x1.size x ≤ S2x2x6.size x := by
  have ha := a.isLt; have hr := rb.isLt
  intro x; fin_cases x
  · show s + 1 ≤ 2; omega
  · show a.val + 1 ≤ 2; omega
  · show rb.val + 1 ≤ 6; omega
theorem inbBuf (s : ℕ) (hs : s < 2) (rb : Fin 6) : ∀ x, (![s, 256 * rb.val, 0] : Fin 3 → ℕ) x + S1x256x768.size x ≤ S2x1536x768.size x := by
  have hr := rb.isLt
  intro x; fin_cases x
  · show s + 1 ≤ 2; omega
  · show 256 * rb.val + 256 ≤ 1536; omega
  · show 0 + 768 ≤ 768; omega
theorem inbOut (v : ℕ) (hv : v < 167) (rb : Fin 6) : ∀ x, (![v, 256 * rb.val, 0] : Fin 3 → ℕ) x + S1x256x768.size x ≤ S167x1536x768.size x := by
  have hr := rb.isLt
  intro x; fin_cases x
  · show v + 1 ≤ 167; omega
  · show 256 * rb.val + 256 ≤ 1536; omega
  · show 0 + 768 ≤ 768; omega

/-- The slot of a grid point's buffers, its other slot, and the tile two points back, as words. -/
abbrev slW (i : grid0.Coords) : BitVec 32 := Scalar.remsi (BitVec.ofNat 32 (i 0).val) 2#32
abbrev slW' (i : grid0.Coords) : BitVec 32 := Scalar.subi 1#32 (slW i)
theorem slW_eq (i : grid0.Coords) : (slW i).toNat = (i 0).val % 2 := by
  have h : ∀ n : Fin 167, (Scalar.remsi (BitVec.ofNat 32 n.val) 2#32 : BitVec 32).toNat = n.val % 2 := by decide
  exact h ⟨(i 0).val, (i 0).isLt⟩
theorem slW'_eq (i : grid0.Coords) : (slW' i).toNat = 1 - (i 0).val % 2 := by
  have h : ∀ n : Fin 167, (Scalar.subi 1#32 (Scalar.remsi (BitVec.ofNat 32 n.val) 2#32 : BitVec 32) : BitVec 32).toNat = 1 - n.val % 2 := by decide
  exact h ⟨(i 0).val, (i 0).isLt⟩
theorem cond2_iff (i : grid0.Coords) : k0_cond2 i = 1#1 ↔ 2 ≤ (i 0).val := by
  have h : ∀ n : Fin 167, (Scalar.cmpi .ne (Scalar.extui (Scalar.cmpi .sge (BitVec.ofNat 32 n.val) 2#32 : BitVec 1) : BitVec 32) 0#32 = 1#1) ↔ 2 ≤ n.val := by decide
  exact h ⟨(i 0).val, (i 0).isLt⟩
theorem cond15_iff (i : grid0.Coords) : k0_cond15 i = 1#1 ↔ (i 0).val = 166 := by
  have h : ∀ n : Fin 167, (Scalar.cmpi .ne (Scalar.extui (Scalar.cmpi .eq (BitVec.ofNat 32 n.val) 166#32 : BitVec 1) : BitVec 32) 0#32 = 1#1) ↔ n.val = 166 := by decide
  exact h ⟨(i 0).val, (i 0).isLt⟩
theorem firstC_iff (i : grid0.Coords) : firstC i ↔ (i 0).val = 0 := by
  have h : ∀ n : Fin 167, (Scalar.cmpi .ne (Scalar.extui (Scalar.cmpi .eq (BitVec.ofNat 32 n.val) 0#32 : BitVec 1) : BitVec 32) 0#32 = 1#1) ↔ n.val = 0 := by decide
  exact h ⟨(i 0).val, (i 0).isLt⟩
theorem prevW_eq (i : grid0.Coords) (k : ℕ) (hk : k = 1 ∨ k = 2) (h : k ≤ (i 0).val) :
    (Scalar.subi (BitVec.ofNat 32 (i 0).val) (BitVec.ofNat 32 k) : BitVec 32).toNat = (i 0).val - k := by
  have h1 : ∀ n : Fin 167, 1 ≤ n.val → (Scalar.subi (BitVec.ofNat 32 n.val) 1#32 : BitVec 32).toNat = n.val - 1 := by decide
  have h2 : ∀ n : Fin 167, 2 ≤ n.val → (Scalar.subi (BitVec.ofNat 32 n.val) 2#32 : BitVec 32).toNat = n.val - 2 := by decide
  rcases hk with rfl | rfl
  · exact h1 ⟨(i 0).val, (i 0).isLt⟩ h
  · exact h2 ⟨(i 0).val, (i 0).isLt⟩ h
theorem ptW_eq (i : grid0.Coords) : (BitVec.ofNat 32 (i 0).val : BitVec 32).toNat = (i 0).val := by
  have h : ∀ n : Fin 167, (BitVec.ofNat 32 n.val : BitVec 32).toNat = n.val := by decide
  exact h ⟨(i 0).val, (i 0).isLt⟩

/-! ## The pieces of the buffers, the tiles and the semaphores -/

/-- Row block `rb` of slot `s` of a double buffer. -/
abbrev bufP (m : Memref sig .tc .vmem S2x1536x768 .f32) (s : ℕ) (hs : s < 2) (rb : Fin 6) : Memref sig .tc .vmem S256x768 .f32 :=
  (m.slice (Rect.unit (s := S2x1536x768) ![s, 256 * rb.val, 0] S1x256x768.size (inbBuf s hs rb)) (fun _ => rfl)).squeeze S256x768 squeezes_S1x256x768_S256x768
/-- Row block `rb` of tile `v` of an output in HBM. -/
abbrev outP (m : Memref sig .tc .hbm S167x1536x768 .f32) (v : ℕ) (hv : v < 167) (rb : Fin 6) : Memref sig .tc .hbm S256x768 .f32 :=
  (m.slice (Rect.unit (s := S167x1536x768) ![v, 256 * rb.val, 0] S1x256x768.size (inbOut v hv rb)) (fun _ => rfl)).squeeze S256x768 squeezes_S1x256x768_S256x768
/-- The semaphore of slot `s`'s copy of the teacher's (`a = 0`) or the student's (`a = 1`) row block `rb`. -/
abbrev semP (m : DmaSems sig S2x2x6) (s : ℕ) (hs : s < 2) (a : Fin 2) (rb : Fin 6) : DmaSems sig S_ :=
  (m.slice (Rect.unit (s := S2x2x6) ![s, a.val, rb.val] S1x1x1.size (inbSem s hs a rb))).squeeze S_ squeezes_S1x1x1_S_

section Prog

variable (arg1 : Memref sig .tc .smem S1 .i32) (arg2 : Memref sig .tc .vmem S1536x3072 .bf16) (arg3 : Memref sig .tc .vmem S1536x2048 .fp8e4m3)
  (arg4 : Memref sig .tc .vmem S1536x128 .f32) (arg5 : Memref sig .tc .vmem S1536x768 .i8) (arg6 arg7 : Memref sig .tc .vmem S24x768 .f32)
  (arg8 : Memref sig .tc .vmem S768x2048 .fp8e4m3) (arg9 : Memref sig .tc .vmem S1x1x768 .f32)
  (arg10 arg11 : Memref sig .tc .hbm S167x1536x768 .f32) (arg12 arg13 : Memref sig .tc .vmem S1536x128 .f32)
  (arg14 : Memref sig .tc .vmem S3072x768 .bf16) (harg14 : arg14.IsWhole) (arg15 arg16 : Memref sig .tc .vmem S2x1536x768 .f32)
  (arg17 arg18 arg19 arg20 : Memref sig .tc .vmem S1536x128 .f32) (arg21 : DmaSems sig S2x2x6)

/-- One whole statistics buffer set to a value. -/
def initOne (m : Memref sig .tc .vmem S1536x128 .f32) (x : FVec F S1536x128 .f32) : PG (F := F) PUnit := do
  let _ : Vec F S1536x128 .f32 ← Prog.lift (.load m (Rect.unit (s := S1536x128) ![0, 0] S1536x128.size inb_S1536x128_S1536x128_0_0).toLoadRect (View.loadsAt_vmem h_S1536x128))
  Prog.lift (.store m (Rect.unit (s := S1536x128) ![0, 0] S1536x128.size inb_S1536x128_S1536x128_0_0) x Finset.univ (View.stores_vmem_bits_univ h_S1536x128 rfl) (.inl rfl))

/-- The running statistics set to their start. -/
def initAll : PG (F := F) PUnit := do
  initOne arg17 (k0_pay3 (F := F))
  initOne arg19 (k0_pay4 (F := F))
  initOne arg18 (k0_pay5 (F := F))
  initOne arg20 (k0_pay6 (F := F))

/-- The wait for one copy. -/
def waitOne (m : Memref sig .tc .vmem S2x1536x768 .f32) (o : Memref sig .tc .hbm S167x1536x768 .f32) (a : Fin 2) (s : ℕ) (hs : s < 2) (v : ℕ) (hv : v < 167)
    (rb : Fin 6) : PG (F := F) PUnit :=
  Prog.lift (.waitDma2 (semP arg21 s hs a rb).sem (bufP m s hs rb) (outP o v hv rb) ((View.wordExact_bits rfl).reshape _ _) ((View.wordExact_bits rfl).reshape _ _))
/-- The start of one copy. -/
def startOne (m : Memref sig .tc .vmem S2x1536x768 .f32) (o : Memref sig .tc .hbm S167x1536x768 .f32) (a : Fin 2) (s : ℕ) (hs : s < 2) (v : ℕ) (hv : v < 167)
    (rb : Fin 6) : PG (F := F) PUnit :=
  Prog.lift (.enqueueDma (bufP m s hs rb) (.here (outP o v hv rb)) (.dma (semP arg21 s hs a rb).sem) ((View.wordExact_bits rfl).reshape _ _) ((View.wordExact_bits rfl).reshape _ _) ⟨Or.inl rfl, trivial⟩)

/-- The waits for the two copies of a live row block, then `k`. -/
def waitC {α : Type} (v0 : BitVec 32) (s : ℕ) (hs : s < 2) (v : ℕ) (hv : v < 167) (rb : Fin 6) (k : PG (F := F) α) : PG (F := F) α :=
  if liveC v0 rb then do
    waitOne arg21 arg15 arg10 0 s hs v hv rb
    waitOne arg21 arg16 arg11 1 s hs v hv rb
    k
  else k
/-- The starts of the two copies of a live row block, then `k`. -/
def startC {α : Type} (v0 : BitVec 32) (s : ℕ) (hs : s < 2) (v : ℕ) (hv : v < 167) (rb : Fin 6) (k : PG (F := F) α) : PG (F := F) α :=
  if liveC v0 rb then do
    startOne arg21 arg15 arg10 0 s hs v hv rb
    startOne arg21 arg16 arg11 1 s hs v hv rb
    k
  else k

/-- The zeros of a group. -/
def deqZ (g : Fin 24) : PG (F := F) (Vec F S1x768 .f32) :=
  Prog.lift (.load arg7 (Rect.unit (s := S24x768) ![g.val, 0] S1x768.size (inbRow g)).toLoadRect (View.loadsAt_vmem h_S1x768))
/-- One group of `wt`, its zeros read: its low codes' rows and its high codes' rows. -/
def deqRest (g : Fin 24) (z : Vec F S1x768 .f32) : PG (F := F) PUnit := do
  let s : Vec F S1x768 .f32 ← Prog.lift (.load arg6 (Rect.unit (s := S24x768) ![g.val, 0] S1x768.size (inbRow g)).toLoadRect (View.loadsAt_vmem h_S1x768))
  let p : Vec F S64x768 .i8 ← Prog.lift (.load arg5 (Rect.unit (s := S1536x768) ![64 * g.val, 0] S64x768.size (inbPk g)).toLoadRect (View.loadsAt_vmem h_S64x768))
  let _ : Vec F S64x768 .bf16 ← Prog.lift (.load arg14 (Rect.unit (s := S3072x768) ![loRow g, 0] S64x768.size (inbLo g)).toLoadRect (View.loadsAt_vmem h_S64x768))
  Prog.lift (.store arg14 (Rect.unit (s := S3072x768) ![loRow g, 0] S64x768.size (inbLo g)) (k0_pay9 z s p) Finset.univ (View.stores_vmem h_S64x768 (harg14.storeExact_slice rfl _ (pkLo g)) (fun _ => rfl)) (.inl rfl))
  let _ : Vec F S64x768 .bf16 ← Prog.lift (.load arg14 (Rect.unit (s := S3072x768) ![loRow g + 128, 0] S64x768.size (inbHi g)).toLoadRect (View.loadsAt_vmem h_S64x768))
  Prog.lift (.store arg14 (Rect.unit (s := S3072x768) ![loRow g + 128, 0] S64x768.size (inbHi g)) (k0_pay10 z s p) Finset.univ (View.stores_vmem h_S64x768 (harg14.storeExact_slice rfl _ (pkHi g)) (fun _ => rfl)) (.inl rfl))

/-- The groups of a list in turn. -/
def deqs : List (Fin 24) → PG (F := F) PUnit
  | [] => pure ⟨⟩
  | g :: gs => do
    let z ← deqZ arg7 g
    deqRest arg5 arg6 arg14 harg14 g z
    deqs gs

/-- The new running maxima of a row block from its logits `u` and the old ones. -/
def mPay (u : FVec F S256x768 .f32) (m : Vec F S256x128 .f32) : FVec F S256x128 .f32 :=
  k0_pay149 (extractStridedSlice S256x128 ![0, 0] u slices_S256x768_o0_0_S256x128) (extractStridedSlice S256x128 ![0, 128] u slices_S256x768_o0_128_S256x128)
    (extractStridedSlice S256x128 ![0, 256] u slices_S256x768_o0_256_S256x128) (extractStridedSlice S256x128 ![0, 384] u slices_S256x768_o0_384_S256x128)
    (extractStridedSlice S256x128 ![0, 512] u slices_S256x768_o0_512_S256x128) (extractStridedSlice S256x128 ![0, 640] u slices_S256x768_o0_640_S256x128) m
/-- The new running sums of a row block from its logits `u`, the old maxima and the old sums. -/
def lPay (u : FVec F S256x768 .f32) (m l : Vec F S256x128 .f32) : FVec F S256x128 .f32 :=
  k0_pay150 (extractStridedSlice S256x128 ![0, 0] u slices_S256x768_o0_0_S256x128) (extractStridedSlice S256x128 ![0, 128] u slices_S256x768_o0_128_S256x128)
    (extractStridedSlice S256x128 ![0, 256] u slices_S256x768_o0_256_S256x128) (extractStridedSlice S256x128 ![0, 384] u slices_S256x768_o0_384_S256x128)
    (extractStridedSlice S256x128 ![0, 512] u slices_S256x768_o0_512_S256x128) (extractStridedSlice S256x128 ![0, 640] u slices_S256x768_o0_640_S256x128) m l

/-- The statistics of row block `rb` brought up to date with its logits `u`. -/
def online (am al : Memref sig .tc .vmem S1536x128 .f32) (rb : Fin 6) (u : FVec F S256x768 .f32) : PG (F := F) PUnit := do
  let m : Vec F S256x128 .f32 ← Prog.lift (.load am (Rect.unit (s := S1536x128) ![256 * rb.val, 0] S256x128.size (inbSt rb)).toLoadRect (View.loadsAt_vmem h_S256x128))
  let l : Vec F S256x128 .f32 ← Prog.lift (.load al (Rect.unit (s := S1536x128) ![256 * rb.val, 0] S256x128.size (inbSt rb)).toLoadRect (View.loadsAt_vmem h_S256x128))
  let _ : Vec F S256x128 .f32 ← Prog.lift (.load am (Rect.unit (s := S1536x128) ![256 * rb.val, 0] S256x128.size (inbSt rb)).toLoadRect (View.loadsAt_vmem h_S256x128))
  Prog.lift (.store am (Rect.unit (s := S1536x128) ![256 * rb.val, 0] S256x128.size (inbSt rb)) (mPay u m) Finset.univ (View.stores_vmem_bits_univ h_S256x128 rfl) (.inl rfl))
  let _ : Vec F S256x128 .f32 ← Prog.lift (.load al (Rect.unit (s := S1536x128) ![256 * rb.val, 0] S256x128.size (inbSt rb)).toLoadRect (View.loadsAt_vmem h_S256x128))
  Prog.lift (.store al (Rect.unit (s := S1536x128) ![256 * rb.val, 0] S256x128.size (inbSt rb)) (lPay u m l) Finset.univ (View.stores_vmem_bits_univ h_S256x128 rfl) (.inl rfl))

/-- The logits `u` of row block `rb` left in slot `s` of a double buffer. -/
def putBuf (m : Memref sig .tc .vmem S2x1536x768 .f32) (s : ℕ) (hs : s < 2) (rb : Fin 6) (u : FVec F S256x768 .f32) : PG (F := F) PUnit := do
  let _ : Vec F S1x256x768 .f32 ← Prog.lift (.load m (Rect.unit (s := S2x1536x768) ![s, 256 * rb.val, 0] S1x256x768.size (inbBuf s hs rb)).toLoadRect (View.loadsAt_vmem h_S1x256x768))
  Prog.lift (.store m (Rect.unit (s := S2x1536x768) ![s, 256 * rb.val, 0] S1x256x768.size (inbBuf s hs rb)) (shapeCast S1x256x768 u shapeCasts_S256x768_S1x256x768) Finset.univ (View.stores_vmem_bits_univ h_S1x256x768 rfl) (.inl rfl))

/-- One row block: the teacher's logits and statistics, then the student's. -/
def rowBlk (s : ℕ) (hs : s < 2) (w : FVec F S1x768 .f32) (rb : Fin 6) : PG (F := F) PUnit := do
  let h : Vec F S256x3072 .bf16 ← Prog.lift (.load arg2 (Rect.unit (s := S1536x3072) ![256 * rb.val, 0] S256x3072.size (inbHt rb)).toLoadRect (View.loadsAt_vmem h_S256x3072))
  let wt : Vec F S3072x768 .bf16 ← Prog.lift (.load arg14 (Rect.unit (s := S3072x768) ![0, 0] S3072x768.size inb_S3072x768_S3072x768_0_0).toLoadRect (View.loadsAt_vmem h_S3072x768))
  putBuf arg15 s hs rb (k0_pay128 h wt)
  online arg17 arg18 rb (k0_pay128 h wt)
  let pc : Vec F S256x2048 .fp8e4m3 ← Prog.lift (.load arg3 (Rect.unit (s := S1536x2048) ![256 * rb.val, 0] S256x2048.size (inbPc rb)).toLoadRect (View.loadsAt_vmem h_S256x2048))
  let ws : Vec F S768x2048 .fp8e4m3 ← Prog.lift (.load arg8 (Rect.unit (s := S768x2048) ![0, 0] S768x2048.size inb_S768x2048_S768x2048_0_0).toLoadRect (View.loadsAt_vmem h_S768x2048))
  let ps : Vec F S256x128 .f32 ← Prog.lift (.load arg4 (Rect.unit (s := S1536x128) ![256 * rb.val, 0] S256x128.size (inbSt rb)).toLoadRect (View.loadsAt_vmem h_S256x128))
  putBuf arg16 s hs rb (k0_pay140 w pc ws ps)
  online arg19 arg20 rb (k0_pay140 w pc ws ps)

/-- The two results computed from the statistics. -/
def lastAll : PG (F := F) PUnit := do
  let m : Vec F S1536x128 .f32 ← Prog.lift (.load arg17 (Rect.unit (s := S1536x128) ![0, 0] S1536x128.size inb_S1536x128_S1536x128_0_0).toLoadRect (View.loadsAt_vmem h_S1536x128))
  let l : Vec F S1536x128 .f32 ← Prog.lift (.load arg18 (Rect.unit (s := S1536x128) ![0, 0] S1536x128.size inb_S1536x128_S1536x128_0_0).toLoadRect (View.loadsAt_vmem h_S1536x128))
  initOne arg12 (k0_pay1 m l)
  let m' : Vec F S1536x128 .f32 ← Prog.lift (.load arg19 (Rect.unit (s := S1536x128) ![0, 0] S1536x128.size inb_S1536x128_S1536x128_0_0).toLoadRect (View.loadsAt_vmem h_S1536x128))
  let l' : Vec F S1536x128 .f32 ← Prog.lift (.load arg20 (Rect.unit (s := S1536x128) ![0, 0] S1536x128.size inb_S1536x128_S1536x128_0_0).toLoadRect (View.loadsAt_vmem h_S1536x128))
  initOne arg13 (k0_pay2 m' l')

theorem slW_lt (i : grid0.Coords) : (slW i).toNat < 2 := by rw [slW_eq]; omega
theorem slW'_lt (i : grid0.Coords) : (slW' i).toNat < 2 := by rw [slW'_eq]; omega
theorem ptW_lt (i : grid0.Coords) : (BitVec.ofNat 32 (i 0).val : BitVec 32).toNat < 167 := by rw [ptW_eq]; exact (i 0).isLt
theorem prev2_lt (i : grid0.Coords) (h : k0_cond2 i = 1#1) : (Scalar.subi (BitVec.ofNat 32 (i 0).val) 2#32 : BitVec 32).toNat < 167 := by
  have h1 : (i 0).val < 167 := (i 0).isLt
  rw [prevW_eq i 2 (.inr rfl) ((cond2_iff i).1 h)]; omega
theorem prev1_lt (i : grid0.Coords) (h : k0_cond15 i = 1#1) : (Scalar.subi (BitVec.ofNat 32 (i 0).val) 1#32 : BitVec 32).toNat < 167 := by
  have h1 := (cond15_iff i).1 h
  rw [prevW_eq i 1 (.inl rfl) (by omega)]; omega

/-- The body to the first group of `wt`. -/
def bodyHead (i : grid0.Coords) : PG (F := F) (Σ' (arg0 : BitVec 32) (v0 : Elt F .i32) (v1 : BitVec 32), Vec F S1x768 .f32) := do
  let v0 : Elt F .i32 ← smemLoad arg1 (Rect.unit (s := S1) ![0] S1.size inb_S1_S1_0) numel1_S1 rfl
  let k : PG (F := F) (Σ' (arg0 : BitVec 32) (v0 : Elt F .i32) (v1 : BitVec 32), Vec F S1x768 .f32) := do
    let z ← deqZ arg7 0
    deqRest arg5 arg6 arg14 harg14 0 z
    let z1 ← deqZ arg7 1
    pure ⟨BitVec.ofNat 32 (i 0).val, v0, slW i, z1⟩
  let k2 : PG (F := F) (Σ' (arg0 : BitVec 32) (v0 : Elt F .i32) (v1 : BitVec 32), Vec F S1x768 .f32) :=
    if h : k0_cond2 i = 1#1 then
      let w := fun rb k => waitC arg10 arg11 arg15 arg16 arg21 (α := Σ' (arg0 : BitVec 32) (v0 : Elt F .i32) (v1 : BitVec 32), Vec F S1x768 .f32) v0 (slW i).toNat (slW_lt i) (Scalar.subi (BitVec.ofNat 32 (i 0).val) 2#32 : BitVec 32).toNat (prev2_lt i h) rb k
      w 0 (w 1 (w 2 (w 3 (w 4 (w 5 k)))))
    else k
  if _h : firstC i then do
    initAll arg17 arg18 arg19 arg20
    k2
  else k2

/-- The starts of the copies of the first four row blocks; the condition of the next. -/
def bodyStart (i : grid0.Coords) (v0 : BitVec 32) : PG (F := F) (BitVec 1) :=
  let w := fun rb k => startC arg10 arg11 arg15 arg16 arg21 (α := BitVec 1) v0 (slW i).toNat (slW_lt i) (BitVec.ofNat 32 (i 0).val : BitVec 32).toNat (ptW_lt i) rb k
  w 0 (w 1 (w 2 (w 3 (pure (Scalar.cmpi .sgt v0 4#32)))))

/-- The waits at the last grid point, the last two row blocks' of its own tile apart. -/
def bodyWaits (i : grid0.Coords) (h : k0_cond15 i = 1#1) (v0 : BitVec 32) : PG (F := F) PUnit :=
  let w := fun rb k => waitC arg10 arg11 arg15 arg16 arg21 (α := PUnit) v0 (slW' i).toNat (slW'_lt i) (Scalar.subi (BitVec.ofNat 32 (i 0).val) 1#32 : BitVec 32).toNat (prev1_lt i h) rb k
  let w' := fun rb k => waitC arg10 arg11 arg15 arg16 arg21 (α := PUnit) v0 (slW i).toNat (slW_lt i) (BitVec.ofNat 32 (i 0).val : BitVec 32).toNat (ptW_lt i) rb k
  w 0 (w 1 (w 2 (w 3 (w 4 (w 5 (w' 0 (w' 1 (w' 2 (w' 3 (pure ⟨⟩))))))))))

/-- The starts of the last two row blocks' copies, and the last grid point's own work. -/
def bodyTail (i : grid0.Coords) (v0 : BitVec 32) : PG (F := F) PUnit :=
  let w := fun rb k => startC arg10 arg11 arg15 arg16 arg21 (α := PUnit) v0 (slW i).toNat (slW_lt i) (BitVec.ofNat 32 (i 0).val : BitVec 32).toNat (ptW_lt i) rb k
  let w' := fun rb k => waitC arg10 arg11 arg15 arg16 arg21 (α := PUnit) v0 (slW i).toNat (slW_lt i) (BitVec.ofNat 32 (i 0).val : BitVec 32).toNat (ptW_lt i) rb k
  w 4 (w 5 (if h : k0_cond15 i = 1#1 then do
    lastAll arg12 arg13 arg17 arg18 arg19 arg20
    bodyWaits arg10 arg11 arg15 arg16 arg21 i h v0
    w' 4 (w' 5 (pure ⟨⟩))
  else pure ⟨⟩))

end Prog

end Cert.Proof.Fwd

end
-- ==== Proof.BodyEq.lean ====
/-
  The printed body of `fwd` is the program of pieces: equal up to the bracketing around its conditionals, which the laws of
  the sequencing of programs give, and by definitional unfolding everywhere else.
-/
module

public import proofs.«01_k».proof.Proof.Body

@[expose] public section

set_option maxRecDepth 65536

noncomputable section

namespace Cert.Proof.Fwd

open Cert.Kernel Cert.Kernel.Gen
open Idealize.ShloMosaic
open Idealize.SL Idealize.SL.Sem

variable {F : FTy → Type} [FloatOps F]

set_option maxHeartbeats 4000000 in
theorem head_eq (i : grid0.Coords) (arg1 : Memref sig .tc .smem S1 .i32) (harg1 : arg1.IsWhole) (arg2 : Memref sig .tc .vmem S1536x3072 .bf16) (harg2 : arg2.IsWhole) (arg3 : Memref sig .tc .vmem S1536x2048 .fp8e4m3) (harg3 : arg3.IsWhole) (arg4 : Memref sig .tc .vmem S1536x128 .f32) (harg4 : arg4.IsWhole) (arg5 : Memref sig .tc .vmem S1536x768 .i8) (harg5 : arg5.IsWhole) (arg6 : Memref sig .tc .vmem S24x768 .f32) (harg6 : arg6.IsWhole) (arg7 : Memref sig .tc .vmem S24x768 .f32) (harg7 : arg7.IsWhole) (arg8 : Memref sig .tc .vmem S768x2048 .fp8e4m3) (harg8 : arg8.IsWhole) (arg9 : Memref sig .tc .vmem S1x1x768 .f32) (harg9 : arg9.IsWhole) (arg10 : Memref sig .tc .hbm S167x1536x768 .f32) (harg10 : arg10.IsWhole) (arg11 : Memref sig .tc .hbm S167x1536x768 .f32) (harg11 : arg11.IsWhole) (arg12 : Memref sig .tc .vmem S1536x128 .f32) (harg12 : arg12.IsWhole) (arg13 : Memref sig .tc .vmem S1536x128 .f32) (harg13 : arg13.IsWhole) (arg14 : Memref sig .tc .vmem S3072x768 .bf16) (harg14 : arg14.IsWhole) (arg15 : Memref sig .tc .vmem S2x1536x768 .f32) (harg15 : arg15.IsWhole) (arg16 : Memref sig .tc .vmem S2x1536x768 .f32) (harg16 : arg16.IsWhole) (arg17 : Memref sig .tc .vmem S1536x128 .f32) (harg17 : arg17.IsWhole) (arg18 : Memref sig .tc .vmem S1536x128 .f32) (harg18 : arg18.IsWhole) (arg19 : Memref sig .tc .vmem S1536x128 .f32) (harg19 : arg19.IsWhole) (arg20 : Memref sig .tc .vmem S1536x128 .f32) (harg20 : arg20.IsWhole) (arg21 : DmaSems sig S2x2x6) :
    k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 = bodyHead arg1 arg5 arg6 arg7 arg10 arg11 arg14 harg14 arg15 arg16 arg17 arg18 arg19 arg20 arg21 i := rfl

/-- The body after its first part, as printed, at the values that part gives. -/
def fwdRest (i : grid0.Coords) (arg1 : Memref sig .tc .smem S1 .i32) (harg1 : arg1.IsWhole) (arg2 : Memref sig .tc .vmem S1536x3072 .bf16) (harg2 : arg2.IsWhole) (arg3 : Memref sig .tc .vmem S1536x2048 .fp8e4m3) (harg3 : arg3.IsWhole) (arg4 : Memref sig .tc .vmem S1536x128 .f32) (harg4 : arg4.IsWhole) (arg5 : Memref sig .tc .vmem S1536x768 .i8) (harg5 : arg5.IsWhole) (arg6 : Memref sig .tc .vmem S24x768 .f32) (harg6 : arg6.IsWhole) (arg7 : Memref sig .tc .vmem S24x768 .f32) (harg7 : arg7.IsWhole) (arg8 : Memref sig .tc .vmem S768x2048 .fp8e4m3) (harg8 : arg8.IsWhole) (arg9 : Memref sig .tc .vmem S1x1x768 .f32) (harg9 : arg9.IsWhole) (arg10 : Memref sig .tc .hbm S167x1536x768 .f32) (harg10 : arg10.IsWhole) (arg11 : Memref sig .tc .hbm S167x1536x768 .f32) (harg11 : arg11.IsWhole) (arg12 : Memref sig .tc .vmem S1536x128 .f32) (harg12 : arg12.IsWhole) (arg13 : Memref sig .tc .vmem S1536x128 .f32) (harg13 : arg13.IsWhole) (arg14 : Memref sig .tc .vmem S3072x768 .bf16) (harg14 : arg14.IsWhole) (arg15 : Memref sig .tc .vmem S2x1536x768 .f32) (harg15 : arg15.IsWhole) (arg16 : Memref sig .tc .vmem S2x1536x768 .f32) (harg16 : arg16.IsWhole) (arg17 : Memref sig .tc .vmem S1536x128 .f32) (harg17 : arg17.IsWhole) (arg18 : Memref sig .tc .vmem S1536x128 .f32) (harg18 : arg18.IsWhole) (arg19 : Memref sig .tc .vmem S1536x128 .f32) (harg19 : arg19.IsWhole) (arg20 : Memref sig .tc .vmem S1536x128 .f32) (harg20 : arg20.IsWhole) (arg21 : DmaSems sig S2x2x6) (r : Σ' (arg0 : BitVec 32) (v0 : Elt F .i32) (v1 : BitVec 32), Vec F S1x768 .f32) : PG (F := F) PUnit :=
  match r with
  | ⟨arg0, v0, v1, v34⟩ => do
      let ⟨v61, v63, v71, v73, v74⟩ : Σ' (v61 : FVec F S1x768 .bf16) (v63 : FVec F S1x768 .bf16) (v71 : FVec F S64x768 .bf16) (v73 : FVec F S64x768 .bf16), FVec F S64x768 .bf16 ← k0_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v34
      let v112 : Vec F S1x768 .f32 ← k0_part5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v61 v63 v71 v73 v74
      let ⟨v139, v141, v149, v151, v152⟩ : Σ' (v139 : FVec F S1x768 .bf16) (v141 : FVec F S1x768 .bf16) (v149 : FVec F S64x768 .bf16) (v151 : FVec F S64x768 .bf16), FVec F S64x768 .bf16 ← k0_part6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v112
      let v190 : Vec F S1x768 .f32 ← k0_part7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v139 v141 v149 v151 v152
      let ⟨v217, v219, v227, v229, v230⟩ : Σ' (v217 : FVec F S1x768 .bf16) (v219 : FVec F S1x768 .bf16) (v227 : FVec F S64x768 .bf16) (v229 : FVec F S64x768 .bf16), FVec F S64x768 .bf16 ← k0_part8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v190
      let v268 : Vec F S1x768 .f32 ← k0_part9 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v217 v219 v227 v229 v230
      let ⟨v295, v297, v305, v307, v308⟩ : Σ' (v295 : FVec F S1x768 .bf16) (v297 : FVec F S1x768 .bf16) (v305 : FVec F S64x768 .bf16) (v307 : FVec F S64x768 .bf16), FVec F S64x768 .bf16 ← k0_part10 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v268
      let v346 : Vec F S1x768 .f32 ← k0_part11 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v295 v297 v305 v307 v308
      let ⟨v373, v375, v383, v385, v386⟩ : Σ' (v373 : FVec F S1x768 .bf16) (v375 : FVec F S1x768 .bf16) (v383 : FVec F S64x768 .bf16) (v385 : FVec F S64x768 .bf16), FVec F S64x768 .bf16 ← k0_part12 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v346
      let v424 : Vec F S1x768 .f32 ← k0_part13 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v373 v375 v383 v385 v386
      let ⟨v451, v453, v461, v463, v464⟩ : Σ' (v451 : FVec F S1x768 .bf16) (v453 : FVec F S1x768 .bf16) (v461 : FVec F S64x768 .bf16) (v463 : FVec F S64x768 .bf16), FVec F S64x768 .bf16 ← k0_part14 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v424
      let v502 : Vec F S1x768 .f32 ← k0_part15 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v451 v453 v461 v463 v464
      let ⟨v529, v531, v539, v541, v542⟩ : Σ' (v529 : FVec F S1x768 .bf16) (v531 : FVec F S1x768 .bf16) (v539 : FVec F S64x768 .bf16) (v541 : FVec F S64x768 .bf16), FVec F S64x768 .bf16 ← k0_part16 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v502
      let v580 : Vec F S1x768 .f32 ← k0_part17 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v529 v531 v539 v541 v542
      let ⟨v607, v609, v617, v619, v620⟩ : Σ' (v607 : FVec F S1x768 .bf16) (v609 : FVec F S1x768 .bf16) (v617 : FVec F S64x768 .bf16) (v619 : FVec F S64x768 .bf16), FVec F S64x768 .bf16 ← k0_part18 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v580
      let ⟨v633, v643, v644, v645, v646, v647, v648, v655, v656, v658⟩ : Σ' (v633 : FVec F S1x768 .f32) (v643 : FVec F S256x128 .f32) (v644 : FVec F S256x128 .f32) (v645 : FVec F S256x128 .f32) (v646 : FVec F S256x128 .f32) (v647 : FVec F S256x128 .f32) (v648 : FVec F S256x128 .f32) (v655 : FVec F S256x128 .f32) (v656 : Vec F S256x128 .f32), FVec F S256x128 .f32 ← k0_part19 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1 v607 v609 v617 v619 v620
      let ⟨v696, v697, v698, v699, v700, v701⟩ : Σ' (v696 : FVec F S256x128 .f32) (v697 : FVec F S256x128 .f32) (v698 : FVec F S256x128 .f32) (v699 : FVec F S256x128 .f32) (v700 : FVec F S256x128 .f32), FVec F S256x128 .f32 ← k0_part20 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1 v633 v643 v644 v645 v646 v647 v648 v655 v656 v658
      let v741 : FVec F S256x768 .f32 ← k0_part21 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1 v696 v697 v698 v699 v700 v701
      let ⟨v787, v788, cst_274⟩ : Σ' (v787 : Vec F S256x2048 .fp8e4m3) (v788 : Vec F S768x2048 .fp8e4m3), FVec F S256x768 .f32 ← k0_part22 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v741
      let v833 : FVec F S256x128 .f32 ← k0_part23 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1 v633 v787 v788 cst_274
      let ⟨v854, v861, v880⟩ : Σ' (v854 : FVec F S256x128 .f32) (v861 : FVec F S256x128 .f32), FVec F S256x128 .f32 ← k0_part24 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1 v833
      let ⟨v903, v904, v905, v906, v907, v914, v918, v920⟩ : Σ' (v903 : FVec F S256x128 .f32) (v904 : FVec F S256x128 .f32) (v905 : FVec F S256x128 .f32) (v906 : FVec F S256x128 .f32) (v907 : FVec F S256x128 .f32) (v914 : FVec F S256x128 .f32) (v918 : FVec F S256x128 .f32), FVec F S256x128 .f32 ← k0_part25 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1 v633 v854 v861 v880
      let ⟨v952, v953, v954, v955, v956, v957, v958, v963⟩ : Σ' (v952 : FVec F S256x128 .f32) (v953 : FVec F S256x128 .f32) (v954 : FVec F S256x128 .f32) (v955 : FVec F S256x128 .f32) (v956 : FVec F S256x128 .f32) (v957 : FVec F S256x128 .f32) (v958 : Vec F S256x128 .f32), FVec F S256x128 .f32 ← k0_part26 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1 v903 v904 v905 v906 v907 v914 v918 v920
      let ⟨v1000, v1005⟩ : Σ' (v1000 : FVec F S256x768 .f32), FVec F S256x128 .f32 ← k0_part27 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1 v633 v952 v953 v954 v955 v956 v957 v958 v963
      let ⟨v1048, v1049⟩ : Σ' (v1048 : FVec F S256x768 .f32), FVec F S256x768 .f32 ← k0_part28 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1000 v1005
      k0_part29 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1 v1048 v1049
      let ⟨v1120, v1142⟩ : Σ' (v1120 : FVec F S256x128 .f32), FVec F S256x128 .f32 ← k0_part30 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1 v633
      let ⟨v1161, v1162, v1163, v1170, v1183⟩ : Σ' (v1161 : FVec F S256x128 .f32) (v1162 : FVec F S256x128 .f32) (v1163 : FVec F S256x128 .f32) (v1170 : FVec F S256x128 .f32), FVec F S256x128 .f32 ← k0_part31 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1 v1120 v1142
      let ⟨v1211, v1212, v1213, v1214, v1215, v1216, v1217, v1223⟩ : Σ' (v1211 : FVec F S256x128 .f32) (v1212 : FVec F S256x128 .f32) (v1213 : FVec F S256x128 .f32) (v1214 : FVec F S256x128 .f32) (v1215 : FVec F S256x128 .f32) (v1216 : FVec F S256x128 .f32) (v1217 : Vec F S256x128 .f32), FVec F S256x128 .f32 ← k0_part32 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1 v633 v1161 v1162 v1163 v1170 v1183
      let v1264 : BitVec 1 ← k0_part33 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v0 v1211 v1212 v1213 v1214 v1215 v1216 v1217 v1223
      let v1265 : BitVec 32 := Scalar.extui v1264
      let v1266 : BitVec 1 := Scalar.cmpi .ne v1265 0#32
      if v1266 = 1#1 then do
        let v1273 : DmaSems sig S1x1x1 := arg21.slice (Rect.unit (s := S2x2x6) (k0_off47 i) S1x1x1.size (k0_off47_inb i))
        let v1274 : DmaSems sig S_ := v1273.squeeze S_ squeezes_S1x1x1_S_
        let v1275 : Memref sig .tc .hbm S1x256x768 .f32 := arg10.slice (Rect.unit (s := S167x1536x768) (k0_off48 i) S1x256x768.size (k0_off48_inb i)) (fun _ => rfl)
        let v1276 : Memref sig .tc .hbm S256x768 .f32 := v1275.squeeze S256x768 squeezes_S1x256x768_S256x768
        let v1277 : Memref sig .tc .vmem S1x256x768 .f32 := arg15.slice (Rect.unit (s := S2x1536x768) (k0_off49 i) S1x256x768.size (k0_off49_inb i)) (fun _ => rfl)
        let v1278 : Memref sig .tc .vmem S256x768 .f32 := v1277.squeeze S256x768 squeezes_S1x256x768_S256x768
        Prog.lift (.enqueueDma v1278 (.here v1276) (.dma v1274.sem) ((View.wordExact_bits rfl).reshape _ _) ((View.wordExact_bits rfl).reshape _ _) ⟨Or.inl rfl, trivial⟩)
        let v1279 : DmaSems sig S1x1x1 := arg21.slice (Rect.unit (s := S2x2x6) (k0_off50 i) S1x1x1.size (k0_off50_inb i))
        let v1280 : DmaSems sig S_ := v1279.squeeze S_ squeezes_S1x1x1_S_
        let v1281 : Memref sig .tc .hbm S1x256x768 .f32 := arg11.slice (Rect.unit (s := S167x1536x768) (k0_off48 i) S1x256x768.size (k0_off48_inb i)) (fun _ => rfl)
        let v1282 : Memref sig .tc .hbm S256x768 .f32 := v1281.squeeze S256x768 squeezes_S1x256x768_S256x768
        let v1283 : Memref sig .tc .vmem S1x256x768 .f32 := arg16.slice (Rect.unit (s := S2x1536x768) (k0_off49 i) S1x256x768.size (k0_off49_inb i)) (fun _ => rfl)
        let v1284 : Memref sig .tc .vmem S256x768 .f32 := v1283.squeeze S256x768 squeezes_S1x256x768_S256x768
        Prog.lift (.enqueueDma v1284 (.here v1282) (.dma v1280.sem) ((View.wordExact_bits rfl).reshape _ _) ((View.wordExact_bits rfl).reshape _ _) ⟨Or.inl rfl, trivial⟩)
        pure ⟨⟩
      else do
        pure ⟨⟩
      let v1267 : BitVec 1 := Scalar.cmpi .sgt v0 5#32
      let v1268 : BitVec 32 := Scalar.extui v1267
      let v1269 : BitVec 1 := Scalar.cmpi .ne v1268 0#32
      if v1269 = 1#1 then do
        let v1273 : DmaSems sig S1x1x1 := arg21.slice (Rect.unit (s := S2x2x6) (k0_off51 i) S1x1x1.size (k0_off51_inb i))
        let v1274 : DmaSems sig S_ := v1273.squeeze S_ squeezes_S1x1x1_S_
        let v1275 : Memref sig .tc .hbm S1x256x768 .f32 := arg10.slice (Rect.unit (s := S167x1536x768) (k0_off52 i) S1x256x768.size (k0_off52_inb i)) (fun _ => rfl)
        let v1276 : Memref sig .tc .hbm S256x768 .f32 := v1275.squeeze S256x768 squeezes_S1x256x768_S256x768
        let v1277 : Memref sig .tc .vmem S1x256x768 .f32 := arg15.slice (Rect.unit (s := S2x1536x768) (k0_off53 i) S1x256x768.size (k0_off53_inb i)) (fun _ => rfl)
        let v1278 : Memref sig .tc .vmem S256x768 .f32 := v1277.squeeze S256x768 squeezes_S1x256x768_S256x768
        Prog.lift (.enqueueDma v1278 (.here v1276) (.dma v1274.sem) ((View.wordExact_bits rfl).reshape _ _) ((View.wordExact_bits rfl).reshape _ _) ⟨Or.inl rfl, trivial⟩)
        let v1279 : DmaSems sig S1x1x1 := arg21.slice (Rect.unit (s := S2x2x6) (k0_off54 i) S1x1x1.size (k0_off54_inb i))
        let v1280 : DmaSems sig S_ := v1279.squeeze S_ squeezes_S1x1x1_S_
        let v1281 : Memref sig .tc .hbm S1x256x768 .f32 := arg11.slice (Rect.unit (s := S167x1536x768) (k0_off52 i) S1x256x768.size (k0_off52_inb i)) (fun _ => rfl)
        let v1282 : Memref sig .tc .hbm S256x768 .f32 := v1281.squeeze S256x768 squeezes_S1x256x768_S256x768
        let v1283 : Memref sig .tc .vmem S1x256x768 .f32 := arg16.slice (Rect.unit (s := S2x1536x768) (k0_off53 i) S1x256x768.size (k0_off53_inb i)) (fun _ => rfl)
        let v1284 : Memref sig .tc .vmem S256x768 .f32 := v1283.squeeze S256x768 squeezes_S1x256x768_S256x768
        Prog.lift (.enqueueDma v1284 (.here v1282) (.dma v1280.sem) ((View.wordExact_bits rfl).reshape _ _) ((View.wordExact_bits rfl).reshape _ _) ⟨Or.inl rfl, trivial⟩)
        pure ⟨⟩
      else do
        pure ⟨⟩

      if k0_h15 : k0_cond15 i = 1#1 then do
        k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg0 v1
        k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v0 k0_h15
        let v1341 : BitVec 1 := Scalar.cmpi .sgt v0 4#32
        let v1342 : BitVec 32 := Scalar.extui v1341
        let v1343 : BitVec 1 := Scalar.cmpi .ne v1342 0#32
        if v1343 = 1#1 then do
          let v1347 : DmaSems sig S1x1x1 := arg21.slice (Rect.unit (s := S2x2x6) (k0_off95 i) S1x1x1.size (k0_off95_inb i k0_h15))
          let v1348 : DmaSems sig S_ := v1347.squeeze S_ squeezes_S1x1x1_S_
          let v1349 : Memref sig .tc .hbm S1x256x768 .f32 := arg10.slice (Rect.unit (s := S167x1536x768) (k0_off96 i) S1x256x768.size (k0_off96_inb i k0_h15)) (fun _ => rfl)
          let v1350 : Memref sig .tc .hbm S256x768 .f32 := v1349.squeeze S256x768 squeezes_S1x256x768_S256x768
          let v1351 : Memref sig .tc .vmem S1x256x768 .f32 := arg15.slice (Rect.unit (s := S2x1536x768) (k0_off97 i) S1x256x768.size (k0_off97_inb i k0_h15)) (fun _ => rfl)
          let v1352 : Memref sig .tc .vmem S256x768 .f32 := v1351.squeeze S256x768 squeezes_S1x256x768_S256x768
          Prog.lift (.waitDma2 v1348.sem v1352 v1350 ((View.wordExact_bits rfl).reshape _ _) ((View.wordExact_bits rfl).reshape _ _))
          let v1353 : DmaSems sig S1x1x1 := arg21.slice (Rect.unit (s := S2x2x6) (k0_off98 i) S1x1x1.size (k0_off98_inb i k0_h15))
          let v1354 : DmaSems sig S_ := v1353.squeeze S_ squeezes_S1x1x1_S_
          let v1355 : Memref sig .tc .hbm S1x256x768 .f32 := arg11.slice (Rect.unit (s := S167x1536x768) (k0_off96 i) S1x256x768.size (k0_off96_inb i k0_h15)) (fun _ => rfl)
          let v1356 : Memref sig .tc .hbm S256x768 .f32 := v1355.squeeze S256x768 squeezes_S1x256x768_S256x768
          let v1357 : Memref sig .tc .vmem S1x256x768 .f32 := arg16.slice (Rect.unit (s := S2x1536x768) (k0_off97 i) S1x256x768.size (k0_off97_inb i k0_h15)) (fun _ => rfl)
          let v1358 : Memref sig .tc .vmem S256x768 .f32 := v1357.squeeze S256x768 squeezes_S1x256x768_S256x768
          Prog.lift (.waitDma2 v1354.sem v1358 v1356 ((View.wordExact_bits rfl).reshape _ _) ((View.wordExact_bits rfl).reshape _ _))
          pure ⟨⟩
        else do
          pure ⟨⟩
        let v1344 : BitVec 1 := Scalar.cmpi .sgt v0 5#32
        let v1345 : BitVec 32 := Scalar.extui v1344
        let v1346 : BitVec 1 := Scalar.cmpi .ne v1345 0#32
        if v1346 = 1#1 then do
          let v1347 : DmaSems sig S1x1x1 := arg21.slice (Rect.unit (s := S2x2x6) (k0_off99 i) S1x1x1.size (k0_off99_inb i k0_h15))
          let v1348 : DmaSems sig S_ := v1347.squeeze S_ squeezes_S1x1x1_S_
          let v1349 : Memref sig .tc .hbm S1x256x768 .f32 := arg10.slice (Rect.unit (s := S167x1536x768) (k0_off100 i) S1x256x768.size (k0_off100_inb i k0_h15)) (fun _ => rfl)
          let v1350 : Memref sig .tc .hbm S256x768 .f32 := v1349.squeeze S256x768 squeezes_S1x256x768_S256x768
          let v1351 : Memref sig .tc .vmem S1x256x768 .f32 := arg15.slice (Rect.unit (s := S2x1536x768) (k0_off101 i) S1x256x768.size (k0_off101_inb i k0_h15)) (fun _ => rfl)
          let v1352 : Memref sig .tc .vmem S256x768 .f32 := v1351.squeeze S256x768 squeezes_S1x256x768_S256x768
          Prog.lift (.waitDma2 v1348.sem v1352 v1350 ((View.wordExact_bits rfl).reshape _ _) ((View.wordExact_bits rfl).reshape _ _))
          let v1353 : DmaSems sig S1x1x1 := arg21.slice (Rect.unit (s := S2x2x6) (k0_off102 i) S1x1x1.size (k0_off102_inb i k0_h15))
          let v1354 : DmaSems sig S_ := v1353.squeeze S_ squeezes_S1x1x1_S_
          let v1355 : Memref sig .tc .hbm S1x256x768 .f32 := arg11.slice (Rect.unit (s := S167x1536x768) (k0_off100 i) S1x256x768.size (k0_off100_inb i k0_h15)) (fun _ => rfl)
          let v1356 : Memref sig .tc .hbm S256x768 .f32 := v1355.squeeze S256x768 squeezes_S1x256x768_S256x768
          let v1357 : Memref sig .tc .vmem S1x256x768 .f32 := arg16.slice (Rect.unit (s := S2x1536x768) (k0_off101 i) S1x256x768.size (k0_off101_inb i k0_h15)) (fun _ => rfl)
          let v1358 : Memref sig .tc .vmem S256x768 .f32 := v1357.squeeze S256x768 squeezes_S1x256x768_S256x768
          Prog.lift (.waitDma2 v1354.sem v1358 v1356 ((View.wordExact_bits rfl).reshape _ _) ((View.wordExact_bits rfl).reshape _ _))
          pure ⟨⟩
        else do
          pure ⟨⟩
        pure ⟨⟩
      else do
        pure ⟨⟩
      pure ⟨⟩

/-- The body is its first part and the rest. -/
theorem fwd_split (i : grid0.Coords) (arg1 : Memref sig .tc .smem S1 .i32) (harg1 : arg1.IsWhole) (arg2 : Memref sig .tc .vmem S1536x3072 .bf16) (harg2 : arg2.IsWhole) (arg3 : Memref sig .tc .vmem S1536x2048 .fp8e4m3) (harg3 : arg3.IsWhole) (arg4 : Memref sig .tc .vmem S1536x128 .f32) (harg4 : arg4.IsWhole) (arg5 : Memref sig .tc .vmem S1536x768 .i8) (harg5 : arg5.IsWhole) (arg6 : Memref sig .tc .vmem S24x768 .f32) (harg6 : arg6.IsWhole) (arg7 : Memref sig .tc .vmem S24x768 .f32) (harg7 : arg7.IsWhole) (arg8 : Memref sig .tc .vmem S768x2048 .fp8e4m3) (harg8 : arg8.IsWhole) (arg9 : Memref sig .tc .vmem S1x1x768 .f32) (harg9 : arg9.IsWhole) (arg10 : Memref sig .tc .hbm S167x1536x768 .f32) (harg10 : arg10.IsWhole) (arg11 : Memref sig .tc .hbm S167x1536x768 .f32) (harg11 : arg11.IsWhole) (arg12 : Memref sig .tc .vmem S1536x128 .f32) (harg12 : arg12.IsWhole) (arg13 : Memref sig .tc .vmem S1536x128 .f32) (harg13 : arg13.IsWhole) (arg14 : Memref sig .tc .vmem S3072x768 .bf16) (harg14 : arg14.IsWhole) (arg15 : Memref sig .tc .vmem S2x1536x768 .f32) (harg15 : arg15.IsWhole) (arg16 : Memref sig .tc .vmem S2x1536x768 .f32) (harg16 : arg16.IsWhole) (arg17 : Memref sig .tc .vmem S1536x128 .f32) (harg17 : arg17.IsWhole) (arg18 : Memref sig .tc .vmem S1536x128 .f32) (harg18 : arg18.IsWhole) (arg19 : Memref sig .tc .vmem S1536x128 .f32) (harg19 : arg19.IsWhole) (arg20 : Memref sig .tc .vmem S1536x128 .f32) (harg20 : arg20.IsWhole) (arg21 : DmaSems sig S2x2x6) : cc0_fwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 = (k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 >>= fwdRest i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21) := rfl

/-- Programs beginning with the same operation are equal when what follows is. -/
theorem opc {α : Type} {β : Type} {o o' : TpuEff nD τ sig (Elt F) Λ₀ .tc β} {k k' : β → PG (F := F) α} (h : o = o') (hk : ∀ x, k x = k' x) :
    (Prog.op o k : PG (F := F) α) = Prog.op o' k' := by
  subst h; exact congrArg _ (funext hk)

/-- The last part of the body, as printed, with its condition a word of the part before. -/
def fwdTail (i : grid0.Coords) (arg1 : Memref sig .tc .smem S1 .i32) (harg1 : arg1.IsWhole) (arg2 : Memref sig .tc .vmem S1536x3072 .bf16) (harg2 : arg2.IsWhole) (arg3 : Memref sig .tc .vmem S1536x2048 .fp8e4m3) (harg3 : arg3.IsWhole) (arg4 : Memref sig .tc .vmem S1536x128 .f32) (harg4 : arg4.IsWhole) (arg5 : Memref sig .tc .vmem S1536x768 .i8) (harg5 : arg5.IsWhole) (arg6 : Memref sig .tc .vmem S24x768 .f32) (harg6 : arg6.IsWhole) (arg7 : Memref sig .tc .vmem S24x768 .f32) (harg7 : arg7.IsWhole) (arg8 : Memref sig .tc .vmem S768x2048 .fp8e4m3) (harg8 : arg8.IsWhole) (arg9 : Memref sig .tc .vmem S1x1x768 .f32) (harg9 : arg9.IsWhole) (arg10 : Memref sig .tc .hbm S167x1536x768 .f32) (harg10 : arg10.IsWhole) (arg11 : Memref sig .tc .hbm S167x1536x768 .f32) (harg11 : arg11.IsWhole) (arg12 : Memref sig .tc .vmem S1536x128 .f32) (harg12 : arg12.IsWhole) (arg13 : Memref sig .tc .vmem S1536x128 .f32) (harg13 : arg13.IsWhole) (arg14 : Memref sig .tc .vmem S3072x768 .bf16) (harg14 : arg14.IsWhole) (arg15 : Memref sig .tc .vmem S2x1536x768 .f32) (harg15 : arg15.IsWhole) (arg16 : Memref sig .tc .vmem S2x1536x768 .f32) (harg16 : arg16.IsWhole) (arg17 : Memref sig .tc .vmem S1536x128 .f32) (harg17 : arg17.IsWhole) (arg18 : Memref sig .tc .vmem S1536x128 .f32) (harg18 : arg18.IsWhole) (arg19 : Memref sig .tc .vmem S1536x128 .f32) (harg19 : arg19.IsWhole) (arg20 : Memref sig .tc .vmem S1536x128 .f32) (harg20 : arg20.IsWhole) (arg21 : DmaSems sig S2x2x6) (v0 : Elt F .i32) (v1264 : BitVec 1) : PG (F := F) PUnit := do
    let v1 : BitVec 32 := Scalar.remsi (BitVec.ofNat 32 (i 0).val) 2#32
    let arg0 : BitVec 32 := BitVec.ofNat 32 (i 0).val
      let v1265 : BitVec 32 := Scalar.extui v1264
      let v1266 : BitVec 1 := Scalar.cmpi .ne v1265 0#32
      if v1266 = 1#1 then do
        let v1273 : DmaSems sig S1x1x1 := arg21.slice (Rect.unit (s := S2x2x6) (k0_off47 i) S1x1x1.size (k0_off47_inb i))
        let v1274 : DmaSems sig S_ := v1273.squeeze S_ squeezes_S1x1x1_S_
        let v1275 : Memref sig .tc .hbm S1x256x768 .f32 := arg10.slice (Rect.unit (s := S167x1536x768) (k0_off48 i) S1x256x768.size (k0_off48_inb i)) (fun _ => rfl)
        let v1276 : Memref sig .tc .hbm S256x768 .f32 := v1275.squeeze S256x768 squeezes_S1x256x768_S256x768
        let v1277 : Memref sig .tc .vmem S1x256x768 .f32 := arg15.slice (Rect.unit (s := S2x1536x768) (k0_off49 i) S1x256x768.size (k0_off49_inb i)) (fun _ => rfl)
        let v1278 : Memref sig .tc .vmem S256x768 .f32 := v1277.squeeze S256x768 squeezes_S1x256x768_S256x768
        Prog.lift (.enqueueDma v1278 (.here v1276) (.dma v1274.sem) ((View.wordExact_bits rfl).reshape _ _) ((View.wordExact_bits rfl).reshape _ _) ⟨Or.inl rfl, trivial⟩)
        let v1279 : DmaSems sig S1x1x1 := arg21.slice (Rect.unit (s := S2x2x6) (k0_off50 i) S1x1x1.size (k0_off50_inb i))
        let v1280 : DmaSems sig S_ := v1279.squeeze S_ squeezes_S1x1x1_S_
        let v1281 : Memref sig .tc .hbm S1x256x768 .f32 := arg11.slice (Rect.unit (s := S167x1536x768) (k0_off48 i) S1x256x768.size (k0_off48_inb i)) (fun _ => rfl)
        let v1282 : Memref sig .tc .hbm S256x768 .f32 := v1281.squeeze S256x768 squeezes_S1x256x768_S256x768
        let v1283 : Memref sig .tc .vmem S1x256x768 .f32 := arg16.slice (Rect.unit (s := S2x1536x768) (k0_off49 i) S1x256x768.size (k0_off49_inb i)) (fun _ => rfl)
        let v1284 : Memref sig .tc .vmem S256x768 .f32 := v1283.squeeze S256x768 squeezes_S1x256x768_S256x768
        Prog.lift (.enqueueDma v1284 (.here v1282) (.dma v1280.sem) ((View.wordExact_bits rfl).reshape _ _) ((View.wordExact_bits rfl).reshape _ _) ⟨Or.inl rfl, trivial⟩)
        pure ⟨⟩
      else do
        pure ⟨⟩
      let v1267 : BitVec 1 := Scalar.cmpi .sgt v0 5#32
      let v1268 : BitVec 32 := Scalar.extui v1267
      let v1269 : BitVec 1 := Scalar.cmpi .ne v1268 0#32
      if v1269 = 1#1 then do
        let v1273 : DmaSems sig S1x1x1 := arg21.slice (Rect.unit (s := S2x2x6) (k0_off51 i) S1x1x1.size (k0_off51_inb i))
        let v1274 : DmaSems sig S_ := v1273.squeeze S_ squeezes_S1x1x1_S_
        let v1275 : Memref sig .tc .hbm S1x256x768 .f32 := arg10.slice (Rect.unit (s := S167x1536x768) (k0_off52 i) S1x256x768.size (k0_off52_inb i)) (fun _ => rfl)
        let v1276 : Memref sig .tc .hbm S256x768 .f32 := v1275.squeeze S256x768 squeezes_S1x256x768_S256x768
        let v1277 : Memref sig .tc .vmem S1x256x768 .f32 := arg15.slice (Rect.unit (s := S2x1536x768) (k0_off53 i) S1x256x768.size (k0_off53_inb i)) (fun _ => rfl)
        let v1278 : Memref sig .tc .vmem S256x768 .f32 := v1277.squeeze S256x768 squeezes_S1x256x768_S256x768
        Prog.lift (.enqueueDma v1278 (.here v1276) (.dma v1274.sem) ((View.wordExact_bits rfl).reshape _ _) ((View.wordExact_bits rfl).reshape _ _) ⟨Or.inl rfl, trivial⟩)
        let v1279 : DmaSems sig S1x1x1 := arg21.slice (Rect.unit (s := S2x2x6) (k0_off54 i) S1x1x1.size (k0_off54_inb i))
        let v1280 : DmaSems sig S_ := v1279.squeeze S_ squeezes_S1x1x1_S_
        let v1281 : Memref sig .tc .hbm S1x256x768 .f32 := arg11.slice (Rect.unit (s := S167x1536x768) (k0_off52 i) S1x256x768.size (k0_off52_inb i)) (fun _ => rfl)
        let v1282 : Memref sig .tc .hbm S256x768 .f32 := v1281.squeeze S256x768 squeezes_S1x256x768_S256x768
        let v1283 : Memref sig .tc .vmem S1x256x768 .f32 := arg16.slice (Rect.unit (s := S2x1536x768) (k0_off53 i) S1x256x768.size (k0_off53_inb i)) (fun _ => rfl)
        let v1284 : Memref sig .tc .vmem S256x768 .f32 := v1283.squeeze S256x768 squeezes_S1x256x768_S256x768
        Prog.lift (.enqueueDma v1284 (.here v1282) (.dma v1280.sem) ((View.wordExact_bits rfl).reshape _ _) ((View.wordExact_bits rfl).reshape _ _) ⟨Or.inl rfl, trivial⟩)
        pure ⟨⟩
      else do
        pure ⟨⟩

      if k0_h15 : k0_cond15 i = 1#1 then do
        k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg0 v1
        k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v0 k0_h15
        let v1341 : BitVec 1 := Scalar.cmpi .sgt v0 4#32
        let v1342 : BitVec 32 := Scalar.extui v1341
        let v1343 : BitVec 1 := Scalar.cmpi .ne v1342 0#32
        if v1343 = 1#1 then do
          let v1347 : DmaSems sig S1x1x1 := arg21.slice (Rect.unit (s := S2x2x6) (k0_off95 i) S1x1x1.size (k0_off95_inb i k0_h15))
          let v1348 : DmaSems sig S_ := v1347.squeeze S_ squeezes_S1x1x1_S_
          let v1349 : Memref sig .tc .hbm S1x256x768 .f32 := arg10.slice (Rect.unit (s := S167x1536x768) (k0_off96 i) S1x256x768.size (k0_off96_inb i k0_h15)) (fun _ => rfl)
          let v1350 : Memref sig .tc .hbm S256x768 .f32 := v1349.squeeze S256x768 squeezes_S1x256x768_S256x768
          let v1351 : Memref sig .tc .vmem S1x256x768 .f32 := arg15.slice (Rect.unit (s := S2x1536x768) (k0_off97 i) S1x256x768.size (k0_off97_inb i k0_h15)) (fun _ => rfl)
          let v1352 : Memref sig .tc .vmem S256x768 .f32 := v1351.squeeze S256x768 squeezes_S1x256x768_S256x768
          Prog.lift (.waitDma2 v1348.sem v1352 v1350 ((View.wordExact_bits rfl).reshape _ _) ((View.wordExact_bits rfl).reshape _ _))
          let v1353 : DmaSems sig S1x1x1 := arg21.slice (Rect.unit (s := S2x2x6) (k0_off98 i) S1x1x1.size (k0_off98_inb i k0_h15))
          let v1354 : DmaSems sig S_ := v1353.squeeze S_ squeezes_S1x1x1_S_
          let v1355 : Memref sig .tc .hbm S1x256x768 .f32 := arg11.slice (Rect.unit (s := S167x1536x768) (k0_off96 i) S1x256x768.size (k0_off96_inb i k0_h15)) (fun _ => rfl)
          let v1356 : Memref sig .tc .hbm S256x768 .f32 := v1355.squeeze S256x768 squeezes_S1x256x768_S256x768
          let v1357 : Memref sig .tc .vmem S1x256x768 .f32 := arg16.slice (Rect.unit (s := S2x1536x768) (k0_off97 i) S1x256x768.size (k0_off97_inb i k0_h15)) (fun _ => rfl)
          let v1358 : Memref sig .tc .vmem S256x768 .f32 := v1357.squeeze S256x768 squeezes_S1x256x768_S256x768
          Prog.lift (.waitDma2 v1354.sem v1358 v1356 ((View.wordExact_bits rfl).reshape _ _) ((View.wordExact_bits rfl).reshape _ _))
          pure ⟨⟩
        else do
          pure ⟨⟩
        let v1344 : BitVec 1 := Scalar.cmpi .sgt v0 5#32
        let v1345 : BitVec 32 := Scalar.extui v1344
        let v1346 : BitVec 1 := Scalar.cmpi .ne v1345 0#32
        if v1346 = 1#1 then do
          let v1347 : DmaSems sig S1x1x1 := arg21.slice (Rect.unit (s := S2x2x6) (k0_off99 i) S1x1x1.size (k0_off99_inb i k0_h15))
          let v1348 : DmaSems sig S_ := v1347.squeeze S_ squeezes_S1x1x1_S_
          let v1349 : Memref sig .tc .hbm S1x256x768 .f32 := arg10.slice (Rect.unit (s := S167x1536x768) (k0_off100 i) S1x256x768.size (k0_off100_inb i k0_h15)) (fun _ => rfl)
          let v1350 : Memref sig .tc .hbm S256x768 .f32 := v1349.squeeze S256x768 squeezes_S1x256x768_S256x768
          let v1351 : Memref sig .tc .vmem S1x256x768 .f32 := arg15.slice (Rect.unit (s := S2x1536x768) (k0_off101 i) S1x256x768.size (k0_off101_inb i k0_h15)) (fun _ => rfl)
          let v1352 : Memref sig .tc .vmem S256x768 .f32 := v1351.squeeze S256x768 squeezes_S1x256x768_S256x768
          Prog.lift (.waitDma2 v1348.sem v1352 v1350 ((View.wordExact_bits rfl).reshape _ _) ((View.wordExact_bits rfl).reshape _ _))
          let v1353 : DmaSems sig S1x1x1 := arg21.slice (Rect.unit (s := S2x2x6) (k0_off102 i) S1x1x1.size (k0_off102_inb i k0_h15))
          let v1354 : DmaSems sig S_ := v1353.squeeze S_ squeezes_S1x1x1_S_
          let v1355 : Memref sig .tc .hbm S1x256x768 .f32 := arg11.slice (Rect.unit (s := S167x1536x768) (k0_off100 i) S1x256x768.size (k0_off100_inb i k0_h15)) (fun _ => rfl)
          let v1356 : Memref sig .tc .hbm S256x768 .f32 := v1355.squeeze S256x768 squeezes_S1x256x768_S256x768
          let v1357 : Memref sig .tc .vmem S1x256x768 .f32 := arg16.slice (Rect.unit (s := S2x1536x768) (k0_off101 i) S1x256x768.size (k0_off101_inb i k0_h15)) (fun _ => rfl)
          let v1358 : Memref sig .tc .vmem S256x768 .f32 := v1357.squeeze S256x768 squeezes_S1x256x768_S256x768
          Prog.lift (.waitDma2 v1354.sem v1358 v1356 ((View.wordExact_bits rfl).reshape _ _) ((View.wordExact_bits rfl).reshape _ _))
          pure ⟨⟩
        else do
          pure ⟨⟩
        pure ⟨⟩
      else do
        pure ⟨⟩
      pure ⟨⟩

theorem tail_eq (i : grid0.Coords) (arg1 : Memref sig .tc .smem S1 .i32) (harg1 : arg1.IsWhole) (arg2 : Memref sig .tc .vmem S1536x3072 .bf16) (harg2 : arg2.IsWhole) (arg3 : Memref sig .tc .vmem S1536x2048 .fp8e4m3) (harg3 : arg3.IsWhole) (arg4 : Memref sig .tc .vmem S1536x128 .f32) (harg4 : arg4.IsWhole) (arg5 : Memref sig .tc .vmem S1536x768 .i8) (harg5 : arg5.IsWhole) (arg6 : Memref sig .tc .vmem S24x768 .f32) (harg6 : arg6.IsWhole) (arg7 : Memref sig .tc .vmem S24x768 .f32) (harg7 : arg7.IsWhole) (arg8 : Memref sig .tc .vmem S768x2048 .fp8e4m3) (harg8 : arg8.IsWhole) (arg9 : Memref sig .tc .vmem S1x1x768 .f32) (harg9 : arg9.IsWhole) (arg10 : Memref sig .tc .hbm S167x1536x768 .f32) (harg10 : arg10.IsWhole) (arg11 : Memref sig .tc .hbm S167x1536x768 .f32) (harg11 : arg11.IsWhole) (arg12 : Memref sig .tc .vmem S1536x128 .f32) (harg12 : arg12.IsWhole) (arg13 : Memref sig .tc .vmem S1536x128 .f32) (harg13 : arg13.IsWhole) (arg14 : Memref sig .tc .vmem S3072x768 .bf16) (harg14 : arg14.IsWhole) (arg15 : Memref sig .tc .vmem S2x1536x768 .f32) (harg15 : arg15.IsWhole) (arg16 : Memref sig .tc .vmem S2x1536x768 .f32) (harg16 : arg16.IsWhole) (arg17 : Memref sig .tc .vmem S1536x128 .f32) (harg17 : arg17.IsWhole) (arg18 : Memref sig .tc .vmem S1536x128 .f32) (harg18 : arg18.IsWhole) (arg19 : Memref sig .tc .vmem S1536x128 .f32) (harg19 : arg19.IsWhole) (arg20 : Memref sig .tc .vmem S1536x128 .f32) (harg20 : arg20.IsWhole) (arg21 : DmaSems sig S2x2x6) (v0 : BitVec 32) : fwdTail (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v0 (Scalar.cmpi .sgt v0 4#32)
    = bodyTail arg10 arg11 arg12 arg13 arg15 arg16 arg17 arg18 arg19 arg20 arg21 i v0 := rfl

/-- The body from the second group of `wt`, whose zeros are read, on. -/
def bodyRest (i : grid0.Coords) (arg1 : Memref sig .tc .smem S1 .i32) (harg1 : arg1.IsWhole) (arg2 : Memref sig .tc .vmem S1536x3072 .bf16) (harg2 : arg2.IsWhole) (arg3 : Memref sig .tc .vmem S1536x2048 .fp8e4m3) (harg3 : arg3.IsWhole) (arg4 : Memref sig .tc .vmem S1536x128 .f32) (harg4 : arg4.IsWhole) (arg5 : Memref sig .tc .vmem S1536x768 .i8) (harg5 : arg5.IsWhole) (arg6 : Memref sig .tc .vmem S24x768 .f32) (harg6 : arg6.IsWhole) (arg7 : Memref sig .tc .vmem S24x768 .f32) (harg7 : arg7.IsWhole) (arg8 : Memref sig .tc .vmem S768x2048 .fp8e4m3) (harg8 : arg8.IsWhole) (arg9 : Memref sig .tc .vmem S1x1x768 .f32) (harg9 : arg9.IsWhole) (arg10 : Memref sig .tc .hbm S167x1536x768 .f32) (harg10 : arg10.IsWhole) (arg11 : Memref sig .tc .hbm S167x1536x768 .f32) (harg11 : arg11.IsWhole) (arg12 : Memref sig .tc .vmem S1536x128 .f32) (harg12 : arg12.IsWhole) (arg13 : Memref sig .tc .vmem S1536x128 .f32) (harg13 : arg13.IsWhole) (arg14 : Memref sig .tc .vmem S3072x768 .bf16) (harg14 : arg14.IsWhole) (arg15 : Memref sig .tc .vmem S2x1536x768 .f32) (harg15 : arg15.IsWhole) (arg16 : Memref sig .tc .vmem S2x1536x768 .f32) (harg16 : arg16.IsWhole) (arg17 : Memref sig .tc .vmem S1536x128 .f32) (harg17 : arg17.IsWhole) (arg18 : Memref sig .tc .vmem S1536x128 .f32) (harg18 : arg18.IsWhole) (arg19 : Memref sig .tc .vmem S1536x128 .f32) (harg19 : arg19.IsWhole) (arg20 : Memref sig .tc .vmem S1536x128 .f32) (harg20 : arg20.IsWhole) (arg21 : DmaSems sig S2x2x6) (v0 : BitVec 32) (z1 : Vec F S1x768 .f32) : PG (F := F) PUnit := do
  deqRest arg5 arg6 arg14 harg14 1 z1
  deqs arg5 arg6 arg7 arg14 harg14 [2, 3, 4, 5, 6, 7, 8, 9, 10, 11, 12, 13, 14, 15, 16, 17, 18, 19, 20, 21, 22, 23]
  let w : Vec F S1x1x768 .f32 ← Prog.lift (.load arg9 (Rect.unit (s := S1x1x768) ![0, 0, 0] S1x1x768.size inb_S1x1x768_S1x1x768_0_0_0).toLoadRect (View.loadsAt_vmem h_S1x1x768))
  rowBlk arg2 arg3 arg4 arg8 arg14 arg15 arg16 arg17 arg18 arg19 arg20 (slW i).toNat (slW_lt i) (k0_pay127 w) 0
  rowBlk arg2 arg3 arg4 arg8 arg14 arg15 arg16 arg17 arg18 arg19 arg20 (slW i).toNat (slW_lt i) (k0_pay127 w) 1
  rowBlk arg2 arg3 arg4 arg8 arg14 arg15 arg16 arg17 arg18 arg19 arg20 (slW i).toNat (slW_lt i) (k0_pay127 w) 2
  rowBlk arg2 arg3 arg4 arg8 arg14 arg15 arg16 arg17 arg18 arg19 arg20 (slW i).toNat (slW_lt i) (k0_pay127 w) 3
  rowBlk arg2 arg3 arg4 arg8 arg14 arg15 arg16 arg17 arg18 arg19 arg20 (slW i).toNat (slW_lt i) (k0_pay127 w) 4
  rowBlk arg2 arg3 arg4 arg8 arg14 arg15 arg16 arg17 arg18 arg19 arg20 (slW i).toNat (slW_lt i) (k0_pay127 w) 5
  let b ← bodyStart arg10 arg11 arg15 arg16 arg21 i v0
  fwdTail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v0 b

/-- The rest of the body is the named pieces in order. -/
theorem rest_eq (i : grid0.Coords) (arg1 : Memref sig .tc .smem S1 .i32) (harg1 : arg1.IsWhole) (arg2 : Memref sig .tc .vmem S1536x3072 .bf16) (harg2 : arg2.IsWhole) (arg3 : Memref sig .tc .vmem S1536x2048 .fp8e4m3) (harg3 : arg3.IsWhole) (arg4 : Memref sig .tc .vmem S1536x128 .f32) (harg4 : arg4.IsWhole) (arg5 : Memref sig .tc .vmem S1536x768 .i8) (harg5 : arg5.IsWhole) (arg6 : Memref sig .tc .vmem S24x768 .f32) (harg6 : arg6.IsWhole) (arg7 : Memref sig .tc .vmem S24x768 .f32) (harg7 : arg7.IsWhole) (arg8 : Memref sig .tc .vmem S768x2048 .fp8e4m3) (harg8 : arg8.IsWhole) (arg9 : Memref sig .tc .vmem S1x1x768 .f32) (harg9 : arg9.IsWhole) (arg10 : Memref sig .tc .hbm S167x1536x768 .f32) (harg10 : arg10.IsWhole) (arg11 : Memref sig .tc .hbm S167x1536x768 .f32) (harg11 : arg11.IsWhole) (arg12 : Memref sig .tc .vmem S1536x128 .f32) (harg12 : arg12.IsWhole) (arg13 : Memref sig .tc .vmem S1536x128 .f32) (harg13 : arg13.IsWhole) (arg14 : Memref sig .tc .vmem S3072x768 .bf16) (harg14 : arg14.IsWhole) (arg15 : Memref sig .tc .vmem S2x1536x768 .f32) (harg15 : arg15.IsWhole) (arg16 : Memref sig .tc .vmem S2x1536x768 .f32) (harg16 : arg16.IsWhole) (arg17 : Memref sig .tc .vmem S1536x128 .f32) (harg17 : arg17.IsWhole) (arg18 : Memref sig .tc .vmem S1536x128 .f32) (harg18 : arg18.IsWhole) (arg19 : Memref sig .tc .vmem S1536x128 .f32) (harg19 : arg19.IsWhole) (arg20 : Memref sig .tc .vmem S1536x128 .f32) (harg20 : arg20.IsWhole) (arg21 : DmaSems sig S2x2x6) (v0 : Elt F .i32) (z : Vec F S1x768 .f32) :
    fwdRest i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 ⟨BitVec.ofNat 32 (i 0).val, v0, Scalar.remsi (BitVec.ofNat 32 (i 0).val) 2#32, z⟩
      = bodyRest i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v0 z := by
  repeat (refine opc (by rfl) (fun x => ?_))
  rfl

end Cert.Proof.Fwd

end
-- ==== Proof.Wp.lean ====
/-
  The rules by which the pieces of `fwd`'s body are run: a load and a store of a buffer held by the values its own elements read,
  one group of the dequantisation, the work on one row block, and the start and the wait of one row block's copies.
-/
module

public import proofs.«01_k».proof.Proof.BodyEq
public import Idealize.ShloMosaic.Lib.Pipeline.FrameValue
public import Idealize.ShloMosaic.Lib.Pipeline.FrameBody
public import Idealize.ShloMosaic.Lib.Transfers
public import Idealize.ShloMosaic.Lib.Ring
public import Idealize.ShloMosaic.Lib.Tactic

@[expose] public section

set_option maxRecDepth 65536

noncomputable section

namespace Cert.Proof.Fwd

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The weakest precondition of a program of the kernel's on core `c`. -/
abbrev WP (c : Dev nD) {α : Type} (p : PG (F := F) α) (Q : α → sProp 𝕄) : sProp 𝕄 :=
  wp frame (wpE (defs₀ (F := F)) Variants.none (c : Thread nD τ) none) Set.univ p Q

/-- Core `c` holds the memref's own elements, reading `X`. -/
def own (c : Dev nD) {sp : Space} {s : Shape} {e : EltTy} (m : Memref sig .tc sp s e) (X : s.Idx → Elt F e) : sProp 𝕄 :=
  m.view.loc (c : Thread nD τ) ↦[m.view.set]{fullShare} m.view.rep X

theorem ent_of_eq {P Q : sProp 𝕄} (e : P = Q) : P ⊢ Q := e ▸ .rfl

/-- Contents whose own elements read `X` are held as `X`. -/
theorem own_of_read (c : Dev nD) {sp : Space} {s : Shape} {e : EltTy} (m : Memref sig .tc sp s e) (g : Buf (Elt F) (m.view.loc (c : Thread nD τ)))
    (X : s.Idx → Elt F e) (h : m.view.read (Elt F) g = X) :
    (m.view.loc (c : Thread nD τ) ↦[m.view.set]{fullShare} g : sProp 𝕄) = own c m X := by
  subst h
  exact pointsTo_rep (c : Thread nD τ) m g fullShare

open Classical in
/-- `X` with the elements of box `r` replaced by `w`. -/
def putR {s : Shape} {α : Type} (r : Rect s) (w : r.shape.Idx → α) (X : s.Idx → α) : s.Idx → α :=
  fun y => if h : ∃ x, r.emb x = y then w h.choose else X y
theorem putR_emb {s : Shape} {α : Type} (r : Rect s) (w : r.shape.Idx → α) (X : s.Idx → α) (x : r.shape.Idx) : putR r w X (r.emb x) = w x := by
  have h : ∃ x', r.emb x' = r.emb x := ⟨x, rfl⟩
  unfold putR; rw [dif_pos h]; exact congrArg w (r.emb.injective h.choose_spec)
theorem putR_off {s : Shape} {α : Type} (r : Rect s) (w : r.shape.Idx → α) (X : s.Idx → α) (y : s.Idx) (h : ∀ x, r.emb x ≠ y) : putR r w X y = X y := by
  unfold putR; exact dif_neg fun ⟨x, hx⟩ => h x hx

theorem read_put {sp : Space} {s : Shape} {e : EltTy} (m : Memref sig .tc sp s e) (r : Rect s) (w : r.shape.Idx → Elt F e) (X : s.Idx → Elt F e) :
    m.view.read (Elt F) ((m.access r).write (Elt F) (m.view.rep X) w Finset.univ) = putR r w X := by
  funext y
  by_cases h : ∃ x, r.emb x = y
  · obtain ⟨x, rfl⟩ := h
    rw [putR_emb]
    exact View.read_slice_write_emb r _ w (Finset.mem_univ x)
  · rw [putR_off r w X y (fun x hx => h ⟨x, hx⟩)]
    refine (View.read_slice_write_of_not_mem r _ w Finset.univ fun hm => ?_).trans (congrFun (View.read_rep m.view X) y)
    obtain ⟨x, -, hx⟩ := Finset.mem_map.1 hm
    exact h ⟨x, hx⟩

/-- A load. -/
theorem wp_loadO (c : Dev nD) {s : Shape} {e : EltTy} {α : Type} (m : Memref sig .tc .vmem s e) (r : LoadRect s) (hl : m.view.LoadsAt r)
    (X : s.Idx → Elt F e) (k : (r.shape.Idx → Elt F e) → PG (F := F) α) (Q : α → sProp 𝕄) :
    (own c m X) ⊢ iprop((own c m X -∗ WP c (k (fun y => X (r.idx y))) Q) -∗ WP c (Prog.op (.load m r hl) k) Q) := by
  have h := wp_load (Val := Elt F) (defs := defs₀ (F := F)) (U := Pipeline.UD sig nD τ) (Name := ℕ) (Lvl := ℕ) (Ix := Unit) (Γ := PendingWaitsCtx.empty) Variants.none (c : Thread nD τ) none Set.univ (cs := .vmem) (m := m) (r := r) (hl := hl) (k := k) (Q := Q) (q := fullShare)
    (S := m.view.set) (f := m.view.rep X) (Finset.map_subset_map.mpr (Finset.subset_univ _))
  rw [View.readAt_rep] at h
  exact h

/-- A store of a whole box. -/
theorem wp_storeO (c : Dev nD) {s : Shape} {e : EltTy} {α : Type} (m : Memref sig .tc .vmem s e) (r : Rect s) (w : r.shape.Idx → Elt F e)
    (hx : (m.access r).Stores Finset.univ) (hm : (Finset.univ : Finset r.shape.Idx) = Finset.univ ∨ ∀ a, r.stride a = 1)
    (X : s.Idx → Elt F e) (k : PUnit → PG (F := F) α) (Q : α → sProp 𝕄) :
    (own c m X) ⊢ iprop((own c m (putR r w X) -∗ WP c (k ⟨⟩) Q) -∗ WP c (Prog.op (.store m r w Finset.univ hx hm) k) Q) := by
  have h := wp_store (Val := Elt F) (defs := defs₀ (F := F)) (U := Pipeline.UD sig nD τ) (Name := ℕ) (Lvl := ℕ) (Ix := Unit) (Γ := PendingWaitsCtx.empty) Variants.none (c : Thread nD τ) none Set.univ (cs := .vmem) (m := m) (r := r) (w := w) (hx := hx) (hm := hm) (k := k) (Q := Q)
    (S := m.view.set) (f := m.view.rep X) (View.set_slice_subset m.view r)
  rw [← own_of_read c m _ _ (read_put m r w X)]
  exact h

/-! ## The dequantisation -/

section Deq

variable (c : Dev nD) (arg5 : Memref sig .tc .vmem S1536x768 .i8) (arg6 arg7 : Memref sig .tc .vmem S24x768 .f32) (arg14 : Memref sig .tc .vmem S3072x768 .bf16)
  (harg14 : arg14.IsWhole) (pk : Vec F S1536x768 .i8) (sc zr : Vec F S24x768 .f32)

/-- Row `g` of the scales or the zeros. -/
def rowOf (x : Vec F S24x768 .f32) (g : Fin 24) : Vec F S1x768 .f32 :=
  fun y => x ((Rect.unit (s := S24x768) ![g.val, 0] S1x768.size (inbRow g)).toLoadRect.idx y)
/-- The packed codes of group `g`. -/
def pkOf (x : Vec F S1536x768 .i8) (g : Fin 24) : Vec F S64x768 .i8 :=
  fun y => x ((Rect.unit (s := S1536x768) ![64 * g.val, 0] S64x768.size (inbPk g)).toLoadRect.idx y)
/-- The dequantised matrix after group `g`. -/
def wtStep (g : Fin 24) (X : Vec F S3072x768 .bf16) : Vec F S3072x768 .bf16 :=
  putR (Rect.unit (s := S3072x768) ![loRow g + 128, 0] S64x768.size (inbHi g)) (k0_pay10 (rowOf zr g) (rowOf sc g) (pkOf pk g))
    (putR (Rect.unit (s := S3072x768) ![loRow g, 0] S64x768.size (inbLo g)) (k0_pay9 (rowOf zr g) (rowOf sc g) (pkOf pk g)) X)

theorem wp_deqZ (g : Fin 24) {α : Type} (k : Vec F S1x768 .f32 → PG (F := F) α) (Q : α → sProp 𝕄) :
    own c arg7 zr ⊢ iprop((own c arg7 zr -∗ WP c (k (rowOf zr g)) Q) -∗ WP c (deqZ arg7 g >>= k) Q) := by
  unfold deqZ
  simp only [Prog.lift, Prog.bind_op, Prog.bind_ret]
  iintro H Hk
  iapply (wp_loadO c arg7 _ _ zr) $$ H
  iexact Hk

theorem wp_deqRest (g : Fin 24) (X : Vec F S3072x768 .bf16) {α : Type} (k : PUnit → PG (F := F) α) (Q : α → sProp 𝕄) :
    iprop(own c arg5 pk ∗ own c arg6 sc ∗ own c arg14 X)
      ⊢ iprop(((own c arg5 pk ∗ own c arg6 sc ∗ own c arg14 (wtStep pk sc zr g X)) -∗ WP c (k ⟨⟩) Q)
          -∗ WP c (deqRest arg5 arg6 arg14 harg14 g (rowOf zr g) >>= k) Q) := by
  unfold deqRest
  simp only [Prog.lift, Prog.bind_op, Prog.bind_ret]
  iintro ⟨H5, H6, HX⟩ Hk
  iapply (wp_loadO c arg6 _ _ sc) $$ H6; iintro H6
  iapply (wp_loadO c arg5 _ _ pk) $$ H5; iintro H5
  iapply (wp_loadO c arg14 _ _ _) $$ HX; iintro HX
  iapply (wp_storeO c arg14 _ _ _ _ _) $$ HX; iintro HX
  iapply (wp_loadO c arg14 _ _ _) $$ HX; iintro HX
  iapply (wp_storeO c arg14 _ _ _ _ _) $$ HX; iintro HX
  iapply Hk
  isplitl [H5]; · iexact H5
  isplitl [H6]; · iexact H6
  iexact HX

theorem wp_deqs (gs : List (Fin 24)) : ∀ (X : Vec F S3072x768 .bf16) {α : Type} (k : PUnit → PG (F := F) α) (Q : α → sProp 𝕄),
    iprop(own c arg5 pk ∗ own c arg6 sc ∗ own c arg7 zr ∗ own c arg14 X)
      ⊢ iprop(((own c arg5 pk ∗ own c arg6 sc ∗ own c arg7 zr ∗ own c arg14 (gs.foldl (fun X g => wtStep pk sc zr g X) X)) -∗ WP c (k ⟨⟩) Q)
          -∗ WP c (deqs arg5 arg6 arg7 arg14 harg14 gs >>= k) Q) := by
  induction gs with
  | nil =>
    intro X α k Q
    iintro H Hk
    iapply Hk; iexact H
  | cons g gs ih =>
    intro X α k Q
    have e : (deqs arg5 arg6 arg7 arg14 harg14 (g :: gs) >>= k)
        = (deqZ (F := F) arg7 g >>= fun z => deqRest arg5 arg6 arg14 harg14 g z >>= fun _ => deqs arg5 arg6 arg7 arg14 harg14 gs >>= k) := by
      rw [deqs]; simp only [bind_assoc]
    rw [e, List.foldl_cons]
    iintro ⟨H5, H6, H7, HX⟩ Hk
    iapply (wp_deqZ c arg7 zr g) $$ H7; iintro H7
    iapply (wp_deqRest c arg5 arg6 arg14 harg14 pk sc zr g X) $$ [H5 H6 HX]
    · isplitl [H5]; · iexact H5
      isplitl [H6]; · iexact H6
      iexact HX
    iintro ⟨H5, H6, HX⟩
    iapply (ih _ k Q) $$ [H5 H6 H7 HX]
    · isplitl [H5]; · iexact H5
      isplitl [H6]; · iexact H6
      isplitl [H7]; · iexact H7
      iexact HX
    iexact Hk

end Deq

/-! ## The statistics -/

section Stats

variable (c : Dev nD)

theorem putR_whole (w : Vec F S1536x128 .f32) (X : Vec F S1536x128 .f32) :
    putR (Rect.unit (s := S1536x128) ![0, 0] S1536x128.size inb_S1536x128_S1536x128_0_0) w X = w := by
  funext y
  have h : (Rect.unit (s := S1536x128) ![0, 0] S1536x128.size inb_S1536x128_S1536x128_0_0).emb y = y := by
    funext a; refine Fin.ext ?_; rw [Rect.emb_apply]; fin_cases a
    · show 0 + 1 * (y 0).val = (y 0).val; omega
    · show 0 + 1 * (y 1).val = (y 1).val; omega
  refine (congrArg _ h.symm).trans (putR_emb (Rect.unit (s := S1536x128) ![0, 0] S1536x128.size inb_S1536x128_S1536x128_0_0) w X y)

theorem wp_initOne (m : Memref sig .tc .vmem S1536x128 .f32) (x X : Vec F S1536x128 .f32) {α : Type} (k : PUnit → PG (F := F) α) (Q : α → sProp 𝕄) :
    own c m X ⊢ iprop((own c m x -∗ WP c (k ⟨⟩) Q) -∗ WP c (initOne m x >>= k) Q) := by
  unfold initOne
  simp only [Prog.lift, Prog.bind_op, Prog.bind_ret]
  iintro H Hk
  iapply (wp_loadO c m _ _ _) $$ H; iintro H
  iapply (wp_storeO c m _ _ _ _ _) $$ H
  rw [putR_whole]
  iexact Hk

/-- The rows of row block `rb` of a statistics buffer. -/
def rowsOf (rb : Fin 6) (X : Vec F S1536x128 .f32) : Vec F S256x128 .f32 :=
  fun y => X ((Rect.unit (s := S1536x128) ![256 * rb.val, 0] S256x128.size (inbSt rb)).toLoadRect.idx y)
/-- A statistics buffer with the rows of row block `rb` replaced. -/
def putRows (rb : Fin 6) (w : Vec F S256x128 .f32) (X : Vec F S1536x128 .f32) : Vec F S1536x128 .f32 :=
  putR (Rect.unit (s := S1536x128) ![256 * rb.val, 0] S256x128.size (inbSt rb)) w X

theorem wp_online (am al : Memref sig .tc .vmem S1536x128 .f32) (rb : Fin 6) (u : FVec F S256x768 .f32) (M L : Vec F S1536x128 .f32)
    {α : Type} (k : PUnit → PG (F := F) α) (Q : α → sProp 𝕄) :
    iprop(own c am M ∗ own c al L)
      ⊢ iprop(((own c am (putRows rb (mPay u (rowsOf rb M)) M) ∗ own c al (putRows rb (lPay u (rowsOf rb M) (rowsOf rb L)) L)) -∗ WP c (k ⟨⟩) Q)
          -∗ WP c (online am al rb u >>= k) Q) := by
  unfold online
  simp only [Prog.lift, Prog.bind_op, Prog.bind_ret]
  iintro ⟨HM, HL⟩ Hk
  iapply (wp_loadO c am _ _ _) $$ HM; iintro HM
  iapply (wp_loadO c al _ _ _) $$ HL; iintro HL
  iapply (wp_loadO c am _ _ _) $$ HM; iintro HM
  iapply (wp_storeO c am _ _ _ _ _) $$ HM; iintro HM
  iapply (wp_loadO c al _ _ _) $$ HL; iintro HL
  iapply (wp_storeO c al _ _ _ _ _) $$ HL; iintro HL
  iapply Hk
  isplitl [HM]; · iexact HM
  iexact HL

end Stats

/-! ## The double buffers and their copies -/

section Copies

variable (c : Dev nD)

theorem read_bufP (m : Memref sig .tc .vmem S2x1536x768 .f32) (s : ℕ) (hs : s < 2) (rb : Fin 6) (u : FVec F S256x768 .f32)
    (g : Buf (Elt F) (m.view.loc (c : Thread nD τ))) :
    (bufP m s hs rb).view.read (Elt F) ((m.access (Rect.unit (s := S2x1536x768) ![s, 256 * rb.val, 0] S1x256x768.size (inbBuf s hs rb))).write (Elt F) g
      (shapeCast S1x256x768 u shapeCasts_S256x768_S1x256x768) Finset.univ) = u := by
  funext y
  have h := congrFun (View.read_write_univ (Val := Elt F) (v := m.access (Rect.unit (s := S2x1536x768) ![s, 256 * rb.val, 0] S1x256x768.size (inbBuf s hs rb))) g
    (shapeCast S1x256x768 u shapeCasts_S256x768_S1x256x768)) (Shape.reshapeEquiv squeezes_S1x256x768_S256x768.numel_eq y)
  refine Eq.trans ?_ (h.trans ?_)
  · rfl
  · unfold shapeCast
    rw [Shape.reshapeEquiv_reshapeEquiv, Shape.reshapeEquiv_self]

theorem wp_putBuf (m : Memref sig .tc .vmem S2x1536x768 .f32) (s : ℕ) (hs : s < 2) (rb : Fin 6) (u X : FVec F S256x768 .f32)
    {α : Type} (k : PUnit → PG (F := F) α) (Q : α → sProp 𝕄) :
    own c (bufP m s hs rb) X ⊢ iprop((own c (bufP m s hs rb) u -∗ WP c (k ⟨⟩) Q) -∗ WP c (putBuf m s hs rb u >>= k) Q) := by
  unfold putBuf
  simp only [Prog.lift, Prog.bind_op, Prog.bind_ret]
  rw [← own_of_read c (bufP m s hs rb) _ u (read_bufP c m s hs rb u ((bufP m s hs rb).view.rep X))]
  have hset : (m.access (Rect.unit (s := S2x1536x768) ![s, 256 * rb.val, 0] S1x256x768.size (inbBuf s hs rb))).set = (bufP m s hs rb).view.set :=
    (View.set_reshape _ _).symm
  unfold own
  have h1 := wp_load (Val := Elt F) (defs := defs₀ (F := F)) (U := Pipeline.UD sig nD τ) (Name := ℕ) (Lvl := ℕ) (Ix := Unit) (Γ := PendingWaitsCtx.empty) Variants.none (c : Thread nD τ) none Set.univ (cs := .vmem) (m := m)
    (r := (Rect.unit (s := S2x1536x768) ![s, 256 * rb.val, 0] S1x256x768.size (inbBuf s hs rb)).toLoadRect) (hl := View.loadsAt_vmem h_S1x256x768) (q := fullShare)
    (S := (bufP m s hs rb).view.set) (f := (bufP m s hs rb).view.rep X) (Q := Q)
    (k := fun _ => Prog.op (.store m (Rect.unit (s := S2x1536x768) ![s, 256 * rb.val, 0] S1x256x768.size (inbBuf s hs rb)) (shapeCast S1x256x768 u shapeCasts_S256x768_S1x256x768) Finset.univ (View.stores_vmem_bits_univ h_S1x256x768 rfl) (.inl rfl)) k)
    (by rw [← hset]; exact (View.set_slice m.view _).symm.subset)
  have h2 := wp_store (Val := Elt F) (defs := defs₀ (F := F)) (U := Pipeline.UD sig nD τ) (Name := ℕ) (Lvl := ℕ) (Ix := Unit) (Γ := PendingWaitsCtx.empty) Variants.none (c : Thread nD τ) none Set.univ (cs := .vmem) (m := m)
    (r := Rect.unit (s := S2x1536x768) ![s, 256 * rb.val, 0] S1x256x768.size (inbBuf s hs rb)) (w := shapeCast S1x256x768 u shapeCasts_S256x768_S1x256x768)
    (hx := View.stores_vmem_bits_univ h_S1x256x768 rfl) (hm := .inl rfl) (k := k) (Q := Q)
    (S := (bufP m s hs rb).view.set) (f := (bufP m s hs rb).view.rep X) hset.subset
  iintro H Hk
  iapply h1 $$ H
  iintro H
  iapply h2 $$ H
  iexact Hk

variable (arg10 arg11 : Memref sig .tc .hbm S167x1536x768 .f32) (arg15 arg16 : Memref sig .tc .vmem S2x1536x768 .f32) (arg21 : DmaSems sig S2x2x6)

/-- A semaphore of the kernel's at zero. -/
def sem0 (s : ℕ) (hs : s < 2) (a : Fin 2) (rb : Fin 6) : sProp 𝕄 := semVal ((c : Thread nD τ), .dma (semP arg21 s hs a rb).sem) 0
/-- One copy under way: at its wait it hands over the output's piece holding `X`, and the buffer's piece. -/
def fly1 (m : Memref sig .tc .vmem S2x1536x768 .f32) (o : Memref sig .tc .hbm S167x1536x768 .f32) (a : Fin 2) (s : ℕ) (hs : s < 2) (v : ℕ) (hv : v < 167)
    (rb : Fin 6) (X : FVec F S256x768 .f32) : sProp 𝕄 :=
  Transfers.Flight countersEmb (c : Thread nD τ) (.dma (semP arg21 s hs a rb).sem) () (outP o v hv rb).view.dmaCredit
    iprop(own c (outP o v hv rb) X ∗ own c (bufP m s hs rb) X)

theorem wp_startOne (m : Memref sig .tc .vmem S2x1536x768 .f32) (o : Memref sig .tc .hbm S167x1536x768 .f32) (a : Fin 2) (s : ℕ) (hs : s < 2) (v : ℕ) (hv : v < 167)
    (rb : Fin 6) (X : FVec F S256x768 .f32) (V : Buf (Elt F) (o.view.loc (c : Thread nD τ))) {α : Type} (k : PUnit → PG (F := F) α) (Q : α → sProp 𝕄) :
    iprop(own c (bufP m s hs rb) X ∗ (o.view.loc (c : Thread nD τ) ↦[(outP o v hv rb).view.set]{fullShare} V) ∗ sem0 c arg21 s hs a rb)
      ⊢ iprop((fly1 c arg21 m o a s hs v hv rb X -∗ WP c (k ⟨⟩) Q) -∗ WP c (startOne arg21 m o a s hs v hv rb >>= k) Q) := by
  unfold startOne fly1 sem0
  simp only [Prog.lift, Prog.bind_op, Prog.bind_ret]
  rw [← own_of_read c (outP o v hv rb) ((outP o v hv rb).view.write (Elt F) V ((ReadAs.same).apply ((bufP m s hs rb).view.read (Elt F) ((bufP m s hs rb).view.rep X))) Finset.univ) X
    ((View.read_write_univ _ _).trans (View.read_rep _ _))]
  unfold own
  have h := Transfers.wp_dmaLocal (Val := Elt F) (defs := defs₀ (F := F)) (U := Pipeline.UD sig nD τ) (Name := ℕ) (Lvl := ℕ) (Ix := Unit) countersEmb Variants.none (c : Thread nD τ) none
    (src := bufP m s hs rb) (via := ReadAs.same) (dst := outP o v hv rb) (sm := .dma (semP arg21 s hs a rb).sem) (hsrc := (View.wordExact_bits rfl).reshape _ _)
    (hdst := (View.wordExact_bits rfl).reshape _ _) (hsem := ⟨Or.inl rfl, trivial⟩) (k := k) (Q := Q) (q := fullShare) (fs := (bufP m s hs rb).view.rep X)
    (Sd := (outP o v hv rb).view.set) (fd := V) () (outP o v hv rb).view.dmaCredit rfl (View.dmaCredit_pos _ (by decide)) (Finset.Subset.refl _)
  exact h

theorem wp_waitOne (m : Memref sig .tc .vmem S2x1536x768 .f32) (o : Memref sig .tc .hbm S167x1536x768 .f32) (a : Fin 2) (s : ℕ) (hs : s < 2) (v : ℕ) (hv : v < 167)
    (rb : Fin 6) (X : FVec F S256x768 .f32) (W : Waits sig Unit) {α : Type} (k : PUnit → PG (F := F) α) (Q : α → sProp 𝕄) :
    iprop(fly1 c arg21 m o a s hs v hv rb X ∗ owes (c : Thread nD τ) 0 W)
      ⊢ iprop(((own c (outP o v hv rb) X ∗ own c (bufP m s hs rb) X ∗ sem0 c arg21 s hs a rb ∗ ∃ W', owes (c : Thread nD τ) 0 W') -∗ WP c (k ⟨⟩) Q)
          -∗ WP c (waitOne arg21 m o a s hs v hv rb >>= k) Q) := by
  unfold waitOne fly1 sem0
  simp only [Prog.lift, Prog.bind_op, Prog.bind_ret]
  iintro H Hk
  iapply (Transfers.wp_waitLocal countersEmb Variants.none (c : Thread nD τ) none () rfl) $$ H
  iintro ⟨⟨HO, HB⟩, HS, HW⟩
  iapply Hk
  isplitl [HO]; · iexact HO
  isplitl [HB]; · iexact HB
  isplitl [HS]; · iexact HS
  iexists _; iexact HW

/-- A row block's piece of a slot free: its two buffers at anything, its two semaphores at zero. -/
def idle (s : ℕ) (hs : s < 2) (rb : Fin 6) : sProp 𝕄 :=
  iprop((∃ X : FVec F S256x768 .f32, own c (bufP arg15 s hs rb) X) ∗ (∃ X : FVec F S256x768 .f32, own c (bufP arg16 s hs rb) X)
    ∗ sem0 c arg21 s hs 0 rb ∗ sem0 c arg21 s hs 1 rb)
/-- The same with the two buffers at given values. -/
def filled (s : ℕ) (hs : s < 2) (rb : Fin 6) (X Y : FVec F S256x768 .f32) : sProp 𝕄 :=
  iprop(own c (bufP arg15 s hs rb) X ∗ own c (bufP arg16 s hs rb) Y ∗ sem0 c arg21 s hs 0 rb ∗ sem0 c arg21 s hs 1 rb)

variable (VT : Buf (Elt F) (arg10.view.loc (c : Thread nD τ))) (VS : Buf (Elt F) (arg11.view.loc (c : Thread nD τ)))

/-- A row block of a tile of the two outputs as at launch. -/
def outV (v : ℕ) (hv : v < 167) (rb : Fin 6) : sProp 𝕄 :=
  iprop((arg10.view.loc (c : Thread nD τ) ↦[(outP arg10 v hv rb).view.set]{fullShare} VT) ∗ (arg11.view.loc (c : Thread nD τ) ↦[(outP arg11 v hv rb).view.set]{fullShare} VS))
/-- The same when the tile is done: a live row block holds its logits, another is as at launch. -/
def outD (v0 : BitVec 32) (v : ℕ) (hv : v < 167) (rb : Fin 6) (X Y : FVec F S256x768 .f32) : sProp 𝕄 :=
  if liveC v0 rb then iprop(own c (outP arg10 v hv rb) X ∗ own c (outP arg11 v hv rb) Y) else outV c arg10 arg11 VT VS v hv rb
/-- A row block of a slot after its starts: a live one's copies under way, another's piece free and the outputs' pieces as at launch. -/
def flying (v0 : BitVec 32) (s : ℕ) (hs : s < 2) (v : ℕ) (hv : v < 167) (rb : Fin 6) (X Y : FVec F S256x768 .f32) : sProp 𝕄 :=
  if liveC v0 rb then iprop(fly1 c arg21 arg15 arg10 0 s hs v hv rb X ∗ fly1 c arg21 arg16 arg11 1 s hs v hv rb Y)
  else iprop(idle c arg15 arg16 arg21 s hs rb ∗ outV c arg10 arg11 VT VS v hv rb)

theorem wp_startC (v0 : BitVec 32) (s : ℕ) (hs : s < 2) (v : ℕ) (hv : v < 167) (rb : Fin 6) (X Y : FVec F S256x768 .f32) {α : Type} (k : PG (F := F) α) (Q : α → sProp 𝕄) :
    iprop(filled c arg15 arg16 arg21 s hs rb X Y ∗ outV c arg10 arg11 VT VS v hv rb)
      ⊢ iprop((flying c arg10 arg11 arg15 arg16 arg21 VT VS v0 s hs v hv rb X Y -∗ WP c k Q) -∗ WP c (startC arg10 arg11 arg15 arg16 arg21 v0 s hs v hv rb k) Q) := by
  unfold startC flying filled outV
  by_cases h : liveC v0 rb
  · rw [if_pos h, if_pos h]
    iintro ⟨⟨H15, H16, HS0, HS1⟩, HT, HU⟩ Hk
    iapply (wp_startOne c arg21 arg15 arg10 0 s hs v hv rb X VT) $$ [H15 HT HS0]
    · isplitl [H15]; · iexact H15
      isplitl [HT]; · iexact HT
      iexact HS0
    iintro HF
    iapply (wp_startOne c arg21 arg16 arg11 1 s hs v hv rb Y VS) $$ [H16 HU HS1]
    · isplitl [H16]; · iexact H16
      isplitl [HU]; · iexact HU
      iexact HS1
    iintro HG
    iapply Hk
    isplitl [HF]; · iexact HF
    iexact HG
  · rw [if_neg h, if_neg h]
    unfold idle
    iintro ⟨⟨H15, H16, HS0, HS1⟩, HT⟩ Hk
    iapply Hk
    isplitl [H15 H16 HS0 HS1]
    · isplitl [H15]; · iexists X; iexact H15
      isplitl [H16]; · iexists Y; iexact H16
      isplitl [HS0]; · iexact HS0
      iexact HS1
    iexact HT

theorem wp_waitC (v0 : BitVec 32) (s : ℕ) (hs : s < 2) (v : ℕ) (hv : v < 167) (rb : Fin 6) (X Y : FVec F S256x768 .f32) {α : Type} (k : PG (F := F) α) (Q : α → sProp 𝕄) :
    iprop(flying c arg10 arg11 arg15 arg16 arg21 VT VS v0 s hs v hv rb X Y ∗ ∃ W, owes (c : Thread nD τ) 0 W)
      ⊢ iprop(((idle c arg15 arg16 arg21 s hs rb ∗ outD c arg10 arg11 VT VS v0 v hv rb X Y ∗ ∃ W, owes (c : Thread nD τ) 0 W) -∗ WP c k Q)
          -∗ WP c (waitC arg10 arg11 arg15 arg16 arg21 v0 s hs v hv rb k) Q) := by
  unfold waitC flying idle outD
  by_cases h : liveC v0 rb
  · rw [if_pos h, if_pos h, if_pos h]
    iintro ⟨⟨HF, HG⟩, ⟨%W, HW⟩⟩ Hk
    iapply (wp_waitOne c arg21 arg15 arg10 0 s hs v hv rb X W) $$ [HF HW]
    · isplitl [HF]; · iexact HF
      iexact HW
    iintro ⟨HT, H15, HS0, ⟨%W', HW⟩⟩
    iapply (wp_waitOne c arg21 arg16 arg11 1 s hs v hv rb Y W') $$ [HG HW]
    · isplitl [HG]; · iexact HG
      iexact HW
    iintro ⟨HU, H16, HS1, HW⟩
    iapply Hk
    isplitl [H15 H16 HS0 HS1]
    · isplitl [H15]; · iexists X; iexact H15
      isplitl [H16]; · iexists Y; iexact H16
      isplitl [HS0]; · iexact HS0
      iexact HS1
    isplitl [HT HU]
    · isplitl [HT]; · iexact HT
      iexact HU
    iexact HW
  · rw [if_neg h, if_neg h, if_neg h]
    iintro ⟨⟨HI, HV⟩, HW⟩ Hk
    iapply Hk
    isplitl [HI]; · iexact HI
    isplitl [HV]; · iexact HV
    iexact HW

end Copies

end Cert.Proof.Fwd

end
-- ==== Proof.Run.lean ====
/-
  One grid point of `fwd` run on core `c`: its head, the work on the six row blocks, the starts of the copies and the last
  point's own work.
-/
module

public import proofs.«01_k».proof.Proof.Wp

@[expose] public section

set_option maxRecDepth 65536

noncomputable section

namespace Cert.Proof.Fwd

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem WP_bind (c : Dev nD) {α β : Type} (p : PG (F := F) α) (k : α → PG (F := F) β) (Q : β → sProp 𝕄) :
    WP c (p >>= k) Q = WP c p (fun a => WP c (k a) Q) := wp_bind _ _ _ p k Q
theorem WP_pure (c : Dev nD) {α : Type} (a : α) (Q : α → sProp 𝕄) : WP c (pure a : PG (F := F) α) Q = iprop(|={Set.univ}=> Q a) := rfl

/-- The values of a grid point's input blocks. -/
structure Ins (F : FTy → Type) where
  /-- the teacher's activations, even columns then odd ones within each group -/
  hb : Vec F S1536x3072 .bf16
  /-- the student's activations -/
  pc : Vec F S1536x2048 .fp8e4m3
  /-- the student's row scales -/
  ps : Vec F S1536x128 .f32
  /-- the packed codes -/
  pk : Vec F S1536x768 .i8
  /-- the groups' scales -/
  sc : Vec F S24x768 .f32
  /-- the groups' zeros -/
  zr : Vec F S24x768 .f32
  /-- the student's weights -/
  ws : Vec F S768x2048 .fp8e4m3
  /-- the student's column scales -/
  wss : Vec F S1x1x768 .f32

/-- The running statistics: maxima and sums, the teacher's and the student's. -/
structure St (F : FTy → Type) where
  /-- the teacher's running maxima -/
  mt : Vec F S1536x128 .f32
  /-- the teacher's running sums -/
  lt : Vec F S1536x128 .f32
  /-- the student's running maxima -/
  ms : Vec F S1536x128 .f32
  /-- the student's running sums -/
  ls : Vec F S1536x128 .f32

/-- The teacher's logits of row block `rb`. -/
def uT (hb : Vec F S1536x3072 .bf16) (W : Vec F S3072x768 .bf16) (rb : Fin 6) : FVec F S256x768 .f32 :=
  k0_pay128 (fun y => hb ((Rect.unit (s := S1536x3072) ![256 * rb.val, 0] S256x3072.size (inbHt rb)).toLoadRect.idx y))
    (fun y => W ((Rect.unit (s := S3072x768) ![0, 0] S3072x768.size inb_S3072x768_S3072x768_0_0).toLoadRect.idx y))
/-- The student's logits of row block `rb`. -/
def uS (I : Ins F) (rb : Fin 6) : FVec F S256x768 .f32 :=
  k0_pay140 (k0_pay127 (fun y => I.wss ((Rect.unit (s := S1x1x768) ![0, 0, 0] S1x1x768.size inb_S1x1x768_S1x1x768_0_0_0).toLoadRect.idx y)))
    (fun y => I.pc ((Rect.unit (s := S1536x2048) ![256 * rb.val, 0] S256x2048.size (inbPc rb)).toLoadRect.idx y))
    (fun y => I.ws ((Rect.unit (s := S768x2048) ![0, 0] S768x2048.size inb_S768x2048_S768x2048_0_0).toLoadRect.idx y))
    (rowsOf rb I.ps)

/-- The statistics after row block `rb` of a tile. -/
def stepRb (I : Ins F) (W : Vec F S3072x768 .bf16) (S : St F) (rb : Fin 6) : St F where
  mt := putRows rb (mPay (uT I.hb W rb) (rowsOf rb S.mt)) S.mt
  lt := putRows rb (lPay (uT I.hb W rb) (rowsOf rb S.mt) (rowsOf rb S.lt)) S.lt
  ms := putRows rb (mPay (uS I rb) (rowsOf rb S.ms)) S.ms
  ls := putRows rb (lPay (uS I rb) (rowsOf rb S.ms) (rowsOf rb S.ls)) S.ls
/-- The statistics after a tile. -/
def stepT (I : Ins F) (W : Vec F S3072x768 .bf16) (S : St F) : St F :=
  stepRb I W (stepRb I W (stepRb I W (stepRb I W (stepRb I W (stepRb I W S 0) 1) 2) 3) 4) 5
/-- The statistics at the start. -/
def st0 : St F := ⟨k0_pay3, k0_pay5, k0_pay4, k0_pay6⟩

/-- The dequantised matrix a grid point leaves, from what it found. -/
def wtAll (I : Ins F) (X : Vec F S3072x768 .bf16) : Vec F S3072x768 .bf16 :=
  [2, 3, 4, 5, 6, 7, 8, 9, 10, 11, 12, 13, 14, 15, 16, 17, 18, 19, 20, 21, 22, 23].foldl (fun X g => wtStep I.pk I.sc I.zr g X)
    (wtStep I.pk I.sc I.zr 1 (wtStep I.pk I.sc I.zr 0 X))

/-- Something of each of the six row blocks. -/
def six (Φ : Fin 6 → sProp 𝕄) : sProp 𝕄 := iprop(Φ 0 ∗ Φ 1 ∗ Φ 2 ∗ Φ 3 ∗ Φ 4 ∗ Φ 5)

section Run

variable (c : Dev nD)
variable (arg1 : Memref sig .tc .smem S1 .i32) (arg2 : Memref sig .tc .vmem S1536x3072 .bf16) (arg3 : Memref sig .tc .vmem S1536x2048 .fp8e4m3)
  (arg4 : Memref sig .tc .vmem S1536x128 .f32) (arg5 : Memref sig .tc .vmem S1536x768 .i8) (arg6 arg7 : Memref sig .tc .vmem S24x768 .f32)
  (arg8 : Memref sig .tc .vmem S768x2048 .fp8e4m3) (arg9 : Memref sig .tc .vmem S1x1x768 .f32)
  (arg10 arg11 : Memref sig .tc .hbm S167x1536x768 .f32) (arg12 arg13 : Memref sig .tc .vmem S1536x128 .f32)
  (arg14 : Memref sig .tc .vmem S3072x768 .bf16) (harg14 : arg14.IsWhole) (arg15 arg16 : Memref sig .tc .vmem S2x1536x768 .f32)
  (arg17 arg18 arg19 arg20 : Memref sig .tc .vmem S1536x128 .f32) (arg21 : DmaSems sig S2x2x6)

/-- The statistics buffers held at `S`. -/
def ownSt (S : St F) : sProp 𝕄 := iprop(own c arg17 S.mt ∗ own c arg18 S.lt ∗ own c arg19 S.ms ∗ own c arg20 S.ls)
/-- The inputs a row block reads. -/
def ownRd (I : Ins F) (W : Vec F S3072x768 .bf16) : sProp 𝕄 :=
  iprop(own c arg2 I.hb ∗ own c arg3 I.pc ∗ own c arg4 I.ps ∗ own c arg8 I.ws ∗ own c arg14 W)
/-- The inputs the dequantisation reads. -/
def ownDq (I : Ins F) : sProp 𝕄 := iprop(own c arg5 I.pk ∗ own c arg6 I.sc ∗ own c arg7 I.zr)

theorem wp_rowBlk (I : Ins F) (W : Vec F S3072x768 .bf16) (S : St F) (s : ℕ) (hs : s < 2) (rb : Fin 6) {α : Type} (k : PUnit → PG (F := F) α) (Q : α → sProp 𝕄) :
    iprop(ownRd c arg2 arg3 arg4 arg8 arg14 I W ∗ ownSt c arg17 arg18 arg19 arg20 S ∗ idle c arg15 arg16 arg21 s hs rb)
      ⊢ iprop(((ownRd c arg2 arg3 arg4 arg8 arg14 I W ∗ ownSt c arg17 arg18 arg19 arg20 (stepRb I W S rb)
            ∗ filled c arg15 arg16 arg21 s hs rb (uT I.hb W rb) (uS I rb)) -∗ WP c (k ⟨⟩) Q)
          -∗ WP c (rowBlk arg2 arg3 arg4 arg8 arg14 arg15 arg16 arg17 arg18 arg19 arg20 s hs
              (k0_pay127 (fun y => I.wss ((Rect.unit (s := S1x1x768) ![0, 0, 0] S1x1x768.size inb_S1x1x768_S1x1x768_0_0_0).toLoadRect.idx y))) rb >>= k) Q) := by
  unfold rowBlk ownRd ownSt idle filled
  simp only [Prog.lift, Prog.bind_op, Prog.bind_ret, bind_assoc]
  iintro ⟨⟨H2, H3, H4, H8, H14⟩, ⟨H17, H18, H19, H20⟩, ⟨⟨%X, H15⟩, ⟨%Y, H16⟩, HS⟩⟩ Hk
  iapply (wp_loadO c arg2 _ _ _) $$ H2; iintro H2
  iapply (wp_loadO c arg14 _ _ _) $$ H14; iintro H14
  iapply (wp_putBuf c arg15 s hs rb (uT I.hb W rb) X) $$ H15; iintro H15
  iapply (wp_online c arg17 arg18 rb (uT I.hb W rb) S.mt S.lt) $$ [H17 H18]
  · isplitl [H17]; · iexact H17
    iexact H18
  iintro ⟨H17, H18⟩
  iapply (wp_loadO c arg3 _ _ _) $$ H3; iintro H3
  iapply (wp_loadO c arg8 _ _ _) $$ H8; iintro H8
  iapply (wp_loadO c arg4 _ _ _) $$ H4; iintro H4
  iapply (wp_putBuf c arg16 s hs rb (uS I rb) Y) $$ H16; iintro H16
  iapply (wp_online c arg19 arg20 rb (uS I rb) S.ms S.ls) $$ [H19 H20]
  · isplitl [H19]; · iexact H19
    iexact H20
  iintro ⟨H19, H20⟩
  iapply Hk
  isplitl [H2 H3 H4 H8 H14]
  · isplitl [H2]; · iexact H2
    isplitl [H3]; · iexact H3
    isplitl [H4]; · iexact H4
    isplitl [H8]; · iexact H8
    iexact H14
  isplitl [H17 H18 H19 H20]
  · isplitl [H17]; · iexact H17
    isplitl [H18]; · iexact H18
    isplitl [H19]; · iexact H19
    iexact H20
  isplitl [H15]; · iexact H15
  isplitl [H16]; · iexact H16
  iexact HS

theorem wp_initAll (S : St F) {α : Type} (k : PUnit → PG (F := F) α) (Q : α → sProp 𝕄) :
    ownSt c arg17 arg18 arg19 arg20 S ⊢ iprop((ownSt c arg17 arg18 arg19 arg20 st0 -∗ WP c (k ⟨⟩) Q) -∗ WP c (initAll arg17 arg18 arg19 arg20 >>= k) Q) := by
  unfold initAll ownSt st0
  simp only [bind_assoc]
  iintro ⟨H17, H18, H19, H20⟩ Hk
  iapply (wp_initOne c arg17 _ _) $$ H17; iintro H17
  iapply (wp_initOne c arg19 _ _) $$ H19; iintro H19
  iapply (wp_initOne c arg18 _ _) $$ H18; iintro H18
  iapply (wp_initOne c arg20 _ _) $$ H20; iintro H20
  iapply Hk
  isplitl [H17]; · iexact H17
  isplitl [H18]; · iexact H18
  isplitl [H19]; · iexact H19
  iexact H20

/-- What a load of a whole statistics buffer reads. -/
def ldW (X : Vec F S1536x128 .f32) : Vec F S1536x128 .f32 :=
  fun y => X ((Rect.unit (s := S1536x128) ![0, 0] S1536x128.size inb_S1536x128_S1536x128_0_0).toLoadRect.idx y)
theorem ldW_eq (X : Vec F S1536x128 .f32) : ldW X = X := by
  funext y
  refine congrArg X ?_
  funext a; refine Fin.ext ?_; fin_cases a
  · show 0 + 1 * (y 0).val = (y 0).val; omega
  · show 0 + 1 * (y 1).val = (y 1).val; omega

theorem wp_lastAll (S : St F) (Z Z' : Vec F S1536x128 .f32) {α : Type} (k : PUnit → PG (F := F) α) (Q : α → sProp 𝕄) :
    iprop(ownSt c arg17 arg18 arg19 arg20 S ∗ own c arg12 Z ∗ own c arg13 Z')
      ⊢ iprop(((ownSt c arg17 arg18 arg19 arg20 S ∗ own c arg12 (k0_pay1 S.mt S.lt) ∗ own c arg13 (k0_pay2 S.ms S.ls)) -∗ WP c (k ⟨⟩) Q)
          -∗ WP c (lastAll arg12 arg13 arg17 arg18 arg19 arg20 >>= k) Q) := by
  have e1 : k0_pay1 S.mt S.lt = k0_pay1 (ldW S.mt) (ldW S.lt) := by rw [ldW_eq, ldW_eq]
  have e2 : k0_pay2 S.ms S.ls = k0_pay2 (ldW S.ms) (ldW S.ls) := by rw [ldW_eq, ldW_eq]
  rw [e1, e2]
  unfold lastAll ownSt
  simp only [Prog.lift, Prog.bind_op, Prog.bind_ret, bind_assoc]
  iintro ⟨⟨H17, H18, H19, H20⟩, H12, H13⟩ Hk
  iapply (wp_loadO c arg17 _ _ _) $$ H17; iintro H17
  iapply (wp_loadO c arg18 _ _ _) $$ H18; iintro H18
  iapply (wp_initOne c arg12 (k0_pay1 (ldW S.mt) (ldW S.lt)) Z) $$ H12; iintro H12
  iapply (wp_loadO c arg19 _ _ _) $$ H19; iintro H19
  iapply (wp_loadO c arg20 _ _ _) $$ H20; iintro H20
  iapply (wp_initOne c arg13 (k0_pay2 (ldW S.ms) (ldW S.ls)) Z') $$ H13; iintro H13
  iapply Hk
  isplitl [H17 H18 H19 H20]
  · isplitl [H17]; · iexact H17
    isplitl [H18]; · iexact H18
    isplitl [H19]; · iexact H19
    iexact H20
  isplitl [H12]; · iexact H12
  iexact H13

/-! ## The waits and the starts of a tile -/

variable (VT : Buf (Elt F) (arg10.view.loc (c : Thread nD τ))) (VS : Buf (Elt F) (arg11.view.loc (c : Thread nD τ)))

/-- The six waits of a tile. -/
theorem wp_wait6 (v0 : BitVec 32) (s : ℕ) (hs : s < 2) (v : ℕ) (hv : v < 167) (X Y : Fin 6 → FVec F S256x768 .f32) {α : Type} (k : PG (F := F) α) (Q : α → sProp 𝕄) :
    iprop(six (fun rb => flying c arg10 arg11 arg15 arg16 arg21 VT VS v0 s hs v hv rb (X rb) (Y rb)) ∗ ∃ W, owes (c : Thread nD τ) 0 W)
      ⊢ iprop(((six (fun rb => idle c arg15 arg16 arg21 s hs rb) ∗ six (fun rb => outD c arg10 arg11 VT VS v0 v hv rb (X rb) (Y rb)) ∗ ∃ W, owes (c : Thread nD τ) 0 W) -∗ WP c k Q)
          -∗ WP c (waitC arg10 arg11 arg15 arg16 arg21 v0 s hs v hv 0 (waitC arg10 arg11 arg15 arg16 arg21 v0 s hs v hv 1 (waitC arg10 arg11 arg15 arg16 arg21 v0 s hs v hv 2
            (waitC arg10 arg11 arg15 arg16 arg21 v0 s hs v hv 3 (waitC arg10 arg11 arg15 arg16 arg21 v0 s hs v hv 4 (waitC arg10 arg11 arg15 arg16 arg21 v0 s hs v hv 5 k)))))) Q) := by
  unfold six
  iintro ⟨⟨H0, H1, H2, H3, H4, H5⟩, HW⟩ Hk
  iapply (wp_waitC c arg10 arg11 arg15 arg16 arg21 VT VS v0 s hs v hv 0 (X 0) (Y 0)) $$ [H0 HW]
  · isplitl [H0]; · iexact H0
    iexact HW
  iintro ⟨H0, D0, HW⟩
  iapply (wp_waitC c arg10 arg11 arg15 arg16 arg21 VT VS v0 s hs v hv 1 (X 1) (Y 1)) $$ [H1 HW]
  · isplitl [H1]; · iexact H1
    iexact HW
  iintro ⟨H1, D1, HW⟩
  iapply (wp_waitC c arg10 arg11 arg15 arg16 arg21 VT VS v0 s hs v hv 2 (X 2) (Y 2)) $$ [H2 HW]
  · isplitl [H2]; · iexact H2
    iexact HW
  iintro ⟨H2, D2, HW⟩
  iapply (wp_waitC c arg10 arg11 arg15 arg16 arg21 VT VS v0 s hs v hv 3 (X 3) (Y 3)) $$ [H3 HW]
  · isplitl [H3]; · iexact H3
    iexact HW
  iintro ⟨H3, D3, HW⟩
  iapply (wp_waitC c arg10 arg11 arg15 arg16 arg21 VT VS v0 s hs v hv 4 (X 4) (Y 4)) $$ [H4 HW]
  · isplitl [H4]; · iexact H4
    iexact HW
  iintro ⟨H4, D4, HW⟩
  iapply (wp_waitC c arg10 arg11 arg15 arg16 arg21 VT VS v0 s hs v hv 5 (X 5) (Y 5)) $$ [H5 HW]
  · isplitl [H5]; · iexact H5
    iexact HW
  iintro ⟨H5, D5, HW⟩
  iapply Hk
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [D0 D1 D2 D3 D4 D5]
  · isplitl [D0]; · iexact D0
    isplitl [D1]; · iexact D1
    isplitl [D2]; · iexact D2
    isplitl [D3]; · iexact D3
    isplitl [D4]; · iexact D4
    iexact D5
  iexact HW

/-- The starts of the copies of a tile's first four row blocks. -/
theorem wp_start4 (i : grid0.Coords) (v0 : BitVec 32) (X Y : Fin 6 → FVec F S256x768 .f32) {α : Type} (k : BitVec 1 → PG (F := F) α) (Q : α → sProp 𝕄) :
    iprop(six (fun rb => filled c arg15 arg16 arg21 (slW i).toNat (slW_lt i) rb (X rb) (Y rb)) ∗ six (fun rb => outV c arg10 arg11 VT VS (BitVec.ofNat 32 (i 0).val : BitVec 32).toNat (ptW_lt i) rb))
      ⊢ iprop((((flying c arg10 arg11 arg15 arg16 arg21 VT VS v0 (slW i).toNat (slW_lt i) (BitVec.ofNat 32 (i 0).val : BitVec 32).toNat (ptW_lt i) 0 (X 0) (Y 0)
            ∗ flying c arg10 arg11 arg15 arg16 arg21 VT VS v0 (slW i).toNat (slW_lt i) (BitVec.ofNat 32 (i 0).val : BitVec 32).toNat (ptW_lt i) 1 (X 1) (Y 1)
            ∗ flying c arg10 arg11 arg15 arg16 arg21 VT VS v0 (slW i).toNat (slW_lt i) (BitVec.ofNat 32 (i 0).val : BitVec 32).toNat (ptW_lt i) 2 (X 2) (Y 2)
            ∗ flying c arg10 arg11 arg15 arg16 arg21 VT VS v0 (slW i).toNat (slW_lt i) (BitVec.ofNat 32 (i 0).val : BitVec 32).toNat (ptW_lt i) 3 (X 3) (Y 3))
            ∗ (filled c arg15 arg16 arg21 (slW i).toNat (slW_lt i) 4 (X 4) (Y 4) ∗ outV c arg10 arg11 VT VS (BitVec.ofNat 32 (i 0).val : BitVec 32).toNat (ptW_lt i) 4)
            ∗ (filled c arg15 arg16 arg21 (slW i).toNat (slW_lt i) 5 (X 5) (Y 5) ∗ outV c arg10 arg11 VT VS (BitVec.ofNat 32 (i 0).val : BitVec 32).toNat (ptW_lt i) 5)) -∗ WP c (k (Scalar.cmpi .sgt v0 4#32)) Q)
          -∗ WP c (bodyStart arg10 arg11 arg15 arg16 arg21 i v0 >>= k) Q) := by
  rw [WP_bind]
  unfold six bodyStart
  iintro ⟨⟨H0, H1, H2, H3, H4, H5⟩, V0, V1, V2, V3, V4, V5⟩ Hk
  iapply (wp_startC c arg10 arg11 arg15 arg16 arg21 VT VS v0 _ (slW_lt i) _ (ptW_lt i) 0 (X 0) (Y 0)) $$ [H0 V0]
  · isplitl [H0]; · iexact H0
    iexact V0
  iintro H0
  iapply (wp_startC c arg10 arg11 arg15 arg16 arg21 VT VS v0 _ (slW_lt i) _ (ptW_lt i) 1 (X 1) (Y 1)) $$ [H1 V1]
  · isplitl [H1]; · iexact H1
    iexact V1
  iintro H1
  iapply (wp_startC c arg10 arg11 arg15 arg16 arg21 VT VS v0 _ (slW_lt i) _ (ptW_lt i) 2 (X 2) (Y 2)) $$ [H2 V2]
  · isplitl [H2]; · iexact H2
    iexact V2
  iintro H2
  iapply (wp_startC c arg10 arg11 arg15 arg16 arg21 VT VS v0 _ (slW_lt i) _ (ptW_lt i) 3 (X 3) (Y 3)) $$ [H3 V3]
  · isplitl [H3]; · iexact H3
    iexact V3
  iintro H3
  rw [WP_pure]
  imodintro
  iapply Hk
  isplitl [H0 H1 H2 H3]
  · isplitl [H0]; · iexact H0
    isplitl [H1]; · iexact H1
    isplitl [H2]; · iexact H2
    iexact H3
  isplitl [H4 V4]
  · isplitl [H4]; · iexact H4
    iexact V4
  isplitl [H5]; · iexact H5
  iexact V5

end Run

end Cert.Proof.Fwd

end
-- ==== Proof.Run2.lean ====
/-
  One whole grid point of `fwd` run on core `c`.
-/
module

public import proofs.«01_k».proof.Proof.Run

@[expose] public section

set_option maxRecDepth 65536

noncomputable section

namespace Cert.Proof.Fwd

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem six_eq (Φ : Fin 6 → sProp 𝕄) : six Φ = iprop(Φ 0 ∗ Φ 1 ∗ Φ 2 ∗ Φ 3 ∗ Φ 4 ∗ Φ 5) := rfl

section Point

variable (c : Dev nD)
  (i : grid0.Coords) (arg1 : Memref sig .tc .smem S1 .i32) (harg1 : arg1.IsWhole) (arg2 : Memref sig .tc .vmem S1536x3072 .bf16) (harg2 : arg2.IsWhole)
  (arg3 : Memref sig .tc .vmem S1536x2048 .fp8e4m3) (harg3 : arg3.IsWhole) (arg4 : Memref sig .tc .vmem S1536x128 .f32) (harg4 : arg4.IsWhole)
  (arg5 : Memref sig .tc .vmem S1536x768 .i8) (harg5 : arg5.IsWhole) (arg6 : Memref sig .tc .vmem S24x768 .f32) (harg6 : arg6.IsWhole)
  (arg7 : Memref sig .tc .vmem S24x768 .f32) (harg7 : arg7.IsWhole) (arg8 : Memref sig .tc .vmem S768x2048 .fp8e4m3) (harg8 : arg8.IsWhole)
  (arg9 : Memref sig .tc .vmem S1x1x768 .f32) (harg9 : arg9.IsWhole) (arg10 : Memref sig .tc .hbm S167x1536x768 .f32) (harg10 : arg10.IsWhole)
  (arg11 : Memref sig .tc .hbm S167x1536x768 .f32) (harg11 : arg11.IsWhole) (arg12 : Memref sig .tc .vmem S1536x128 .f32) (harg12 : arg12.IsWhole)
  (arg13 : Memref sig .tc .vmem S1536x128 .f32) (harg13 : arg13.IsWhole) (arg14 : Memref sig .tc .vmem S3072x768 .bf16) (harg14 : arg14.IsWhole)
  (arg15 : Memref sig .tc .vmem S2x1536x768 .f32) (harg15 : arg15.IsWhole) (arg16 : Memref sig .tc .vmem S2x1536x768 .f32) (harg16 : arg16.IsWhole)
  (arg17 : Memref sig .tc .vmem S1536x128 .f32) (harg17 : arg17.IsWhole) (arg18 : Memref sig .tc .vmem S1536x128 .f32) (harg18 : arg18.IsWhole)
  (arg19 : Memref sig .tc .vmem S1536x128 .f32) (harg19 : arg19.IsWhole) (arg20 : Memref sig .tc .vmem S1536x128 .f32) (harg20 : arg20.IsWhole)
  (arg21 : DmaSems sig S2x2x6)

/-- The table of live row blocks, the half share of it the body may read. -/
def ownTab (tab : S1.Idx → Elt F .i32) : sProp 𝕄 := arg1.view.loc (c : Thread nD τ) ↦[arg1.view.set]{fullShare.right} arg1.view.rep tab

theorem wp_tab (tab : S1.Idx → Elt F .i32) (v0 : BitVec 32) (hv : ∀ y, tab y = v0) {α : Type} (k : Elt F .i32 → PG (F := F) α) (Q : α → sProp 𝕄) :
    ownTab c arg1 tab ⊢ iprop((ownTab c arg1 tab -∗ WP c (k v0) Q)
      -∗ WP c (smemLoad arg1 (Rect.unit (s := S1) ![0] S1.size inb_S1_S1_0) numel1_S1 rfl >>= k) Q) := by
  unfold ownTab smemLoad smemLoadElt
  simp only [Prog.bind_op, Prog.bind_ret]
  have h := wp_smemLoadElt (Val := Elt F) (defs := defs₀ (F := F)) (U := Pipeline.UD sig nD τ) (Name := ℕ) (Lvl := ℕ) (Ix := Unit) (Γ := PendingWaitsCtx.empty) Variants.none (c : Thread nD τ) none Set.univ
    (m := arg1) (r := Rect.unit (s := S1) ![0] S1.size inb_S1_S1_0) (hw := View.loads_smem_one rfl numel1_S1) (x := Shape.Idx.first (numel1_S1.symm ▸ Nat.one_pos)) (k := k) (Q := Q)
    (S := arg1.view.set) (q := fullShare.right) (f := arg1.view.rep tab) (View.set_slice_subset _ _)
  have e : (arg1.access (Rect.unit (s := S1) ![0] S1.size inb_S1_S1_0)).read (Elt F) (arg1.view.rep tab) (Shape.Idx.first (numel1_S1.symm ▸ Nat.one_pos)) = v0 :=
    (congrFun (View.read_rep arg1.view tab) _).trans (hv _)
  rw [e] at h
  exact h

variable (VT : Buf (Elt F) (arg10.view.loc (c : Thread nD τ))) (VS : Buf (Elt F) (arg11.view.loc (c : Thread nD τ)))

/-- The slot of a grid point before its head: the tile's two points back under way, or free. -/
def slotIn (v0 : BitVec 32) (X Y : Fin 6 → FVec F S256x768 .f32) : sProp 𝕄 :=
  if h : k0_cond2 i = 1#1 then
    six (fun rb => flying c arg10 arg11 arg15 arg16 arg21 VT VS v0 (slW i).toNat (slW_lt i) (Scalar.subi (BitVec.ofNat 32 (i 0).val) 2#32 : BitVec 32).toNat (prev2_lt i h) rb (X rb) (Y rb))
  else six (fun rb => idle c arg15 arg16 arg21 (slW i).toNat (slW_lt i) rb)
/-- The tile two points back, done. -/
def doneIn (v0 : BitVec 32) (X Y : Fin 6 → FVec F S256x768 .f32) : sProp 𝕄 :=
  if h : k0_cond2 i = 1#1 then
    six (fun rb => outD c arg10 arg11 VT VS v0 (Scalar.subi (BitVec.ofNat 32 (i 0).val) 2#32 : BitVec 32).toNat (prev2_lt i h) rb (X rb) (Y rb))
  else BI.emp

/-- The head's end. -/
theorem wp_headEnd (I : Ins F) (W : Vec F S3072x768 .bf16) (v0 : Elt F .i32) (Q : (Σ' (arg0 : BitVec 32) (v0 : Elt F .i32) (v1 : BitVec 32), Vec F S1x768 .f32) → sProp 𝕄) :
    iprop(ownDq c arg5 arg6 arg7 I ∗ own c arg14 W)
      ⊢ iprop(((ownDq c arg5 arg6 arg7 I ∗ own c arg14 (wtStep I.pk I.sc I.zr 0 W)) -∗ Q ⟨BitVec.ofNat 32 (i 0).val, v0, slW i, rowOf I.zr 1⟩)
        -∗ WP c (do
            let z ← deqZ arg7 0
            deqRest arg5 arg6 arg14 harg14 0 z
            let z1 ← deqZ arg7 1
            pure ⟨BitVec.ofNat 32 (i 0).val, v0, slW i, z1⟩ : PG (F := F) (Σ' (arg0 : BitVec 32) (v0 : Elt F .i32) (v1 : BitVec 32), Vec F S1x768 .f32)) Q) := by
  unfold ownDq
  iintro ⟨⟨H5, H6, H7⟩, HX⟩ Hk
  iapply (wp_deqZ c arg7 I.zr 0) $$ H7; iintro H7
  iapply (wp_deqRest c arg5 arg6 arg14 harg14 I.pk I.sc I.zr 0 W) $$ [H5 H6 HX]
  · isplitl [H5]; · iexact H5
    isplitl [H6]; · iexact H6
    iexact HX
  iintro ⟨H5, H6, HX⟩
  iapply (wp_deqZ c arg7 I.zr 1) $$ H7; iintro H7
  rw [WP_pure]
  imodintro
  iapply Hk
  isplitl [H5 H6 H7]
  · isplitl [H5]; · iexact H5
    isplitl [H6]; · iexact H6
    iexact H7
  iexact HX

/-- The head's waits, then its end. -/
theorem wp_headMid (v0 : BitVec 32) (X Y : Fin 6 → FVec F S256x768 .f32) {α : Type} (k : PG (F := F) α) (Q : α → sProp 𝕄) :
    iprop(slotIn c i arg10 arg11 arg15 arg16 arg21 VT VS v0 X Y ∗ ∃ W, owes (c : Thread nD τ) 0 W)
      ⊢ iprop(((six (fun rb => idle c arg15 arg16 arg21 (slW i).toNat (slW_lt i) rb) ∗ doneIn c i arg10 arg11 VT VS v0 X Y ∗ ∃ W, owes (c : Thread nD τ) 0 W) -∗ WP c k Q)
        -∗ WP c (if h : k0_cond2 i = 1#1 then
            waitC arg10 arg11 arg15 arg16 arg21 v0 (slW i).toNat (slW_lt i) (Scalar.subi (BitVec.ofNat 32 (i 0).val) 2#32 : BitVec 32).toNat (prev2_lt i h) 0
            (waitC arg10 arg11 arg15 arg16 arg21 v0 (slW i).toNat (slW_lt i) (Scalar.subi (BitVec.ofNat 32 (i 0).val) 2#32 : BitVec 32).toNat (prev2_lt i h) 1
            (waitC arg10 arg11 arg15 arg16 arg21 v0 (slW i).toNat (slW_lt i) (Scalar.subi (BitVec.ofNat 32 (i 0).val) 2#32 : BitVec 32).toNat (prev2_lt i h) 2
            (waitC arg10 arg11 arg15 arg16 arg21 v0 (slW i).toNat (slW_lt i) (Scalar.subi (BitVec.ofNat 32 (i 0).val) 2#32 : BitVec 32).toNat (prev2_lt i h) 3
            (waitC arg10 arg11 arg15 arg16 arg21 v0 (slW i).toNat (slW_lt i) (Scalar.subi (BitVec.ofNat 32 (i 0).val) 2#32 : BitVec 32).toNat (prev2_lt i h) 4
            (waitC arg10 arg11 arg15 arg16 arg21 v0 (slW i).toNat (slW_lt i) (Scalar.subi (BitVec.ofNat 32 (i 0).val) 2#32 : BitVec 32).toNat (prev2_lt i h) 5 k)))))
          else k) Q) := by
  unfold slotIn doneIn
  by_cases h : k0_cond2 i = 1#1
  · rw [dif_pos h, dif_pos h, dif_pos h]
    exact wp_wait6 c arg10 arg11 arg15 arg16 arg21 VT VS v0 _ _ _ _ X Y k Q
  · rw [dif_neg h, dif_neg h, dif_neg h]
    iintro ⟨HS, HW⟩ Hk
    iapply Hk
    isplitl [HS]; · iexact HS
    isplitr; · iempintro
    iexact HW

/-- The head. -/
theorem wp_head (I : Ins F) (W : Vec F S3072x768 .bf16) (tab : S1.Idx → Elt F .i32) (v0 : BitVec 32) (hv : ∀ y, tab y = v0) (S S' : St F)
    (hS : firstC i → S' = st0) (hS' : ¬ firstC i → S = S') (X Y : Fin 6 → FVec F S256x768 .f32)
    (Q : (Σ' (arg0 : BitVec 32) (v0 : Elt F .i32) (v1 : BitVec 32), Vec F S1x768 .f32) → sProp 𝕄) :
    iprop(ownTab c arg1 tab ∗ (ownDq c arg5 arg6 arg7 I ∗ own c arg14 W) ∗ ownSt c arg17 arg18 arg19 arg20 S
        ∗ (slotIn c i arg10 arg11 arg15 arg16 arg21 VT VS v0 X Y ∗ ∃ W, owes (c : Thread nD τ) 0 W))
      ⊢ iprop(((ownTab c arg1 tab ∗ (ownDq c arg5 arg6 arg7 I ∗ own c arg14 (wtStep I.pk I.sc I.zr 0 W)) ∗ ownSt c arg17 arg18 arg19 arg20 S'
            ∗ (six (fun rb => idle c arg15 arg16 arg21 (slW i).toNat (slW_lt i) rb) ∗ doneIn c i arg10 arg11 VT VS v0 X Y ∗ ∃ W, owes (c : Thread nD τ) 0 W))
          -∗ Q ⟨BitVec.ofNat 32 (i 0).val, v0, slW i, rowOf I.zr 1⟩)
        -∗ WP c (bodyHead arg1 arg5 arg6 arg7 arg10 arg11 arg14 harg14 arg15 arg16 arg17 arg18 arg19 arg20 arg21 i) Q) := by
  unfold bodyHead
  iintro ⟨HT, HD, HS, HI⟩ Hk
  iapply (wp_tab c arg1 tab v0 hv) $$ HT; iintro HT
  by_cases hf : firstC i
  · rw [dif_pos hf]
    obtain rfl := hS hf
    iapply (wp_initAll c arg17 arg18 arg19 arg20 S) $$ HS; iintro HS
    iapply (wp_headMid c i arg10 arg11 arg15 arg16 arg21 VT VS v0 X Y) $$ HI; iintro HI
    iapply (wp_headEnd c i arg5 arg6 arg7 arg14 harg14 I W v0 Q) $$ HD; iintro HD
    iapply Hk
    isplitl [HT]; · iexact HT
    isplitl [HD]; · iexact HD
    isplitl [HS]; · iexact HS
    iexact HI
  · rw [dif_neg hf]
    obtain rfl := hS' hf
    iapply (wp_headMid c i arg10 arg11 arg15 arg16 arg21 VT VS v0 X Y) $$ HI; iintro HI
    iapply (wp_headEnd c i arg5 arg6 arg7 arg14 harg14 I W v0 Q) $$ HD; iintro HD
    iapply Hk
    isplitl [HT]; · iexact HT
    isplitl [HD]; · iexact HD
    isplitl [HS]; · iexact HS
    iexact HI

/-- The rest of the body to the starts: the dequantisation, then the six row blocks. -/
theorem wp_rest (I : Ins F) (W : Vec F S3072x768 .bf16) (v0 : Elt F .i32) (S : St F) {Q : PUnit → sProp 𝕄} :
    iprop((ownDq c arg5 arg6 arg7 I ∗ own c arg14 (wtStep I.pk I.sc I.zr 0 W)) ∗ own c arg9 I.wss ∗ (own c arg2 I.hb ∗ own c arg3 I.pc ∗ own c arg4 I.ps ∗ own c arg8 I.ws)
        ∗ ownSt c arg17 arg18 arg19 arg20 S ∗ six (fun rb => idle c arg15 arg16 arg21 (slW i).toNat (slW_lt i) rb)
        ∗ six (fun rb => outV c arg10 arg11 VT VS (BitVec.ofNat 32 (i 0).val : BitVec 32).toNat (ptW_lt i) rb))
      ⊢ iprop(((ownDq c arg5 arg6 arg7 I ∗ own c arg9 I.wss ∗ ownRd c arg2 arg3 arg4 arg8 arg14 I (wtAll I W)
            ∗ ownSt c arg17 arg18 arg19 arg20 (stepT I (wtAll I W) S)
            ∗ (flying c arg10 arg11 arg15 arg16 arg21 VT VS v0 (slW i).toNat (slW_lt i) (BitVec.ofNat 32 (i 0).val : BitVec 32).toNat (ptW_lt i) 0 (uT I.hb (wtAll I W) 0) (uS I 0)
              ∗ flying c arg10 arg11 arg15 arg16 arg21 VT VS v0 (slW i).toNat (slW_lt i) (BitVec.ofNat 32 (i 0).val : BitVec 32).toNat (ptW_lt i) 1 (uT I.hb (wtAll I W) 1) (uS I 1)
              ∗ flying c arg10 arg11 arg15 arg16 arg21 VT VS v0 (slW i).toNat (slW_lt i) (BitVec.ofNat 32 (i 0).val : BitVec 32).toNat (ptW_lt i) 2 (uT I.hb (wtAll I W) 2) (uS I 2)
              ∗ flying c arg10 arg11 arg15 arg16 arg21 VT VS v0 (slW i).toNat (slW_lt i) (BitVec.ofNat 32 (i 0).val : BitVec 32).toNat (ptW_lt i) 3 (uT I.hb (wtAll I W) 3) (uS I 3))
            ∗ (filled c arg15 arg16 arg21 (slW i).toNat (slW_lt i) 4 (uT I.hb (wtAll I W) 4) (uS I 4) ∗ outV c arg10 arg11 VT VS (BitVec.ofNat 32 (i 0).val : BitVec 32).toNat (ptW_lt i) 4)
            ∗ (filled c arg15 arg16 arg21 (slW i).toNat (slW_lt i) 5 (uT I.hb (wtAll I W) 5) (uS I 5) ∗ outV c arg10 arg11 VT VS (BitVec.ofNat 32 (i 0).val : BitVec 32).toNat (ptW_lt i) 5))
          -∗ WP c (bodyTail arg10 arg11 arg12 arg13 arg15 arg16 arg17 arg18 arg19 arg20 arg21 i v0) Q)
        -∗ WP c (bodyRest i arg1 harg1 arg2 harg2 arg3 harg3 arg4 harg4 arg5 harg5 arg6 harg6 arg7 harg7 arg8 harg8 arg9 harg9 arg10 harg10 arg11 harg11 arg12 harg12
            arg13 harg13 arg14 harg14 arg15 harg15 arg16 harg16 arg17 harg17 arg18 harg18 arg19 harg19 arg20 harg20 arg21 v0 (rowOf I.zr 1)) Q) := by
  unfold bodyRest
  simp only [Prog.lift, Prog.bind_op, Prog.bind_ret]
  have e : (ownDq c arg5 arg6 arg7 I : sProp 𝕄) = iprop(own c arg5 I.pk ∗ own c arg6 I.sc ∗ own c arg7 I.zr) := rfl
  rw [e, six_eq (fun rb => idle c arg15 arg16 arg21 (slW i).toNat (slW_lt i) rb)]
  iintro ⟨⟨⟨H5, H6, H7⟩, HX⟩, H9, ⟨H2, H3, H4, H8⟩, HS, ⟨B0, B1, B2, B3, B4, B5⟩, HV⟩ Hk
  iapply (wp_deqRest c arg5 arg6 arg14 harg14 I.pk I.sc I.zr 1 (wtStep I.pk I.sc I.zr 0 W)) $$ [H5 H6 HX]
  · isplitl [H5]; · iexact H5
    isplitl [H6]; · iexact H6
    iexact HX
  iintro ⟨H5, H6, HX⟩
  iapply (wp_deqs c arg5 arg6 arg7 arg14 harg14 I.pk I.sc I.zr [2, 3, 4, 5, 6, 7, 8, 9, 10, 11, 12, 13, 14, 15, 16, 17, 18, 19, 20, 21, 22, 23]
    (wtStep I.pk I.sc I.zr 1 (wtStep I.pk I.sc I.zr 0 W))) $$ [H5 H6 H7 HX]
  · isplitl [H5]; · iexact H5
    isplitl [H6]; · iexact H6
    isplitl [H7]; · iexact H7
    iexact HX
  iintro ⟨H5, H6, H7, HX⟩
  iapply (wp_loadO c arg9 _ _ _) $$ H9; iintro H9
  ihave HR : ownRd c arg2 arg3 arg4 arg8 arg14 I (wtAll I W) $$ [H2 H3 H4 H8 HX]
  · unfold ownRd wtAll
    isplitl [H2]; · iexact H2
    isplitl [H3]; · iexact H3
    isplitl [H4]; · iexact H4
    isplitl [H8]; · iexact H8
    iexact HX
  iapply (wp_rowBlk c arg2 arg3 arg4 arg8 arg14 arg15 arg16 arg17 arg18 arg19 arg20 arg21 I (wtAll I W) S (slW i).toNat (slW_lt i) 0) $$ [HR HS B0]
  · isplitl [HR]; · iexact HR
    isplitl [HS]; · iexact HS
    iexact B0
  iintro ⟨HR, HS, B0⟩
  iapply (wp_rowBlk c arg2 arg3 arg4 arg8 arg14 arg15 arg16 arg17 arg18 arg19 arg20 arg21 I (wtAll I W) _ (slW i).toNat (slW_lt i) 1) $$ [HR HS B1]
  · isplitl [HR]; · iexact HR
    isplitl [HS]; · iexact HS
    iexact B1
  iintro ⟨HR, HS, B1⟩
  iapply (wp_rowBlk c arg2 arg3 arg4 arg8 arg14 arg15 arg16 arg17 arg18 arg19 arg20 arg21 I (wtAll I W) _ (slW i).toNat (slW_lt i) 2) $$ [HR HS B2]
  · isplitl [HR]; · iexact HR
    isplitl [HS]; · iexact HS
    iexact B2
  iintro ⟨HR, HS, B2⟩
  iapply (wp_rowBlk c arg2 arg3 arg4 arg8 arg14 arg15 arg16 arg17 arg18 arg19 arg20 arg21 I (wtAll I W) _ (slW i).toNat (slW_lt i) 3) $$ [HR HS B3]
  · isplitl [HR]; · iexact HR
    isplitl [HS]; · iexact HS
    iexact B3
  iintro ⟨HR, HS, B3⟩
  iapply (wp_rowBlk c arg2 arg3 arg4 arg8 arg14 arg15 arg16 arg17 arg18 arg19 arg20 arg21 I (wtAll I W) _ (slW i).toNat (slW_lt i) 4) $$ [HR HS B4]
  · isplitl [HR]; · iexact HR
    isplitl [HS]; · iexact HS
    iexact B4
  iintro ⟨HR, HS, B4⟩
  iapply (wp_rowBlk c arg2 arg3 arg4 arg8 arg14 arg15 arg16 arg17 arg18 arg19 arg20 arg21 I (wtAll I W) _ (slW i).toNat (slW_lt i) 5) $$ [HR HS B5]
  · isplitl [HR]; · iexact HR
    isplitl [HS]; · iexact HS
    iexact B5
  iintro ⟨HR, HS, B5⟩
  iapply (wp_start4 c arg10 arg11 arg15 arg16 arg21 VT VS i v0 (fun rb => uT I.hb (wtAll I W) rb) (fun rb => uS I rb)) $$ [B0 B1 B2 B3 B4 B5 HV]
  · isplitr [HV]
    · unfold six
      isplitl [B0]; · iexact B0
      isplitl [B1]; · iexact B1
      isplitl [B2]; · iexact B2
      isplitl [B3]; · iexact B3
      isplitl [B4]; · iexact B4
      iexact B5
    iexact HV
  iintro HF
  rw [tail_eq]
  iapply Hk
  isplitl [H5 H6 H7]
  · isplitl [H5]; · iexact H5
    isplitl [H6]; · iexact H6
    iexact H7
  isplitl [H9]; · iexact H9
  isplitl [HR]; · iexact HR
  isplitl [HS]; · iexact HS
  iexact HF

/-- The starts of the last two row blocks' copies. -/
theorem wp_start2 (v0 : BitVec 32) (X Y : Fin 6 → FVec F S256x768 .f32) {α : Type} (k : PG (F := F) α) (Q : α → sProp 𝕄) :
    iprop((flying c arg10 arg11 arg15 arg16 arg21 VT VS v0 (slW i).toNat (slW_lt i) (BitVec.ofNat 32 (i 0).val : BitVec 32).toNat (ptW_lt i) 0 (X 0) (Y 0)
            ∗ flying c arg10 arg11 arg15 arg16 arg21 VT VS v0 (slW i).toNat (slW_lt i) (BitVec.ofNat 32 (i 0).val : BitVec 32).toNat (ptW_lt i) 1 (X 1) (Y 1)
            ∗ flying c arg10 arg11 arg15 arg16 arg21 VT VS v0 (slW i).toNat (slW_lt i) (BitVec.ofNat 32 (i 0).val : BitVec 32).toNat (ptW_lt i) 2 (X 2) (Y 2)
            ∗ flying c arg10 arg11 arg15 arg16 arg21 VT VS v0 (slW i).toNat (slW_lt i) (BitVec.ofNat 32 (i 0).val : BitVec 32).toNat (ptW_lt i) 3 (X 3) (Y 3))
            ∗ (filled c arg15 arg16 arg21 (slW i).toNat (slW_lt i) 4 (X 4) (Y 4) ∗ outV c arg10 arg11 VT VS (BitVec.ofNat 32 (i 0).val : BitVec 32).toNat (ptW_lt i) 4)
            ∗ (filled c arg15 arg16 arg21 (slW i).toNat (slW_lt i) 5 (X 5) (Y 5) ∗ outV c arg10 arg11 VT VS (BitVec.ofNat 32 (i 0).val : BitVec 32).toNat (ptW_lt i) 5))
      ⊢ iprop((six (fun rb => flying c arg10 arg11 arg15 arg16 arg21 VT VS v0 (slW i).toNat (slW_lt i) (BitVec.ofNat 32 (i 0).val : BitVec 32).toNat (ptW_lt i) rb (X rb) (Y rb)) -∗ WP c k Q)
        -∗ WP c (startC arg10 arg11 arg15 arg16 arg21 v0 (slW i).toNat (slW_lt i) (BitVec.ofNat 32 (i 0).val : BitVec 32).toNat (ptW_lt i) 4
            (startC arg10 arg11 arg15 arg16 arg21 v0 (slW i).toNat (slW_lt i) (BitVec.ofNat 32 (i 0).val : BitVec 32).toNat (ptW_lt i) 5 k)) Q) := by
  rw [six_eq (fun rb => flying c arg10 arg11 arg15 arg16 arg21 VT VS v0 (slW i).toNat (slW_lt i) (BitVec.ofNat 32 (i 0).val : BitVec 32).toNat (ptW_lt i) rb (X rb) (Y rb))]
  iintro ⟨⟨H0, H1, H2, H3⟩, H4, H5⟩ Hk
  iapply (wp_startC c arg10 arg11 arg15 arg16 arg21 VT VS v0 _ (slW_lt i) _ (ptW_lt i) 4 (X 4) (Y 4)) $$ H4; iintro H4
  iapply (wp_startC c arg10 arg11 arg15 arg16 arg21 VT VS v0 _ (slW_lt i) _ (ptW_lt i) 5 (X 5) (Y 5)) $$ H5; iintro H5
  iapply Hk
  isplitl [H0]; · iexact H0
  isplitl [H1]; · iexact H1
  isplitl [H2]; · iexact H2
  isplitl [H3]; · iexact H3
  isplitl [H4]; · iexact H4
  iexact H5

/-- A grid point before the last from its starts on. -/
theorem wp_tailMid (hc : ¬ k0_cond15 i = 1#1) (v0 : BitVec 32) (X Y : Fin 6 → FVec F S256x768 .f32) (Q : PUnit → sProp 𝕄) :
    iprop((flying c arg10 arg11 arg15 arg16 arg21 VT VS v0 (slW i).toNat (slW_lt i) (BitVec.ofNat 32 (i 0).val : BitVec 32).toNat (ptW_lt i) 0 (X 0) (Y 0)
            ∗ flying c arg10 arg11 arg15 arg16 arg21 VT VS v0 (slW i).toNat (slW_lt i) (BitVec.ofNat 32 (i 0).val : BitVec 32).toNat (ptW_lt i) 1 (X 1) (Y 1)
            ∗ flying c arg10 arg11 arg15 arg16 arg21 VT VS v0 (slW i).toNat (slW_lt i) (BitVec.ofNat 32 (i 0).val : BitVec 32).toNat (ptW_lt i) 2 (X 2) (Y 2)
            ∗ flying c arg10 arg11 arg15 arg16 arg21 VT VS v0 (slW i).toNat (slW_lt i) (BitVec.ofNat 32 (i 0).val : BitVec 32).toNat (ptW_lt i) 3 (X 3) (Y 3))
            ∗ (filled c arg15 arg16 arg21 (slW i).toNat (slW_lt i) 4 (X 4) (Y 4) ∗ outV c arg10 arg11 VT VS (BitVec.ofNat 32 (i 0).val : BitVec 32).toNat (ptW_lt i) 4)
            ∗ (filled c arg15 arg16 arg21 (slW i).toNat (slW_lt i) 5 (X 5) (Y 5) ∗ outV c arg10 arg11 VT VS (BitVec.ofNat 32 (i 0).val : BitVec 32).toNat (ptW_lt i) 5))
      ⊢ iprop((six (fun rb => flying c arg10 arg11 arg15 arg16 arg21 VT VS v0 (slW i).toNat (slW_lt i) (BitVec.ofNat 32 (i 0).val : BitVec 32).toNat (ptW_lt i) rb (X rb) (Y rb)) -∗ Q ⟨⟩)
        -∗ WP c (bodyTail arg10 arg11 arg12 arg13 arg15 arg16 arg17 arg18 arg19 arg20 arg21 i v0) Q) := by
  unfold bodyTail
  iintro HF Hk
  iapply (wp_start2 c i arg10 arg11 arg15 arg16 arg21 VT VS v0 X Y) $$ HF; iintro HF
  rw [dif_neg hc, WP_pure]
  imodintro
  iapply Hk; iexact HF

/-- The last grid point from its starts on. -/
theorem wp_tailLast (hc : k0_cond15 i = 1#1) (v0 : BitVec 32) (S : St F) (Z Z' : Vec F S1536x128 .f32) (X Y X' Y' : Fin 6 → FVec F S256x768 .f32) (Q : PUnit → sProp 𝕄) :
    iprop(((flying c arg10 arg11 arg15 arg16 arg21 VT VS v0 (slW i).toNat (slW_lt i) (BitVec.ofNat 32 (i 0).val : BitVec 32).toNat (ptW_lt i) 0 (X 0) (Y 0)
            ∗ flying c arg10 arg11 arg15 arg16 arg21 VT VS v0 (slW i).toNat (slW_lt i) (BitVec.ofNat 32 (i 0).val : BitVec 32).toNat (ptW_lt i) 1 (X 1) (Y 1)
            ∗ flying c arg10 arg11 arg15 arg16 arg21 VT VS v0 (slW i).toNat (slW_lt i) (BitVec.ofNat 32 (i 0).val : BitVec 32).toNat (ptW_lt i) 2 (X 2) (Y 2)
            ∗ flying c arg10 arg11 arg15 arg16 arg21 VT VS v0 (slW i).toNat (slW_lt i) (BitVec.ofNat 32 (i 0).val : BitVec 32).toNat (ptW_lt i) 3 (X 3) (Y 3))
            ∗ (filled c arg15 arg16 arg21 (slW i).toNat (slW_lt i) 4 (X 4) (Y 4) ∗ outV c arg10 arg11 VT VS (BitVec.ofNat 32 (i 0).val : BitVec 32).toNat (ptW_lt i) 4)
            ∗ (filled c arg15 arg16 arg21 (slW i).toNat (slW_lt i) 5 (X 5) (Y 5) ∗ outV c arg10 arg11 VT VS (BitVec.ofNat 32 (i 0).val : BitVec 32).toNat (ptW_lt i) 5))
        ∗ (ownSt c arg17 arg18 arg19 arg20 S ∗ own c arg12 Z ∗ own c arg13 Z')
        ∗ six (fun rb => flying c arg10 arg11 arg15 arg16 arg21 VT VS v0 (slW' i).toNat (slW'_lt i) (Scalar.subi (BitVec.ofNat 32 (i 0).val) 1#32 : BitVec 32).toNat (prev1_lt i hc) rb (X' rb) (Y' rb))
        ∗ ∃ W, owes (c : Thread nD τ) 0 W)
      ⊢ iprop((((ownSt c arg17 arg18 arg19 arg20 S ∗ own c arg12 (k0_pay1 S.mt S.lt) ∗ own c arg13 (k0_pay2 S.ms S.ls))
            ∗ six (fun rb => idle c arg15 arg16 arg21 (slW' i).toNat (slW'_lt i) rb)
            ∗ six (fun rb => outD c arg10 arg11 VT VS v0 (Scalar.subi (BitVec.ofNat 32 (i 0).val) 1#32 : BitVec 32).toNat (prev1_lt i hc) rb (X' rb) (Y' rb))
            ∗ six (fun rb => idle c arg15 arg16 arg21 (slW i).toNat (slW_lt i) rb)
            ∗ six (fun rb => outD c arg10 arg11 VT VS v0 (BitVec.ofNat 32 (i 0).val : BitVec 32).toNat (ptW_lt i) rb (X rb) (Y rb)) ∗ ∃ W, owes (c : Thread nD τ) 0 W) -∗ Q ⟨⟩)
        -∗ WP c (bodyTail arg10 arg11 arg12 arg13 arg15 arg16 arg17 arg18 arg19 arg20 arg21 i v0) Q) := by
  unfold bodyTail
  iintro ⟨HF, HL, HG, HW⟩ Hk
  iapply (wp_start2 c i arg10 arg11 arg15 arg16 arg21 VT VS v0 X Y) $$ HF; iintro HF
  rw [dif_pos hc]
  iapply (wp_lastAll c arg12 arg13 arg17 arg18 arg19 arg20 S Z Z') $$ HL; iintro HL
  rw [WP_bind]
  unfold bodyWaits
  iapply (wp_wait6 c arg10 arg11 arg15 arg16 arg21 VT VS v0 _ (slW'_lt i) _ (prev1_lt i hc) X' Y') $$ [HG HW]
  · isplitl [HG]; · iexact HG
    iexact HW
  iintro ⟨HG, DG, HW⟩
  ihave HF := (ent_of_eq (six_eq (fun rb => flying c arg10 arg11 arg15 arg16 arg21 VT VS v0 (slW i).toNat (slW_lt i) (BitVec.ofNat 32 (i 0).val : BitVec 32).toNat (ptW_lt i) rb (X rb) (Y rb)))) $$ HF
  icases HF with ⟨H0, H1, H2, H3, H4, H5⟩
  iapply (wp_waitC c arg10 arg11 arg15 arg16 arg21 VT VS v0 _ (slW_lt i) _ (ptW_lt i) 0 (X 0) (Y 0)) $$ [H0 HW]
  · isplitl [H0]; · iexact H0
    iexact HW
  iintro ⟨H0, D0, HW⟩
  iapply (wp_waitC c arg10 arg11 arg15 arg16 arg21 VT VS v0 _ (slW_lt i) _ (ptW_lt i) 1 (X 1) (Y 1)) $$ [H1 HW]
  · isplitl [H1]; · iexact H1
    iexact HW
  iintro ⟨H1, D1, HW⟩
  iapply (wp_waitC c arg10 arg11 arg15 arg16 arg21 VT VS v0 _ (slW_lt i) _ (ptW_lt i) 2 (X 2) (Y 2)) $$ [H2 HW]
  · isplitl [H2]; · iexact H2
    iexact HW
  iintro ⟨H2, D2, HW⟩
  iapply (wp_waitC c arg10 arg11 arg15 arg16 arg21 VT VS v0 _ (slW_lt i) _ (ptW_lt i) 3 (X 3) (Y 3)) $$ [H3 HW]
  · isplitl [H3]; · iexact H3
    iexact HW
  iintro ⟨H3, D3, HW⟩
  rw [WP_pure]
  imodintro
  iapply (wp_waitC c arg10 arg11 arg15 arg16 arg21 VT VS v0 _ (slW_lt i) _ (ptW_lt i) 4 (X 4) (Y 4)) $$ [H4 HW]
  · isplitl [H4]; · iexact H4
    iexact HW
  iintro ⟨H4, D4, HW⟩
  iapply (wp_waitC c arg10 arg11 arg15 arg16 arg21 VT VS v0 _ (slW_lt i) _ (ptW_lt i) 5 (X 5) (Y 5)) $$ [H5 HW]
  · isplitl [H5]; · iexact H5
    iexact HW
  iintro ⟨H5, D5, HW⟩
  rw [WP_pure]
  imodintro
  iapply Hk
  isplitl [HL]; · iexact HL
  isplitl [HG]; · iexact HG
  isplitl [DG]; · iexact DG
  isplitl [H0 H1 H2 H3 H4 H5]
  · unfold six
    isplitl [H0]; · iexact H0
    isplitl [H1]; · iexact H1
    isplitl [H2]; · iexact H2
    isplitl [H3]; · iexact H3
    isplitl [H4]; · iexact H4
    iexact H5
  isplitr [HW]
  · unfold six
    isplitl [D0]; · iexact D0
    isplitl [D1]; · iexact D1
    isplitl [D2]; · iexact D2
    isplitl [D3]; · iexact D3
    isplitl [D4]; · iexact D4
    iexact D5
  iexact HW

end Point

end Cert.Proof.Fwd

end
-- ==== Proof.Wt.lean ====
/-
  The dequantised matrix of a grid point, element by element: every element is written at the point, so what stood there before does not matter.
-/
module

public import proofs.«01_k».proof.Proof.Run

@[expose] public section

set_option maxRecDepth 65536

noncomputable section

namespace Cert.Proof.Fwd

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The group an element of the dequantised matrix belongs to. -/
def grpOf (y : S3072x768.Idx) : Fin 24 := ⟨2 * ((y 0).val / 256) + (y 0).val % 128 / 64, by
  have h : (y 0).val < 3072 := (y 0).isLt
  omega⟩
/-- Its place within the group's block of codes. -/
def posOf (y : S3072x768.Idx) : S64x768.Idx := fun
  | ⟨0, _⟩ => ⟨(y 0).val % 64, Nat.mod_lt _ (by decide)⟩
  | ⟨1, _⟩ => y 1

/-- The dequantised matrix of a grid point: within 256 rows the first half the low codes, the second the high ones. -/
def WT (I : Ins F) : Vec F S3072x768 .bf16 := fun y =>
  if (y 0).val % 256 < 128 then k0_pay9 (rowOf I.zr (grpOf y)) (rowOf I.sc (grpOf y)) (pkOf I.pk (grpOf y)) (posOf y)
  else k0_pay10 (rowOf I.zr (grpOf y)) (rowOf I.sc (grpOf y)) (pkOf I.pk (grpOf y)) (posOf y)

theorem wtStep_apply (I : Ins F) (g : Fin 24) (X : Vec F S3072x768 .bf16) (y : S3072x768.Idx) :
    wtStep I.pk I.sc I.zr g X y = if grpOf y = g then WT I y else X y := by
  have hg := g.isLt
  have hr : (y 0).val < 3072 := (y 0).isLt
  unfold wtStep
  by_cases h : grpOf y = g
  · rw [if_pos h]
    have hv : g.val = 2 * ((y 0).val / 256) + (y 0).val % 128 / 64 := (congrArg Fin.val h).symm
    unfold WT
    rw [h]
    by_cases hl : (y 0).val % 256 < 128
    · rw [if_pos hl]
      rw [putR_off]
      · have e : (Rect.unit (s := S3072x768) ![loRow g, 0] S64x768.size (inbLo g)).emb (posOf y) = y := by
          funext a; refine Fin.ext ?_; rw [Rect.emb_apply]; fin_cases a
          · show loRow g + 1 * ((y 0).val % 64) = (y 0).val; unfold loRow; omega
          · show 0 + 1 * (y 1).val = (y 1).val; omega
        exact (congrArg _ e.symm).trans (putR_emb (Rect.unit (s := S3072x768) ![loRow g, 0] S64x768.size (inbLo g)) _ X (posOf y))
      · intro x hx
        have hx0 := congrArg Fin.val (congrFun hx 0)
        rw [Rect.emb_apply] at hx0
        have hx1 : (loRow g + 128) + 1 * (x 0).val = (y 0).val := hx0
        have hx2 : (x 0).val < 64 := (x 0).isLt
        unfold loRow at hx1; omega
    · rw [if_neg hl]
      have e : (Rect.unit (s := S3072x768) ![loRow g + 128, 0] S64x768.size (inbHi g)).emb (posOf y) = y := by
        funext a; refine Fin.ext ?_; rw [Rect.emb_apply]; fin_cases a
        · show (loRow g + 128) + 1 * ((y 0).val % 64) = (y 0).val; unfold loRow; omega
        · show 0 + 1 * (y 1).val = (y 1).val; omega
      exact (congrArg _ e.symm).trans (putR_emb (Rect.unit (s := S3072x768) ![loRow g + 128, 0] S64x768.size (inbHi g)) _ _ (posOf y))
  · rw [if_neg h]
    have hv : ¬ 2 * ((y 0).val / 256) + (y 0).val % 128 / 64 = g.val := fun e => h (Fin.ext e)
    rw [putR_off, putR_off]
    · intro x hx
      have hx0 := congrArg Fin.val (congrFun hx 0)
      rw [Rect.emb_apply] at hx0
      have hx1 : loRow g + 1 * (x 0).val = (y 0).val := hx0
      have hx2 : (x 0).val < 64 := (x 0).isLt
      unfold loRow at hx1; omega
    · intro x hx
      have hx0 := congrArg Fin.val (congrFun hx 0)
      rw [Rect.emb_apply] at hx0
      have hx1 : (loRow g + 128) + 1 * (x 0).val = (y 0).val := hx0
      have hx2 : (x 0).val < 64 := (x 0).isLt
      unfold loRow at hx1; omega

theorem wtFold_apply (I : Ins F) (y : S3072x768.Idx) : ∀ (gs : List (Fin 24)) (X : Vec F S3072x768 .bf16),
    gs.foldl (fun X g => wtStep I.pk I.sc I.zr g X) X y = if grpOf y ∈ gs then WT I y else X y := by
  intro gs
  induction gs with
  | nil => intro X; simp
  | cons g gs ih =>
    intro X
    rw [List.foldl_cons, ih, wtStep_apply]
    by_cases h1 : grpOf y ∈ gs
    · rw [if_pos h1, if_pos (List.mem_cons_of_mem _ h1)]
    · rw [if_neg h1]
      by_cases h2 : grpOf y = g
      · rw [if_pos h2, if_pos (by rw [h2]; exact List.mem_cons_self)]
      · rw [if_neg h2, if_neg (by rw [List.mem_cons]; exact fun h => h.elim h2 h1)]

theorem wtAll_eq (I : Ins F) (X : Vec F S3072x768 .bf16) : wtAll I X = WT I := by
  funext y
  have h := wtFold_apply I y [0, 1, 2, 3, 4, 5, 6, 7, 8, 9, 10, 11, 12, 13, 14, 15, 16, 17, 18, 19, 20, 21, 22, 23] X
  rw [List.foldl_cons, List.foldl_cons] at h
  have hm : ∀ g : Fin 24, g ∈ ([0, 1, 2, 3, 4, 5, 6, 7, 8, 9, 10, 11, 12, 13, 14, 15, 16, 17, 18, 19, 20, 21, 22, 23] : List (Fin 24)) := by decide
  rw [if_pos (hm _)] at h
  exact h

end Cert.Proof.Fwd

end
-- ==== Proof.Inv.lean ====
/-
  The invariant of the grid: what core `c` holds before grid point `n`, and that a grid point keeps it.
-/
module

public import proofs.«01_k».proof.Proof.Run2
public import proofs.«01_k».proof.Proof.Wt
public import proofs.«01_k».proof.Proof.Gen.Kernel.Launch

@[expose] public section

set_option maxRecDepth 65536

noncomputable section

namespace Cert.Proof.Fwd

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The arguments and what is computed from them -/

variable (m : (ℓ : Loc nD τ sig) → Buf (Elt F) ℓ)

/-- A buffer's contents at launch. -/
abbrev V (c : Dev nD) (b : Ref sig .tc) : Buf (Elt F) ((c : Thread nD τ).loc b) := m ((c : Thread nD τ).loc b)
/-- The table of live row blocks, as the pipeline takes it. -/
def adm : (p : Fin 1) → (pcfgs (F := F) p).Adm := fun _ => ⟨fun k => V m 0 (pre0.ref k), trivial⟩
/-- The pipeline at that table. -/
abbrev cfgA : Pipeline.Cfg sig Λ₀ := cfg0 (adm m 0)

/-- Window `w`'s block at a point, read off its array at launch. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- A grid point's input blocks. -/
def insAt (c : Dev nD) (t : Fin (cfgA m).N) : Ins F :=
  ⟨iblk m c 0 t, iblk m c 1 t, iblk m c 2 t, iblk m c 3 t, iblk m c 4 t, iblk m c 5 t, iblk m c 6 t, iblk m c 7 t⟩

/-- The grid point of a number. -/
def tOf (n : ℕ) : Fin (cfgA m).N := ⟨n % 167, (Nat.mod_lt n (by decide)).trans_eq N_0.symm⟩
theorem tOf_val (t : Fin (cfgA m).N) : tOf m t.val = t := Fin.ext (Nat.mod_eq_of_lt (t.isLt.trans_eq N_0))

/-- The input blocks of tile `n`. -/
def It (c : Dev nD) (n : ℕ) : Ins F := insAt m c (tOf m n)
/-- The teacher's logits of a row block of tile `n`. -/
def XT (c : Dev nD) (n : ℕ) (rb : Fin 6) : FVec F S256x768 .f32 := uT (It m c n).hb (WT (It m c n)) rb
/-- The student's. -/
def YT (c : Dev nD) (n : ℕ) (rb : Fin 6) : FVec F S256x768 .f32 := uS (It m c n) rb
/-- The statistics before tile `n`. -/
def stAt (c : Dev nD) : ℕ → St F
  | 0 => st0
  | n + 1 => stepT (It m c n) (WT (It m c n)) (stAt c n)

/-- The number of live row blocks. -/
def v0Of (c : Dev nD) : BitVec 32 := (m ((c : Thread nD τ).loc main_arg0) : S1.Idx → BitVec 32) (fun | ⟨0, _⟩ => ⟨0, Nat.one_pos⟩)
/-- The table. -/
def tabOf (c : Dev nD) : S1.Idx → Elt F .i32 := m ((c : Thread nD τ).loc main_arg0)
theorem tab_v0 (c : Dev nD) (y : S1.Idx) : tabOf m c y = v0Of m c := by
  unfold tabOf v0Of
  refine congrArg _ ?_
  funext a
  match a with
  | ⟨0, _⟩ => exact Fin.ext (by have h : (y 0).val < 1 := (y 0).isLt; show (y 0).val = 0; omega)

/-! ## The kernel's own memrefs -/

abbrev M1 : Memref sig .tc .smem S1 .i32 := Memref.whole main_arg0
abbrev M10 : Memref sig .tc .hbm S167x1536x768 .f32 := Memref.whole main_v0_0
abbrev M11 : Memref sig .tc .hbm S167x1536x768 .f32 := Memref.whole main_v0_1
abbrev M14 : Memref sig .tc .vmem S3072x768 .bf16 := Memref.whole cc0_scratch0
abbrev M15 : Memref sig .tc .vmem S2x1536x768 .f32 := Memref.whole cc0_scratch1
abbrev M16 : Memref sig .tc .vmem S2x1536x768 .f32 := Memref.whole cc0_scratch2
abbrev M17 : Memref sig .tc .vmem S1536x128 .f32 := Memref.whole cc0_scratch3
abbrev M18 : Memref sig .tc .vmem S1536x128 .f32 := Memref.whole cc0_scratch4
abbrev M19 : Memref sig .tc .vmem S1536x128 .f32 := Memref.whole cc0_scratch5
abbrev M20 : Memref sig .tc .vmem S1536x128 .f32 := Memref.whole cc0_scratch6
abbrev M21 : DmaSems sig S2x2x6 := cc0_scratch7

/-! ## The invariant -/

/-- The two outputs at launch. -/
abbrev VT (c : Dev nD) : Buf (Elt F) (M10.view.loc (c : Thread nD τ)) := V m c main_v0_0
abbrev VS (c : Dev nD) : Buf (Elt F) (M11.view.loc (c : Thread nD τ)) := V m c main_v0_1

theorem mod2 (s : ℕ) : s % 2 < 2 := Nat.mod_lt s (by decide)
theorem mod167 (v : ℕ) : v % 167 < 167 := Nat.mod_lt v (by decide)

/-- Tile `v`'s copies of a row block under way out of slot `s % 2`. -/
def flyN (c : Dev nD) (s v : ℕ) (rb : Fin 6) : sProp 𝕄 :=
  flying c M10 M11 M15 M16 M21 (VT m c) (VS m c) (v0Of m c) (s % 2) (mod2 s) (v % 167) (mod167 v) rb (XT m c v rb) (YT m c v rb)
/-- A row block's piece of slot `s % 2` free. -/
def idleN (c : Dev nD) (s : ℕ) (rb : Fin 6) : sProp 𝕄 := idle c M15 M16 M21 (s % 2) (mod2 s) rb
/-- A row block of tile `v` of the outputs done; -/
def outDN (c : Dev nD) (v : ℕ) (rb : Fin 6) : sProp 𝕄 :=
  outD c M10 M11 (VT m c) (VS m c) (v0Of m c) (v % 167) (mod167 v) rb (XT m c v rb) (YT m c v rb)
/-- as at launch. -/
def outVN (c : Dev nD) (v : ℕ) (rb : Fin 6) : sProp 𝕄 := outV c M10 M11 (VT m c) (VS m c) (v % 167) (mod167 v) rb

/-- The slot point `n` writes, before the point. -/
def slotA (c : Dev nD) (n : ℕ) : sProp 𝕄 := if 2 ≤ n ∧ n ≠ 167 then six (flyN m c n (n - 2)) else six (idleN c n)
/-- The other slot. -/
def slotB (c : Dev nD) (n : ℕ) : sProp 𝕄 := if 1 ≤ n ∧ n ≠ 167 then six (flyN m c (n + 1) (n - 1)) else six (idleN c (n + 1))
/-- Tile `v` of the outputs before point `n`: done, under way (held by its copies), or as at launch. -/
def cell (c : Dev nD) (n : ℕ) (v : Fin 167) : sProp 𝕄 :=
  if v.val + 3 ≤ n ∨ n = 167 then six (outDN m c v.val) else if v.val < n then BI.emp else six (outVN m c v.val)

/-- What core `c` holds before grid point `n`. -/
def Φn (c : Dev nD) (n : ℕ) : sProp 𝕄 :=
  iprop(ownTab c M1 (tabOf m c) ∗ (∃ r, prngReg c r) ∗ (∃ X : Vec F S3072x768 .bf16, own c M14 X)
    ∗ (∃ S : St F, ⌜n ≠ 0 → S = stAt m c n⌝ ∗ ownSt c M17 M18 M19 M20 S)
    ∗ slotA m c n ∗ slotB m c n ∗ bigSep Finset.univ (cell m c n))

theorem flying_congr (c : Dev nD) (s s' v v' : ℕ) (hs hs' hv hv') (e : s = s') (e' : v = v') (rb : Fin 6) (X Y : FVec F S256x768 .f32) :
    flying c M10 M11 M15 M16 M21 (VT m c) (VS m c) (v0Of m c) s hs v hv rb X Y = flying c M10 M11 M15 M16 M21 (VT m c) (VS m c) (v0Of m c) s' hs' v' hv' rb X Y := by
  subst e e'; rfl
theorem idle_congr (c : Dev nD) (s s' : ℕ) (hs hs') (e : s = s') (rb : Fin 6) :
    (idle c M15 M16 M21 s hs rb : sProp 𝕄) = idle c M15 M16 M21 s' hs' rb := by subst e; rfl
theorem outD_congr (c : Dev nD) (v v' : ℕ) (hv hv') (e' : v = v') (rb : Fin 6) (X Y : FVec F S256x768 .f32) :
    outD c M10 M11 (VT m c) (VS m c) (v0Of m c) v hv rb X Y = outD c M10 M11 (VT m c) (VS m c) (v0Of m c) v' hv' rb X Y := by subst e'; rfl
theorem outV_congr (c : Dev nD) (v v' : ℕ) (hv hv') (e' : v = v') (rb : Fin 6) :
    outV c M10 M11 (VT m c) (VS m c) v hv rb = outV c M10 M11 (VT m c) (VS m c) v' hv' rb := by subst e'; rfl

theorem slotIn_eq (c : Dev nD) (i : grid0.Coords) (n : ℕ) (hi : (i 0).val = n) (hn : n < 167) :
    slotIn c i M10 M11 M15 M16 M21 (VT m c) (VS m c) (v0Of m c) (XT m c (n - 2)) (YT m c (n - 2)) = slotA m c n := by
  unfold slotIn slotA
  by_cases h : k0_cond2 i = 1#1
  · have h2 := (cond2_iff i).1 h
    rw [dif_pos h, if_pos ⟨by omega, by omega⟩]
    refine congrArg six (funext fun rb => flying_congr m c _ _ _ _ _ _ _ _ ?_ ?_ rb _ _)
    · rw [slW_eq, hi]
    · rw [prevW_eq i 2 (.inr rfl) h2, hi]; exact (Nat.mod_eq_of_lt (show n - 2 < 167 by omega)).symm
  · have h2 : ¬ 2 ≤ (i 0).val := fun e => h ((cond2_iff i).2 e)
    rw [dif_neg h, if_neg (by omega)]
    exact congrArg six (funext fun rb => idle_congr c _ _ _ _ (by rw [slW_eq, hi]) rb)

/-- Tile `n - 2` done, from `n = 2` on. -/
def doneN (c : Dev nD) (n : ℕ) : sProp 𝕄 := if 2 ≤ n then six (outDN m c (n - 2)) else BI.emp
theorem doneIn_eq (c : Dev nD) (i : grid0.Coords) (n : ℕ) (hi : (i 0).val = n) (hn : n < 167) :
    doneIn c i M10 M11 (VT m c) (VS m c) (v0Of m c) (XT m c (n - 2)) (YT m c (n - 2)) = doneN m c n := by
  unfold doneIn doneN
  by_cases h : k0_cond2 i = 1#1
  · have h2 := (cond2_iff i).1 h
    rw [dif_pos h, if_pos (by omega)]
    refine congrArg six (funext fun rb => outD_congr m c _ _ _ _ ?_ rb _ _)
    rw [prevW_eq i 2 (.inr rfl) h2, hi]; exact (Nat.mod_eq_of_lt (show n - 2 < 167 by omega)).symm
  · have h2 : ¬ 2 ≤ (i 0).val := fun e => h ((cond2_iff i).2 e)
    rw [dif_neg h, if_neg (by omega)]

/-! ## The outputs' tiles from one point to the next -/

theorem bigSep_take {I : Type} [Fintype I] [DecidableEq I] (f : I → sProp 𝕄) (v : I) :
    bigSep Finset.univ f = iprop(f v ∗ bigSep (Finset.univ.erase v) f) := BI.bigSep_erase (Finset.mem_univ v)
theorem bigSep_put {I : Type} [Fintype I] [DecidableEq I] (f : I → sProp 𝕄) (v : I) (P : sProp 𝕄) :
    bigSep Finset.univ (Function.update f v P) = iprop(P ∗ bigSep (Finset.univ.erase v) f) := by
  rw [bigSep_take (Function.update f v P) v, Function.update_self]
  congr 1
  exact bigSep_congr fun u hu => by rw [Function.update_of_ne (Finset.ne_of_mem_erase hu)]

theorem emp_drop (P : sProp 𝕄) : iprop(BI.emp ∗ P) ⊢ P := by iintro ⟨-, H⟩; iexact H
theorem emp_add (P : sProp 𝕄) : P ⊢ iprop(BI.emp ∗ P) := by
  iintro H
  isplitr; · iempintro
  iexact H

/-- A tile as at launch leaves the rest. -/
theorem cells_take (c : Dev nD) (n : ℕ) (hn : n < 167) :
    bigSep Finset.univ (cell m c n) ⊢ iprop(six (outVN m c n) ∗ bigSep Finset.univ (Function.update (cell m c n) ⟨n, hn⟩ BI.emp)) := by
  rw [bigSep_put, bigSep_take (cell m c n) ⟨n, hn⟩]
  have e : cell m c n ⟨n, hn⟩ = six (outVN m c n) := by
    unfold cell
    rw [if_neg (by show ¬ (n + 3 ≤ n ∨ n = 167); omega), if_neg (by show ¬ n < n; omega)]
  rw [e]
  iintro ⟨H, H'⟩
  isplitl [H]; · iexact H
  iapply (emp_add _) $$ H'

/-- A tile done comes to a place that holds nothing. -/
theorem cells_give (f : Fin 167 → sProp 𝕄) (v : Fin 167) (P : sProp 𝕄) (h : f v = BI.emp) :
    iprop(P ∗ bigSep Finset.univ f) ⊢ bigSep Finset.univ (Function.update f v P) := by
  rw [bigSep_put, bigSep_take f v, h]
  iintro ⟨HP, H⟩
  isplitl [HP]; · iexact HP
  iapply (emp_drop _) $$ H

/-- Before the last point: the tile two points back is done, the point's own under way. -/
theorem cells_step (c : Dev nD) (n : ℕ) (hn : n < 166) :
    iprop(doneN m c n ∗ bigSep Finset.univ (Function.update (cell m c n) ⟨n, by omega⟩ BI.emp)) ⊢ bigSep Finset.univ (cell m c (n + 1)) := by
  unfold doneN
  by_cases h : 2 ≤ n
  · rw [if_pos h]
    refine (cells_give _ ⟨n - 2, by omega⟩ _ ?_).trans (ent_of_eq (congrArg (bigSep Finset.univ) ?_))
    · rw [Function.update_of_ne (by intro e; have := congrArg Fin.val e; simp only at this; omega)]
      unfold cell
      rw [if_neg (by show ¬ (n - 2 + 3 ≤ n ∨ n = 167); omega), if_pos (by show n - 2 < n; omega)]
    · funext v
      by_cases h1 : v = ⟨n - 2, by omega⟩
      · subst h1
        rw [Function.update_self]; unfold cell; rw [if_pos (.inl (by show n - 2 + 3 ≤ n + 1; omega))]
      · have h1' : v.val ≠ n - 2 := fun e => h1 (Fin.ext e)
        rw [Function.update_of_ne h1]
        by_cases h2 : v = ⟨n, by omega⟩
        · subst h2
          rw [Function.update_self]; unfold cell
          rw [if_neg (by show ¬ (n + 3 ≤ n + 1 ∨ n + 1 = 167); omega), if_pos (by show n < n + 1; omega)]
        · have h2' : v.val ≠ n := fun e => h2 (Fin.ext e)
          rw [Function.update_of_ne h2]; unfold cell
          by_cases h3 : v.val + 3 ≤ n
          · rw [if_pos (.inl h3), if_pos (.inl (by omega))]
          · rw [if_neg (show ¬ (v.val + 3 ≤ n ∨ n = 167) by omega), if_neg (show ¬ (v.val + 3 ≤ n + 1 ∨ n + 1 = 167) by omega)]
            by_cases h4 : v.val < n
            · rw [if_pos h4, if_pos (by omega)]
            · rw [if_neg h4, if_neg (by omega)]
  · rw [if_neg h]
    refine (emp_drop _).trans (ent_of_eq (congrArg (bigSep Finset.univ) ?_))
    funext v
    by_cases h2 : v = ⟨n, by omega⟩
    · subst h2
      rw [Function.update_self]; unfold cell
      rw [if_neg (by show ¬ (n + 3 ≤ n + 1 ∨ n + 1 = 167); omega), if_pos (by show n < n + 1; omega)]
    · have h2' : v.val ≠ n := fun e => h2 (Fin.ext e)
      rw [Function.update_of_ne h2]; unfold cell
      rw [if_neg (show ¬ (v.val + 3 ≤ n ∨ n = 167) by omega), if_neg (show ¬ (v.val + 3 ≤ n + 1 ∨ n + 1 = 167) by omega)]
      by_cases h4 : v.val < n
      · rw [if_pos h4, if_pos (by omega)]
      · rw [if_neg h4, if_neg (by omega)]

/-- At the last point: every tile is done. -/
theorem cells_last (c : Dev nD) :
    iprop(six (outDN m c 166) ∗ six (outDN m c 165) ∗ six (outDN m c 164) ∗ bigSep Finset.univ (Function.update (cell m c 166) ⟨166, by omega⟩ BI.emp)) ⊢ bigSep Finset.univ (cell m c 167) := by
  have e : Function.update (Function.update (Function.update (Function.update (cell m c 166) ⟨166, by omega⟩ BI.emp) ⟨164, by omega⟩ (six (outDN m c 164)))
      ⟨165, by omega⟩ (six (outDN m c 165))) ⟨166, by omega⟩ (six (outDN m c 166)) = cell m c 167 := by
    funext v
    by_cases h0 : v = ⟨166, by omega⟩
    · subst h0; rw [Function.update_self]; unfold cell; rw [if_pos (.inr rfl)]
    rw [Function.update_of_ne h0]
    by_cases h1 : v = ⟨165, by omega⟩
    · subst h1; rw [Function.update_self]; unfold cell; rw [if_pos (.inr rfl)]
    rw [Function.update_of_ne h1]
    by_cases h2 : v = ⟨164, by omega⟩
    · subst h2; rw [Function.update_self]; unfold cell; rw [if_pos (.inr rfl)]
    rw [Function.update_of_ne h2, Function.update_of_ne h0]
    have h0' : v.val ≠ 166 := fun e => h0 (Fin.ext e)
    have h1' : v.val ≠ 165 := fun e => h1 (Fin.ext e)
    have h2' : v.val ≠ 164 := fun e => h2 (Fin.ext e)
    have := v.isLt
    unfold cell; rw [if_pos (.inl (by omega)), if_pos (.inr rfl)]
  rw [← e]
  have e0 : Function.update (cell m c 166) ⟨166, by omega⟩ BI.emp ⟨164, by omega⟩ = (BI.emp : sProp 𝕄) := by
    rw [Function.update_of_ne (by decide)]
    unfold cell; rw [if_neg (by show ¬ (164 + 3 ≤ 166 ∨ 166 = 167); omega), if_pos (by show 164 < 166; omega)]
  have e1 : Function.update (Function.update (cell m c 166) ⟨166, by omega⟩ BI.emp) ⟨164, by omega⟩ (six (outDN m c 164)) ⟨165, by omega⟩ = (BI.emp : sProp 𝕄) := by
    rw [Function.update_of_ne (by decide), Function.update_of_ne (by decide)]
    unfold cell; rw [if_neg (by show ¬ (165 + 3 ≤ 166 ∨ 166 = 167); omega), if_pos (by show 165 < 166; omega)]
  have e2 : Function.update (Function.update (Function.update (cell m c 166) ⟨166, by omega⟩ BI.emp) ⟨164, by omega⟩ (six (outDN m c 164)))
      ⟨165, by omega⟩ (six (outDN m c 165)) ⟨166, by omega⟩ = (BI.emp : sProp 𝕄) := by
    rw [Function.update_of_ne (by decide), Function.update_of_ne (by decide), Function.update_self]
  iintro ⟨H6, H5, H4, H⟩
  iapply (cells_give _ _ _ e2)
  isplitl [H6]; · iexact H6
  iapply (cells_give _ _ _ e1)
  isplitl [H5]; · iexact H5
  iapply (cells_give _ _ _ e0)
  isplitl [H4]; · iexact H4
  iexact H

/-! ## One grid point -/

theorem slotB_succ (c : Dev nD) (n : ℕ) (hn : n < 166) : slotB m c n = slotA m c (n + 1) := by
  unfold slotB slotA
  by_cases h : 1 ≤ n
  · rw [if_pos ⟨h, by omega⟩, if_pos ⟨by omega, by omega⟩]
    rw [show n + 1 - 2 = n - 1 by omega]
  · rw [if_neg (by omega), if_neg (by omega)]

theorem fly_new (c : Dev nD) (i : grid0.Coords) (n : ℕ) (hi : (i 0).val = n) (hn : n < 166) :
    six (fun rb => flying c M10 M11 M15 M16 M21 (VT m c) (VS m c) (v0Of m c) (slW i).toNat (slW_lt i) (BitVec.ofNat 32 (i 0).val : BitVec 32).toNat (ptW_lt i) rb (XT m c n rb) (YT m c n rb))
      = slotB m c (n + 1) := by
  unfold slotB
  rw [if_pos ⟨by omega, by omega⟩]
  refine congrArg six (funext fun rb => flying_congr m c _ _ _ _ _ _ _ _ ?_ ?_ rb _ _)
  · rw [slW_eq, hi]; omega
  · rw [ptW_eq, hi]; exact (Nat.mod_eq_of_lt (show n < 167 by omega)).symm

theorem fly_prev (c : Dev nD) (i : grid0.Coords) (hi : (i 0).val = 166) (hc : k0_cond15 i = 1#1) :
    six (fun rb => flying c M10 M11 M15 M16 M21 (VT m c) (VS m c) (v0Of m c) (slW' i).toNat (slW'_lt i) (Scalar.subi (BitVec.ofNat 32 (i 0).val) 1#32 : BitVec 32).toNat (prev1_lt i hc) rb (XT m c 165 rb) (YT m c 165 rb))
      = slotB m c 166 := by
  unfold slotB
  rw [if_pos ⟨by omega, by omega⟩]
  refine congrArg six (funext fun rb => flying_congr m c _ _ _ _ _ _ _ _ ?_ ?_ rb _ _)
  · rw [slW'_eq, hi]
  · rw [prevW_eq i 1 (.inl rfl) (by omega), hi]

theorem out_prev (c : Dev nD) (i : grid0.Coords) (hi : (i 0).val = 166) (hc : k0_cond15 i = 1#1) :
    six (fun rb => outD c M10 M11 (VT m c) (VS m c) (v0Of m c) (Scalar.subi (BitVec.ofNat 32 (i 0).val) 1#32 : BitVec 32).toNat (prev1_lt i hc) rb (XT m c 165 rb) (YT m c 165 rb))
      = six (outDN m c 165) := by
  refine congrArg six (funext fun rb => outD_congr m c _ _ _ _ ?_ rb _ _)
  rw [prevW_eq i 1 (.inl rfl) (by omega), hi]

theorem out_this (c : Dev nD) (i : grid0.Coords) (n : ℕ) (hi : (i 0).val = n) (hn : n < 167) :
    six (fun rb => outD c M10 M11 (VT m c) (VS m c) (v0Of m c) (BitVec.ofNat 32 (i 0).val : BitVec 32).toNat (ptW_lt i) rb (XT m c n rb) (YT m c n rb))
      = six (outDN m c n) := by
  refine congrArg six (funext fun rb => outD_congr m c _ _ _ _ ?_ rb _ _)
  rw [ptW_eq, hi]; exact (Nat.mod_eq_of_lt hn).symm

theorem outV_this (c : Dev nD) (i : grid0.Coords) (n : ℕ) (hi : (i 0).val = n) (hn : n < 167) :
    six (fun rb => outV c M10 M11 (VT m c) (VS m c) (BitVec.ofNat 32 (i 0).val : BitVec 32).toNat (ptW_lt i) rb) = six (outVN m c n) := by
  refine congrArg six (funext fun rb => outV_congr m c _ _ _ _ ?_ rb)
  rw [ptW_eq, hi]; exact (Nat.mod_eq_of_lt hn).symm

theorem idle_this (c : Dev nD) (i : grid0.Coords) (n : ℕ) (hi : (i 0).val = n) :
    (six (fun rb => idle c M15 M16 M21 (slW i).toNat (slW_lt i) rb) : sProp 𝕄) = six (idleN c n) :=
  congrArg six (funext fun rb => idle_congr c _ _ _ _ (by rw [slW_eq, hi]) rb)
theorem idle_last (c : Dev nD) (i : grid0.Coords) (hi : (i 0).val = 166) :
    (six (fun rb => idle c M15 M16 M21 (slW' i).toNat (slW'_lt i) rb) : sProp 𝕄) = slotA m c 167 := by
  unfold slotA
  rw [if_neg (by omega)]
  exact congrArg six (funext fun rb => idle_congr c _ _ _ _ (by rw [slW'_eq, hi]) rb)
theorem idle_last' (c : Dev nD) (i : grid0.Coords) (hi : (i 0).val = 166) :
    (six (fun rb => idle c M15 M16 M21 (slW i).toNat (slW_lt i) rb) : sProp 𝕄) = slotB m c 167 := by
  unfold slotB
  rw [if_neg (by omega)]
  exact congrArg six (funext fun rb => idle_congr c _ _ _ _ (by rw [slW_eq, hi]) rb)

/-- The eight inputs' blocks in their staging buffers. -/
def ownIn (c : Dev nD) (arg2 : Memref sig .tc .vmem S1536x3072 .bf16) (arg3 : Memref sig .tc .vmem S1536x2048 .fp8e4m3) (arg4 : Memref sig .tc .vmem S1536x128 .f32)
    (arg5 : Memref sig .tc .vmem S1536x768 .i8) (arg6 arg7 : Memref sig .tc .vmem S24x768 .f32) (arg8 : Memref sig .tc .vmem S768x2048 .fp8e4m3) (arg9 : Memref sig .tc .vmem S1x1x768 .f32) (I : Ins F) : sProp 𝕄 :=
  iprop(own c arg2 I.hb ∗ own c arg3 I.pc ∗ own c arg4 I.ps ∗ own c arg5 I.pk ∗ own c arg6 I.sc ∗ own c arg7 I.zr ∗ own c arg8 I.ws ∗ own c arg9 I.wss)

/-- A grid point keeps the invariant, and at the last one writes the two results of the statistics. -/
theorem wp_point (c : Dev nD) (i : grid0.Coords) (n : ℕ) (hi : (i 0).val = n) (hn : n < 167)
    (arg2 : Memref sig .tc .vmem S1536x3072 .bf16) (harg2 : arg2.IsWhole) (arg3 : Memref sig .tc .vmem S1536x2048 .fp8e4m3) (harg3 : arg3.IsWhole)
    (arg4 : Memref sig .tc .vmem S1536x128 .f32) (harg4 : arg4.IsWhole) (arg5 : Memref sig .tc .vmem S1536x768 .i8) (harg5 : arg5.IsWhole)
    (arg6 : Memref sig .tc .vmem S24x768 .f32) (harg6 : arg6.IsWhole) (arg7 : Memref sig .tc .vmem S24x768 .f32) (harg7 : arg7.IsWhole)
    (arg8 : Memref sig .tc .vmem S768x2048 .fp8e4m3) (harg8 : arg8.IsWhole) (arg9 : Memref sig .tc .vmem S1x1x768 .f32) (harg9 : arg9.IsWhole)
    (arg12 arg13 : Memref sig .tc .vmem S1536x128 .f32) (harg12 : arg12.IsWhole) (harg13 : arg13.IsWhole)
    (Z Z' : Vec F S1536x128 .f32) (Q : PUnit → sProp 𝕄) :
    iprop(Φn m c n ∗ (∃ W, owes (c : Thread nD τ) 0 W) ∗ ownIn c arg2 arg3 arg4 arg5 arg6 arg7 arg8 arg9 (It m c n) ∗ own c arg12 Z ∗ own c arg13 Z')
      ⊢ iprop((iprop(Φn m c (n + 1) ∗ (∃ W, owes (c : Thread nD τ) 0 W) ∗ ownIn c arg2 arg3 arg4 arg5 arg6 arg7 arg8 arg9 (It m c n)
            ∗ own c arg12 (if n = 166 then k0_pay1 (stAt m c 167).mt (stAt m c 167).lt else Z)
            ∗ own c arg13 (if n = 166 then k0_pay2 (stAt m c 167).ms (stAt m c 167).ls else Z')) -∗ Q ⟨⟩)
        -∗ WP c (cc0_fwd (F := F) i M1 (Memref.isWhole_whole _) arg2 harg2 arg3 harg3 arg4 harg4 arg5 harg5 arg6 harg6 arg7 harg7 arg8 harg8 arg9 harg9
            M10 (Memref.isWhole_whole _) M11 (Memref.isWhole_whole _) arg12 harg12 arg13 harg13 M14 (Memref.isWhole_whole _) M15 (Memref.isWhole_whole _) M16 (Memref.isWhole_whole _)
            M17 (Memref.isWhole_whole _) M18 (Memref.isWhole_whole _) M19 (Memref.isWhole_whole _) M20 (Memref.isWhole_whole _) M21) Q) := by
  rw [fwd_split, head_eq, WP_bind]
  unfold Φn ownIn
  iintro ⟨⟨HT, HG, ⟨%W, HW⟩, ⟨%S, %hS, HS⟩, HA, HB, HC⟩, HO, ⟨I2, I3, I4, I5, I6, I7, I8, I9⟩, O12, O13⟩ K
  ihave HA := (ent_of_eq (slotIn_eq m c i n hi hn).symm) $$ HA
  iapply (wp_head c i M1 arg5 arg6 arg7 M10 M11 M14 (Memref.isWhole_whole _) M15 M16 M17 M18 M19 M20 M21 (VT m c) (VS m c) (It m c n) W (tabOf m c) (v0Of m c)
    (tab_v0 m c) S (stAt m c n) (fun h => by rw [show n = 0 from hi ▸ (firstC_iff i).1 h]; rfl) (fun h => hS fun e => h ((firstC_iff i).2 (hi.trans e)))
    (XT m c (n - 2)) (YT m c (n - 2)) _) $$ [HT I5 I6 I7 HW HS HA HO]
  · isplitl [HT]; · iexact HT
    isplitl [I5 I6 I7 HW]
    · isplitr [HW]
      · unfold ownDq
        isplitl [I5]; · iexact I5
        isplitl [I6]; · iexact I6
        iexact I7
      iexact HW
    isplitl [HS]; · iexact HS
    isplitl [HA]; · iexact HA
    iexact HO
  iintro ⟨HT, ⟨HDq, HW⟩, HS, HI, HD, HO⟩
  ihave HD := (ent_of_eq (doneIn_eq m c i n hi hn)) $$ HD
  ihave HC := (cells_take m c n hn) $$ HC
  icases HC with ⟨HV, HC⟩
  ihave HV := (ent_of_eq (outV_this m c i n hi hn).symm) $$ HV
  rw [rest_eq]
  iapply (wp_rest c i M1 (Memref.isWhole_whole _) arg2 harg2 arg3 harg3 arg4 harg4 arg5 harg5 arg6 harg6 arg7 harg7 arg8 harg8 arg9 harg9
            M10 (Memref.isWhole_whole _) M11 (Memref.isWhole_whole _) arg12 harg12 arg13 harg13 M14 (Memref.isWhole_whole _) M15 (Memref.isWhole_whole _) M16 (Memref.isWhole_whole _)
            M17 (Memref.isWhole_whole _) M18 (Memref.isWhole_whole _) M19 (Memref.isWhole_whole _) M20 (Memref.isWhole_whole _) M21 (VT m c) (VS m c) (It m c n) W (v0Of m c) (stAt m c n)) $$ [HDq HW I9 I2 I3 I4 I8 HS HI HV]
  · isplitl [HDq HW]
    · isplitl [HDq]; · iexact HDq
      iexact HW
    isplitl [I9]; · iexact I9
    isplitl [I2 I3 I4 I8]
    · isplitl [I2]; · iexact I2
      isplitl [I3]; · iexact I3
      isplitl [I4]; · iexact I4
      iexact I8
    isplitl [HS]; · iexact HS
    isplitl [HI]; · iexact HI
    iexact HV
  rw [wtAll_eq]
  iintro ⟨HDq, I9, HR, HS, HF⟩
  unfold ownDq ownRd
  icases HDq with ⟨I5, I6, I7⟩
  icases HR with ⟨I2, I3, I4, I8, HW⟩
  by_cases hc : k0_cond15 i = 1#1
  · have h166 : n = 166 := hi ▸ (cond15_iff i).1 hc
    subst h166
    ihave HB := (ent_of_eq (fly_prev m c i hi hc).symm) $$ HB
    iapply (wp_tailLast c i M10 M11 arg12 arg13 M15 M16 M17 M18 M19 M20 M21 (VT m c) (VS m c) hc (v0Of m c) (stAt m c 167) Z Z' (XT m c 166) (YT m c 166) (XT m c 165) (YT m c 165) Q) $$ [HF HS O12 O13 HB HO]
    · isplitl [HF]; · iexact HF
      isplitl [HS O12 O13]
      · isplitl [HS]; · iexact HS
        isplitl [O12]; · iexact O12
        iexact O13
      isplitl [HB]; · iexact HB
      iexact HO
    iintro ⟨⟨HS, O12, O13⟩, HA, HP, HB, HN, HO⟩
    ihave HA := (ent_of_eq (idle_last m c i hi)) $$ HA
    ihave HB := (ent_of_eq (idle_last' m c i hi)) $$ HB
    ihave HP := (ent_of_eq (out_prev m c i hi hc)) $$ HP
    ihave HN := (ent_of_eq (out_this m c i 166 hi hn)) $$ HN
    ihave HD := (ent_of_eq (show doneN m c 166 = six (outDN m c 164) from if_pos (by omega))) $$ HD
    ihave HC := (cells_last m c) $$ [HN HP HD HC]
    · isplitl [HN]; · iexact HN
      isplitl [HP]; · iexact HP
      isplitl [HD]; · iexact HD
      iexact HC
    iapply K
    isplitr [HO I2 I3 I4 I5 I6 I7 I8 I9 O12 O13]
    · isplitl [HT]; · iexact HT
      isplitl [HG]; · iexact HG
      isplitl [HW]; · iexists _; iexact HW
      isplitl [HS]
      · iexists (stAt m c 167)
        isplitr; · ipureintro; exact fun _ => rfl
        iexact HS
      isplitl [HA]; · iexact HA
      isplitl [HB]; · iexact HB
      iexact HC
    isplitl [HO]; · iexact HO
    isplitr [O12 O13]
    · isplitl [I2]; · iexact I2
      isplitl [I3]; · iexact I3
      isplitl [I4]; · iexact I4
      isplitl [I5]; · iexact I5
      isplitl [I6]; · iexact I6
      isplitl [I7]; · iexact I7
      isplitl [I8]; · iexact I8
      iexact I9
    rw [if_pos rfl, if_pos rfl]
    isplitl [O12]; · iexact O12
    iexact O13
  · have h166 : n ≠ 166 := fun e => hc ((cond15_iff i).2 (hi.trans e))
    have hn' : n < 166 := by omega
    iapply (wp_tailMid c i M10 M11 arg12 arg13 M15 M16 M17 M18 M19 M20 M21 (VT m c) (VS m c) hc (v0Of m c) (XT m c n) (YT m c n) Q) $$ [HF]
    · iexact HF
    iintro HA
    ihave HA := (ent_of_eq (fly_new m c i n hi hn')) $$ HA
    ihave HB := (ent_of_eq (slotB_succ m c n hn')) $$ HB
    ihave HC := (cells_step m c n hn') $$ [HD HC]
    · isplitl [HD]; · iexact HD
      iexact HC
    iapply K
    isplitr [HO I2 I3 I4 I5 I6 I7 I8 I9 O12 O13]
    · isplitl [HT]; · iexact HT
      isplitl [HG]; · iexact HG
      isplitl [HW]; · iexists _; iexact HW
      isplitl [HS]
      · iexists (stAt m c (n + 1))
        isplitr; · ipureintro; exact fun _ => rfl
        iexact HS
      isplitl [HB]; · iexact HB
      isplitl [HA]; · iexact HA
      iexact HC
    isplitl [HO]; · iexact HO
    isplitr [O12 O13]
    · isplitl [I2]; · iexact I2
      isplitl [I3]; · iexact I3
      isplitl [I4]; · iexact I4
      isplitl [I5]; · iexact I5
      isplitl [I6]; · iexact I6
      isplitl [I7]; · iexact I7
      isplitl [I8]; · iexact I8
      iexact I9
    rw [if_neg h166, if_neg h166]
    isplitl [O12]; · iexact O12
    iexact O13

end Cert.Proof.Fwd

end
-- ==== Proof.Obl.lean ====
/-
  The body obligation of `fwd`: its proof data, and that every grid point keeps them.
-/
module

public import proofs.«01_k».proof.Proof.Inv

@[expose] public section

set_option maxRecDepth 65536

noncomputable section

namespace Cert.Proof.Fwd

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ)

theorem owns_own (c : Dev nD) {sp : Space} {s : Shape} {e : EltTy} (M : Memref sig .tc sp s e) (X : s.Idx → Elt F e) :
    (owns (c : Thread nD τ) M fullShare X : sProp 𝕄) ⊢ own c M X := by
  unfold own owns
  iintro ⟨%g, %hg, H⟩
  ihave H := (pointsTo_rep_entails (c : Thread nD τ) M g fullShare) $$ H
  rw [hg]
  iexact H
theorem own_owns (c : Dev nD) {sp : Space} {s : Shape} {e : EltTy} (M : Memref sig .tc sp s e) (X : s.Idx → Elt F e) :
    own c M X ⊢ (owns (c : Thread nD τ) M fullShare X : sProp 𝕄) := by
  unfold own owns
  iintro H
  iexists _
  isplitr; · ipureintro; exact View.read_rep _ _
  iexact H

/-- The pipeline's proof data: the arrays at launch, the inputs' blocks kept, the two results of the statistics, the invariant. -/
def dats (_ : Fin 1) (c : Dev nD) : Dat τ (Elt F) Unit ℕ (Pipeline.UD sig nD τ) ℕ (cfgA m) c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t
    | ⟨4, _⟩ => iblk m c 4 t | ⟨5, _⟩ => iblk m c 5 t | ⟨6, _⟩ => iblk m c 6 t | ⟨7, _⟩ => iblk m c 7 t
    | ⟨8, _⟩ => k0_pay1 (stAt m c 167).mt (stAt m c 167).lt
    | ⟨9, _⟩ => k0_pay2 (stAt m c 167).ms (stAt m c 167).ls
  Φ k := Φn m c k.val
  q _ := fullShare
  owed _ := 0

theorem A_eq (c : Dev nD) (w : Fin (cfgA m).W) : (dats m 0 c).A w = V m c (Pipeline.arrRef spec0 w) := by dsimp only [dats]
theorem after0_8 (c : Dev nD) (t : Fin (cfgA m).N) : (dats m 0 c).after 8 t = k0_pay1 (stAt m c 167).mt (stAt m c 167).lt := rfl
theorem after0_9 (c : Dev nD) (t : Fin (cfgA m).N) : (dats m 0 c).after 9 t = k0_pay2 (stAt m c 167).ms (stAt m c 167).ls := rfl
theorem after0_0 (c : Dev nD) (t : Fin (cfgA m).N) : (dats m 0 c).after 0 t = iblk m c 0 t := rfl
theorem before0_0 (c : Dev nD) (t : Fin (cfgA m).N) (d) : (dats m 0 c).before 0 t d = iblk m c 0 t :=
  Dat.before_in_eq_fetched (dats m 0 c) 0 rfl (fun _ => rfl) (fun _ _ _ => rfl) (fun _ => rfl) t d
theorem after0_1 (c : Dev nD) (t : Fin (cfgA m).N) : (dats m 0 c).after 1 t = iblk m c 1 t := rfl
theorem before0_1 (c : Dev nD) (t : Fin (cfgA m).N) (d) : (dats m 0 c).before 1 t d = iblk m c 1 t :=
  Dat.before_in_eq_fetched (dats m 0 c) 1 rfl (fun _ => rfl) (fun _ _ _ => rfl) (fun _ => rfl) t d
theorem after0_2 (c : Dev nD) (t : Fin (cfgA m).N) : (dats m 0 c).after 2 t = iblk m c 2 t := rfl
theorem before0_2 (c : Dev nD) (t : Fin (cfgA m).N) (d) : (dats m 0 c).before 2 t d = iblk m c 2 t :=
  Dat.before_in_eq_fetched (dats m 0 c) 2 rfl (fun _ => rfl) (fun _ _ _ => rfl) (fun _ => rfl) t d
theorem after0_3 (c : Dev nD) (t : Fin (cfgA m).N) : (dats m 0 c).after 3 t = iblk m c 3 t := rfl
theorem before0_3 (c : Dev nD) (t : Fin (cfgA m).N) (d) : (dats m 0 c).before 3 t d = iblk m c 3 t :=
  Dat.before_in_eq_fetched (dats m 0 c) 3 rfl (fun _ => rfl) (fun _ _ _ => rfl) (fun _ => rfl) t d
theorem after0_4 (c : Dev nD) (t : Fin (cfgA m).N) : (dats m 0 c).after 4 t = iblk m c 4 t := rfl
theorem before0_4 (c : Dev nD) (t : Fin (cfgA m).N) (d) : (dats m 0 c).before 4 t d = iblk m c 4 t :=
  Dat.before_in_eq_fetched (dats m 0 c) 4 rfl (fun _ => rfl) (fun _ _ _ => rfl) (fun _ => rfl) t d
theorem after0_5 (c : Dev nD) (t : Fin (cfgA m).N) : (dats m 0 c).after 5 t = iblk m c 5 t := rfl
theorem before0_5 (c : Dev nD) (t : Fin (cfgA m).N) (d) : (dats m 0 c).before 5 t d = iblk m c 5 t :=
  Dat.before_in_eq_fetched (dats m 0 c) 5 rfl (fun _ => rfl) (fun _ _ _ => rfl) (fun _ => rfl) t d
theorem after0_6 (c : Dev nD) (t : Fin (cfgA m).N) : (dats m 0 c).after 6 t = iblk m c 6 t := rfl
theorem before0_6 (c : Dev nD) (t : Fin (cfgA m).N) (d) : (dats m 0 c).before 6 t d = iblk m c 6 t :=
  Dat.before_in_eq_fetched (dats m 0 c) 6 rfl (fun _ => rfl) (fun _ _ _ => rfl) (fun _ => rfl) t d
theorem after0_7 (c : Dev nD) (t : Fin (cfgA m).N) : (dats m 0 c).after 7 t = iblk m c 7 t := rfl
theorem before0_7 (c : Dev nD) (t : Fin (cfgA m).N) (d) : (dats m 0 c).before 7 t d = iblk m c 7 t :=
  Dat.before_in_eq_fetched (dats m 0 c) 7 rfl (fun _ => rfl) (fun _ _ _ => rfl) (fun _ => rfl) t d

/-- The grid point's coordinate is its number. -/
theorem coord_val (t : Fin (cfgA m).N) : ((cfgA m).grid.coords t 0).val = t.val := by
  have h := t.isLt.trans_eq N_0
  rw [Pipeline.Grid.coords_val t 0 (S := 1) (B := 167) (show grid0.stride 0 = 1 by decide) rfl, Nat.div_one]
  exact Nat.mod_eq_of_lt h

theorem flush_const (w : Fin (cfgA m).W) (hw : ∀ t t' : Fin (cfgA m).N, ((cfgA m).win w).index t = ((cfgA m).win w).index t')
    (t : Fin (cfgA m).N) (h : t.val ≠ 166) : ((cfgA m).win w).flush t = false := by
  have hN : (cfgA m).grid.N = 167 := N_0
  unfold Pipeline.Window.flush
  rw [Bool.and_eq_false_iff]
  refine .inr ?_
  rw [Bool.or_eq_false_iff]
  refine ⟨decide_eq_false (fun e => h (by have := e.trans hN; omega)), decide_eq_false ?_⟩
  rintro ⟨h', e⟩
  exact e (hw _ _)
theorem flush0_8 (t : Fin (cfgA m).N) (h : t.val ≠ 166) : ((cfgA m).win 8).flush t = false := flush_const m 8 (fun _ _ => rfl) t h
theorem flush0_9 (t : Fin (cfgA m).N) (h : t.val ≠ 166) : ((cfgA m).win 9).flush t = false := flush_const m 9 (fun _ _ => rfl) t h

theorem idle0_8 (t : Fin (cfgA m).N) : (cfgA m).idle 8 ((cfgA m).grid.coords t) = !decide (t.val = 166) := by
  show (!(k0_cond15 (grid0.coords t) == 1#1)) = _
  congr 1
  rw [Bool.eq_iff_iff, beq_iff_eq, decide_eq_true_iff, cond15_iff]
  rw [show ((grid0.coords t) 0).val = t.val from coord_val m t]
theorem idle0_9 (t : Fin (cfgA m).N) : (cfgA m).idle 9 ((cfgA m).grid.coords t) = !decide (t.val = 166) := idle0_8 m t

/-- The body at a grid point, on the staging buffers in use. -/
abbrev bodyAt (t : Fin (cfgA m).N) : PG (F := F) PUnit :=
  cc0_fwd (grid0.coords t) (Memref.whole main_arg0) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1))
    (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4))
    (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7))
    (Memref.whole main_v0_0) (Memref.isWhole_whole _) (Memref.whole main_v0_1) (Memref.isWhole_whole _) (spec0_8.stage ((cfgA m).slots t 8)) (hstage0_8 (((cfgA m).slots t 8).cast nbuf0_8)) (spec0_9.stage ((cfgA m).slots t 9)) (hstage0_9 (((cfgA m).slots t 9).cast nbuf0_9))
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) cc0_scratch7

theorem defs₀_row (t : Fin (cfgA m).N) : defs₀ (F := F) .tc (cfgA m).body ((cfgA m).bodyArgs t ((cfgA m).slots t)) = bodyAt m t := by
  unfold defs₀; rw [Defs.onTc_tc]

/-- What the body leaves of the first result of the statistics: its buffer as found before the last point, the result at it. -/
def left8 (c : Dev nD) (t : Fin (cfgA m).N) : sProp 𝕄 :=
  match (cfgA m).idle 8 ((cfgA m).grid.coords t) with
  | true =>
    match ((cfgA m).win 8).flush t with
    | false => iprop(∃ d, owns (c : Thread nD τ) (((cfgA m).win 8).stage ((cfgA m).slots t 8)) fullShare ((dats m 0 c).before 8 t d))
    | true => owns (c : Thread nD τ) (((cfgA m).win 8).stage ((cfgA m).slots t 8)) fullShare ((dats m 0 c).after 8 t)
  | false => owns (c : Thread nD τ) (((cfgA m).win 8).stage ((cfgA m).slots t 8)) fullShare ((dats m 0 c).after 8 t)
/-- Of the second. -/
def left9 (c : Dev nD) (t : Fin (cfgA m).N) : sProp 𝕄 :=
  match (cfgA m).idle 9 ((cfgA m).grid.coords t) with
  | true =>
    match ((cfgA m).win 9).flush t with
    | false => iprop(∃ d, owns (c : Thread nD τ) (((cfgA m).win 9).stage ((cfgA m).slots t 9)) fullShare ((dats m 0 c).before 9 t d))
    | true => owns (c : Thread nD τ) (((cfgA m).win 9).stage ((cfgA m).slots t 9)) fullShare ((dats m 0 c).after 9 t)
  | false => owns (c : Thread nD τ) (((cfgA m).win 9).stage ((cfgA m).slots t 9)) fullShare ((dats m 0 c).after 9 t)

theorem left8_intro (c : Dev nD) (t : Fin (cfgA m).N) (d) (X : Vec F S1536x128 .f32)
    (h1 : t.val = 166 → X = (dats m 0 c).after 8 t) (h2 : t.val ≠ 166 → X = (dats m 0 c).before 8 t d) :
    own c (spec0_8.stage ((cfgA m).slots t 8)) X ⊢ left8 m c t := by
  unfold left8
  rw [idle0_8]
  by_cases h : t.val = 166
  · rw [h1 h, decide_eq_true h]; exact own_owns c _ _
  · rw [h2 h, decide_eq_false h, flush0_8 m t h]
    refine (own_owns c _ _).trans ?_
    show _ ⊢ iprop(∃ d, owns (c : Thread nD τ) (((cfgA m).win 8).stage ((cfgA m).slots t 8)) fullShare ((dats m 0 c).before 8 t d))
    iintro H
    iexists d
    iexact H
theorem left9_intro (c : Dev nD) (t : Fin (cfgA m).N) (d) (X : Vec F S1536x128 .f32)
    (h1 : t.val = 166 → X = (dats m 0 c).after 9 t) (h2 : t.val ≠ 166 → X = (dats m 0 c).before 9 t d) :
    own c (spec0_9.stage ((cfgA m).slots t 9)) X ⊢ left9 m c t := by
  unfold left9
  rw [idle0_9]
  by_cases h : t.val = 166
  · rw [h1 h, decide_eq_true h]; exact own_owns c _ _
  · rw [h2 h, decide_eq_false h, flush0_9 m t h]
    refine (own_owns c _ _).trans ?_
    show _ ⊢ iprop(∃ d, owns (c : Thread nD τ) (((cfgA m).win 9).stage ((cfgA m).slots t 9)) fullShare ((dats m 0 c).before 9 t d))
    iintro H
    iexists d
    iexact H

abbrev ow (c : Dev nD) (w : Fin (cfgA m).W) (t : Fin (cfgA m).N) (X : ((cfgA m).win w).block.Idx → Elt F ((cfgA m).win w).elt) : sProp 𝕄 :=
  owns (c : Thread nD τ) (((cfgA m).win w).stage ((cfgA m).slots t w)) fullShare X

def bodyPre (c : Dev nD) (t : Fin (cfgA m).N) : sProp 𝕄 :=
  iprop((dats m 0 c).Φ t.castSucc ∗ (dats m 0 c).owesAt () t.castSucc
    ∗ (∃ d, ow m c 0 t ((dats m 0 c).before 0 t d)) ∗ (∃ d, ow m c 1 t ((dats m 0 c).before 1 t d)) ∗ (∃ d, ow m c 2 t ((dats m 0 c).before 2 t d)) ∗ (∃ d, ow m c 3 t ((dats m 0 c).before 3 t d))
    ∗ (∃ d, ow m c 4 t ((dats m 0 c).before 4 t d)) ∗ (∃ d, ow m c 5 t ((dats m 0 c).before 5 t d)) ∗ (∃ d, ow m c 6 t ((dats m 0 c).before 6 t d)) ∗ (∃ d, ow m c 7 t ((dats m 0 c).before 7 t d))
    ∗ (∃ d, ow m c 8 t ((dats m 0 c).before 8 t d)) ∗ (∃ d, ow m c 9 t ((dats m 0 c).before 9 t d)))
def bodyPost (c : Dev nD) (t : Fin (cfgA m).N) : sProp 𝕄 :=
  iprop((dats m 0 c).Φ t.succ ∗ (dats m 0 c).owesAt () t.succ
    ∗ ow m c 0 t ((dats m 0 c).after 0 t) ∗ ow m c 1 t ((dats m 0 c).after 1 t) ∗ ow m c 2 t ((dats m 0 c).after 2 t) ∗ ow m c 3 t ((dats m 0 c).after 3 t)
    ∗ ow m c 4 t ((dats m 0 c).after 4 t) ∗ ow m c 5 t ((dats m 0 c).after 5 t) ∗ ow m c 6 t ((dats m 0 c).after 6 t) ∗ ow m c 7 t ((dats m 0 c).after 7 t)
    ∗ left8 m c t ∗ left9 m c t)

theorem owesAt_in (c : Dev nD) (k : Fin ((cfgA m).N + 1)) : (dats m 0 c).owesAt () k ⊢ (iprop(∃ W, owes (c : Thread nD τ) 0 W) : sProp 𝕄) := by
  unfold Dat.owesAt Pipeline.owesWithin
  rw [show (dats m 0 c).owed k = 0 from rfl]
  iintro ⟨%W, -, HW⟩
  iexists W; iexact HW
theorem owesAt_out (c : Dev nD) (k : Fin ((cfgA m).N + 1)) : (iprop(∃ W, owes (c : Thread nD τ) 0 W) : sProp 𝕄) ⊢ (dats m 0 c).owesAt () k := by
  unfold Dat.owesAt Pipeline.owesWithin
  rw [show (dats m 0 c).owed k = 0 from rfl]
  iintro ⟨%W, HW⟩
  iexists W
  isplitr; · ipureintro; exact fun _ _ => Or.inl trivial
  iexact HW

theorem ow_in (c : Dev nD) (w : Fin (cfgA m).W) (t : Fin (cfgA m).N) (X : ((cfgA m).win w).block.Idx → Elt F ((cfgA m).win w).elt)
    (f : (((cfgA m).win w).block.Idx → Elt F ((cfgA m).win w).elt) → (((cfgA m).win w).block.Idx → Elt F ((cfgA m).win w).elt)) (h : ∀ d, f d = X) :
    iprop(∃ d, ow m c w t (f d)) ⊢ own c (((cfgA m).win w).stage ((cfgA m).slots t w)) X := by
  iintro ⟨%d, H⟩
  rw [h]
  iapply (owns_own c _ _) $$ H

theorem sound_body (c : Dev nD) (t : Fin (cfgA m).N) :
    bodyPre m c t ⊢ wp frame (wpE (defs₀ (F := F)) Variants.none c none) Set.univ (bodyAt m t) (fun _ => bodyPost m c t) := by
  unfold bodyPre bodyPost
  rw [show (dats m 0 c).Φ t.succ = Φn m c (t.val + 1) from rfl, show (dats m 0 c).Φ t.castSucc = Φn m c t.val from rfl]
  iintro ⟨HΦ, HO, H0, H1, H2, H3, H4, H5, H6, H7, ⟨%d8, H8⟩, ⟨%d9, H9⟩⟩
  ihave HO := (owesAt_in m c _) $$ HO
  ihave H0 := (ow_in m c 0 t _ _ (before0_0 m c t)) $$ H0
  ihave H1 := (ow_in m c 1 t _ _ (before0_1 m c t)) $$ H1
  ihave H2 := (ow_in m c 2 t _ _ (before0_2 m c t)) $$ H2
  ihave H3 := (ow_in m c 3 t _ _ (before0_3 m c t)) $$ H3
  ihave H4 := (ow_in m c 4 t _ _ (before0_4 m c t)) $$ H4
  ihave H5 := (ow_in m c 5 t _ _ (before0_5 m c t)) $$ H5
  ihave H6 := (ow_in m c 6 t _ _ (before0_6 m c t)) $$ H6
  ihave H7 := (ow_in m c 7 t _ _ (before0_7 m c t)) $$ H7
  ihave H8 := (owns_own c _ _) $$ H8
  ihave H9 := (owns_own c _ _) $$ H9
  iapply (wp_point m c (grid0.coords t) t.val (coord_val m t) (t.isLt.trans_eq N_0) (spec0_0.stage ((cfgA m).slots t 0)) (hstage0_0 (((cfgA m).slots t 0).cast nbuf0_0)) (spec0_1.stage ((cfgA m).slots t 1)) (hstage0_1 (((cfgA m).slots t 1).cast nbuf0_1))
    (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4))
    (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7))
    (spec0_8.stage ((cfgA m).slots t 8)) (spec0_9.stage ((cfgA m).slots t 9)) (hstage0_8 (((cfgA m).slots t 8).cast nbuf0_8)) (hstage0_9 (((cfgA m).slots t 9).cast nbuf0_9))
    ((dats m 0 c).before 8 t d8) ((dats m 0 c).before 9 t d9) _) $$ [HΦ HO H0 H1 H2 H3 H4 H5 H6 H7 H8 H9]
  · isplitl [HΦ]; · iexact HΦ
    isplitl [HO]; · iexact HO
    isplitr [H8 H9]
    · unfold ownIn It
      rw [tOf_val]
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexact H8
    iexact H9
  iintro ⟨HΦ, HO, HI, H8, H9⟩
  isplitl [HΦ]; · iexact HΦ
  isplitl [HO]; · iapply (owesAt_out m c _) $$ HO
  unfold ownIn It
  rw [tOf_val]
  icases HI with ⟨H0, H1, H2, H3, H4, H5, H6, H7⟩
  isplitl [H0]; · iapply (own_owns c _ _) $$ H0
  isplitl [H1]; · iapply (own_owns c _ _) $$ H1
  isplitl [H2]; · iapply (own_owns c _ _) $$ H2
  isplitl [H3]; · iapply (own_owns c _ _) $$ H3
  isplitl [H4]; · iapply (own_owns c _ _) $$ H4
  isplitl [H5]; · iapply (own_owns c _ _) $$ H5
  isplitl [H6]; · iapply (own_owns c _ _) $$ H6
  isplitl [H7]; · iapply (own_owns c _ _) $$ H7
  isplitl [H8]; · iapply (left8_intro m c t d8 (if t.val = 166 then k0_pay1 (stAt m c 167).mt (stAt m c 167).lt else (dats m 0 c).before 8 t d8 : Vec F S1536x128 .f32) (fun h => if_pos h) (fun h => if_neg h)) $$ H8
  iapply (left9_intro m c t d9 (if t.val = 166 then k0_pay2 (stAt m c 167).ms (stAt m c 167).ls else (dats m 0 c).before 9 t d9 : Vec F S1536x128 .f32) (fun h => if_pos h) (fun h => if_neg h)) $$ H9

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.Proof.Fwd

end
-- ==== Proof.Ends.lean ====
/-
  The launch of `fwd`: the invariant before the first point and after the last, the run and what it leaves.
-/
module

public import proofs.«01_k».proof.Proof.Obl
public import Idealize.ShloMosaic.Lib.ValueIdxCore
public import Idealize.ShloMosaic.Lib.ValueLayout
public import Idealize.ShloMosaic.Lib.Ring
public import Idealize.ShloMosaic.Lib.SparseCore.Launch
public import Idealize.ShloMosaic.Lib.Pipeline.FrameValue

@[expose] public section

set_option maxRecDepth 65536

noncomputable section

namespace Cert.Proof.Fwd

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

open Idealize.ShloMosaic.ValueIdx (ix2 ix3)

variable (m : (ℓ : Loc nD τ sig) → Buf (Elt F) ℓ) (ρ : Dev nD → PrngReg)

theorem six_big (Φ : Fin 6 → sProp 𝕄) : six Φ = bigSep Finset.univ Φ :=
  (bigSep_univ_eq_bigSepL [(0 : Fin 6), 1, 2, 3, 4, 5] (by decide) (by decide) Φ).symm
theorem two_big (Φ : Fin 2 → sProp 𝕄) : bigSep Finset.univ Φ = iprop(Φ 0 ∗ Φ 1) :=
  bigSep_univ_eq_bigSepL [(0 : Fin 2), 1] (by decide) (by decide) Φ
theorem pair_big {A B : Type} [Fintype A] [DecidableEq A] [Fintype B] [DecidableEq B] (Φ : A × B → sProp 𝕄) :
    bigSep Finset.univ Φ = bigSep Finset.univ fun a => bigSep Finset.univ fun b => Φ (a, b) := by
  rw [← Finset.univ_product_univ, SparseCore.bigSep_product]

/-! ## The double buffers' pieces -/

theorem mem_buf {s : ℕ} {hs : s < 2} {rb : Fin 6} {y : S2x1536x768.Idx} :
    y ∈ (Rect.unit (s := S2x1536x768) ![s, 256 * rb.val, 0] S1x256x768.size (inbBuf s hs rb)).set ↔ (y 0).val = s ∧ (y 1).val / 256 = rb.val := by
  rw [Rect.mem_set_unit]
  constructor
  · intro h
    have h0 : s ≤ (y 0).val ∧ (y 0).val < s + 1 := h 0
    have h1 : 256 * rb.val ≤ (y 1).val ∧ (y 1).val < 256 * rb.val + 256 := h 1
    exact ⟨by omega, by omega⟩
  · rintro ⟨h0, h1⟩ a
    match a with
    | ⟨0, _⟩ => exact ⟨show s ≤ (y 0).val by omega, show (y 0).val < s + 1 by omega⟩
    | ⟨1, _⟩ => exact ⟨show 256 * rb.val ≤ (y 1).val by omega, show (y 1).val < 256 * rb.val + 256 by omega⟩
    | ⟨2, _⟩ => exact ⟨Nat.zero_le _, (show (y 2).val < 0 + 768 by have : (y 2).val < 768 := (y 2).isLt; omega)⟩
theorem mem_out {v : ℕ} {hv : v < 167} {rb : Fin 6} {y : S167x1536x768.Idx} :
    y ∈ (Rect.unit (s := S167x1536x768) ![v, 256 * rb.val, 0] S1x256x768.size (inbOut v hv rb)).set ↔ (y 0).val = v ∧ (y 1).val / 256 = rb.val := by
  rw [Rect.mem_set_unit]
  constructor
  · intro h
    have h0 : v ≤ (y 0).val ∧ (y 0).val < v + 1 := h 0
    have h1 : 256 * rb.val ≤ (y 1).val ∧ (y 1).val < 256 * rb.val + 256 := h 1
    exact ⟨by omega, by omega⟩
  · rintro ⟨h0, h1⟩ a
    match a with
    | ⟨0, _⟩ => exact ⟨show v ≤ (y 0).val by omega, show (y 0).val < v + 1 by omega⟩
    | ⟨1, _⟩ => exact ⟨show 256 * rb.val ≤ (y 1).val by omega, show (y 1).val < 256 * rb.val + 256 by omega⟩
    | ⟨2, _⟩ => exact ⟨Nat.zero_le _, (show (y 2).val < 0 + 768 by have : (y 2).val < 768 := (y 2).isLt; omega)⟩

def I15 (p : Fin 2 × Fin 6) : Finset S2x1536x768.Idx := (bufP M15 p.1.val p.1.isLt p.2).view.set
def I16 (p : Fin 2 × Fin 6) : Finset S2x1536x768.Idx := (bufP M16 p.1.val p.1.isLt p.2).view.set
def I10 (p : Fin 167 × Fin 6) : Finset S167x1536x768.Idx := (outP M10 p.1.val p.1.isLt p.2).view.set
def I11 (p : Fin 167 × Fin 6) : Finset S167x1536x768.Idx := (outP M11 p.1.val p.1.isLt p.2).view.set

theorem I15_eq (p : Fin 2 × Fin 6) : I15 p = (Rect.unit (s := S2x1536x768) ![p.1.val, 256 * p.2.val, 0] S1x256x768.size (inbBuf p.1.val p.1.isLt p.2)).set :=
  (View.set_reshape _ _).trans (View.set_slice_whole cc0_scratch1 _)
theorem I16_eq (p : Fin 2 × Fin 6) : I16 p = (Rect.unit (s := S2x1536x768) ![p.1.val, 256 * p.2.val, 0] S1x256x768.size (inbBuf p.1.val p.1.isLt p.2)).set :=
  (View.set_reshape _ _).trans (View.set_slice_whole cc0_scratch2 _)
theorem I10_eq (p : Fin 167 × Fin 6) : I10 p = (Rect.unit (s := S167x1536x768) ![p.1.val, 256 * p.2.val, 0] S1x256x768.size (inbOut p.1.val p.1.isLt p.2)).set :=
  (View.set_reshape _ _).trans (View.set_slice_whole main_v0_0 _)
theorem I11_eq (p : Fin 167 × Fin 6) : I11 p = (Rect.unit (s := S167x1536x768) ![p.1.val, 256 * p.2.val, 0] S1x256x768.size (inbOut p.1.val p.1.isLt p.2)).set :=
  (View.set_reshape _ _).trans (View.set_slice_whole main_v0_1 _)

theorem disj_buf (I : Fin 2 × Fin 6 → Finset S2x1536x768.Idx)
    (hI : ∀ p, I p = (Rect.unit (s := S2x1536x768) ![p.1.val, 256 * p.2.val, 0] S1x256x768.size (inbBuf p.1.val p.1.isLt p.2)).set) :
    (∀ b b', b ≠ b' → Disjoint (I b) (I b')) ∧ Finset.univ.biUnion I = Finset.univ := by
  constructor
  · intro b b' hne
    rw [Finset.disjoint_left]
    intro y hy hy'
    replace hy := (mem_buf (hs := b.1.isLt)).1 (hI b ▸ hy)
    replace hy' := (mem_buf (hs := b'.1.isLt)).1 (hI b' ▸ hy')
    exact hne (Prod.ext (Fin.ext (hy.1.symm.trans hy'.1)) (Fin.ext (hy.2.symm.trans hy'.2)))
  · ext y
    refine ⟨fun _ => Finset.mem_univ _, fun _ => Finset.mem_biUnion.mpr ⟨(⟨(y 0).val, (y 0).isLt⟩, ⟨(y 1).val / 256, ?_⟩), Finset.mem_univ _, ?_⟩⟩
    · have : (y 1).val < 1536 := (y 1).isLt
      omega
    · rw [hI]; exact (mem_buf (hs := (y 0).isLt)).2 ⟨rfl, rfl⟩
theorem disj_out (I : Fin 167 × Fin 6 → Finset S167x1536x768.Idx)
    (hI : ∀ p, I p = (Rect.unit (s := S167x1536x768) ![p.1.val, 256 * p.2.val, 0] S1x256x768.size (inbOut p.1.val p.1.isLt p.2)).set) :
    (∀ b b', b ≠ b' → Disjoint (I b) (I b')) ∧ Finset.univ.biUnion I = Finset.univ := by
  constructor
  · intro b b' hne
    rw [Finset.disjoint_left]
    intro y hy hy'
    replace hy := (mem_out (hv := b.1.isLt)).1 (hI b ▸ hy)
    replace hy' := (mem_out (hv := b'.1.isLt)).1 (hI b' ▸ hy')
    exact hne (Prod.ext (Fin.ext (hy.1.symm.trans hy'.1)) (Fin.ext (hy.2.symm.trans hy'.2)))
  · ext y
    refine ⟨fun _ => Finset.mem_univ _, fun _ => Finset.mem_biUnion.mpr ⟨(⟨(y 0).val, (y 0).isLt⟩, ⟨(y 1).val / 256, ?_⟩), Finset.mem_univ _, ?_⟩⟩
    · have : (y 1).val < 1536 := (y 1).isLt
      omega
    · rw [hI]; exact (mem_out (hv := (y 0).isLt)).2 ⟨rfl, rfl⟩

theorem split15 (c : Dev nD) : iprop(∃ f : Buf (Elt F) ((c : Thread nD τ).loc cc0_scratch1), ((c : Thread nD τ).loc cc0_scratch1) ↦{fullShare} f)
    ⊢ (bigSep Finset.univ fun p : Fin 2 × Fin 6 => iprop(∃ X : FVec F S256x768 .f32, own c (bufP M15 p.1.val p.1.isLt p.2) X) : sProp 𝕄) := by
  have h : ∀ f : Buf (Elt F) ((c : Thread nD τ).loc cc0_scratch1), (((c : Thread nD τ).loc cc0_scratch1) ↦{fullShare} f : sProp 𝕄)
      ⊢ bigSep Finset.univ fun p : Fin 2 × Fin 6 => iprop(∃ X : FVec F S256x768 .f32, own c (bufP M15 p.1.val p.1.isLt p.2) X) := fun f => by
    rw [Ring.pointsTo_blocks (ℓ := (c : Thread nD τ).loc cc0_scratch1) I15 (disj_buf I15 I15_eq).1 (disj_buf I15 I15_eq).2 f]
    refine bigSep_mono fun p _ => ?_
    refine (ent_of_eq (own_of_read c (bufP M15 p.1.val p.1.isLt p.2) f _ rfl)).trans ?_
    iintro H
    iexists _
    iexact H
  iintro ⟨%f, H⟩
  iapply (h f) $$ H
include m in
theorem join15 (c : Dev nD) : (bigSep Finset.univ fun p : Fin 2 × Fin 6 => iprop(∃ X : FVec F S256x768 .f32, own c (bufP M15 p.1.val p.1.isLt p.2) X) : sProp 𝕄)
    ⊢ iprop(∃ f : Buf (Elt F) ((c : Thread nD τ).loc cc0_scratch1), ((c : Thread nD τ).loc cc0_scratch1) ↦{fullShare} f) := by
  have h : ∀ p : Fin 2 × Fin 6, (iprop(∃ X : FVec F S256x768 .f32, own c (bufP M15 p.1.val p.1.isLt p.2) X) : sProp 𝕄)
      ⊢ iprop(∃ f : Buf (Elt F) ((c : Thread nD τ).loc cc0_scratch1), ((c : Thread nD τ).loc cc0_scratch1) ↦[I15 p]{fullShare} f) := fun p => by
    have hX : ∀ X : FVec F S256x768 .f32, (own c (bufP M15 p.1.val p.1.isLt p.2) X : sProp 𝕄)
        ⊢ (((c : Thread nD τ).loc cc0_scratch1) ↦[I15 p]{fullShare} ((bufP M15 p.1.val p.1.isLt p.2).view.rep X) : sProp 𝕄) := fun X => .rfl
    iintro ⟨%X, H⟩
    ihave H := (hX X) $$ H
    iexists ((bufP M15 p.1.val p.1.isLt p.2).view.rep X)
    iexact H
  exact (bigSep_mono fun p _ => h p).trans (Ring.pointsTo_blocks_join_exists (ℓ := (c : Thread nD τ).loc cc0_scratch1) I15 (disj_buf I15 I15_eq).1 (disj_buf I15 I15_eq).2 (m ((c : Thread nD τ).loc cc0_scratch1)))
theorem split16 (c : Dev nD) : iprop(∃ f : Buf (Elt F) ((c : Thread nD τ).loc cc0_scratch2), ((c : Thread nD τ).loc cc0_scratch2) ↦{fullShare} f)
    ⊢ (bigSep Finset.univ fun p : Fin 2 × Fin 6 => iprop(∃ X : FVec F S256x768 .f32, own c (bufP M16 p.1.val p.1.isLt p.2) X) : sProp 𝕄) := by
  have h : ∀ f : Buf (Elt F) ((c : Thread nD τ).loc cc0_scratch2), (((c : Thread nD τ).loc cc0_scratch2) ↦{fullShare} f : sProp 𝕄)
      ⊢ bigSep Finset.univ fun p : Fin 2 × Fin 6 => iprop(∃ X : FVec F S256x768 .f32, own c (bufP M16 p.1.val p.1.isLt p.2) X) := fun f => by
    rw [Ring.pointsTo_blocks (ℓ := (c : Thread nD τ).loc cc0_scratch2) I16 (disj_buf I16 I16_eq).1 (disj_buf I16 I16_eq).2 f]
    refine bigSep_mono fun p _ => ?_
    refine (ent_of_eq (own_of_read c (bufP M16 p.1.val p.1.isLt p.2) f _ rfl)).trans ?_
    iintro H
    iexists _
    iexact H
  iintro ⟨%f, H⟩
  iapply (h f) $$ H
include m in
theorem join16 (c : Dev nD) : (bigSep Finset.univ fun p : Fin 2 × Fin 6 => iprop(∃ X : FVec F S256x768 .f32, own c (bufP M16 p.1.val p.1.isLt p.2) X) : sProp 𝕄)
    ⊢ iprop(∃ f : Buf (Elt F) ((c : Thread nD τ).loc cc0_scratch2), ((c : Thread nD τ).loc cc0_scratch2) ↦{fullShare} f) := by
  have h : ∀ p : Fin 2 × Fin 6, (iprop(∃ X : FVec F S256x768 .f32, own c (bufP M16 p.1.val p.1.isLt p.2) X) : sProp 𝕄)
      ⊢ iprop(∃ f : Buf (Elt F) ((c : Thread nD τ).loc cc0_scratch2), ((c : Thread nD τ).loc cc0_scratch2) ↦[I16 p]{fullShare} f) := fun p => by
    have hX : ∀ X : FVec F S256x768 .f32, (own c (bufP M16 p.1.val p.1.isLt p.2) X : sProp 𝕄)
        ⊢ (((c : Thread nD τ).loc cc0_scratch2) ↦[I16 p]{fullShare} ((bufP M16 p.1.val p.1.isLt p.2).view.rep X) : sProp 𝕄) := fun X => .rfl
    iintro ⟨%X, H⟩
    ihave H := (hX X) $$ H
    iexists ((bufP M16 p.1.val p.1.isLt p.2).view.rep X)
    iexact H
  exact (bigSep_mono fun p _ => h p).trans (Ring.pointsTo_blocks_join_exists (ℓ := (c : Thread nD τ).loc cc0_scratch2) I16 (disj_buf I16 I16_eq).1 (disj_buf I16 I16_eq).2 (m ((c : Thread nD τ).loc cc0_scratch2)))

/-! ## The kernel's semaphores -/

/-- The kernel's own semaphores, by slot, row block and side. -/
def osem : (Fin 2 × Fin 6) × Fin 2 → SemLoc sig := fun k => .dma (semP M21 k.1.1.val k.1.1.isLt k.2 k.1.2).sem
theorem osemFacts : Pipeline.OwnSemFacts spec0 osem := by decide

/-- The two slots free. -/
theorem slots_eq (c : Dev nD) : (iprop(six (idleN c 0) ∗ six (idleN c 1)) : sProp 𝕄)
    = iprop((bigSep Finset.univ fun p : Fin 2 × Fin 6 => iprop(∃ X : FVec F S256x768 .f32, own c (bufP M15 p.1.val p.1.isLt p.2) X))
      ∗ (bigSep Finset.univ fun p : Fin 2 × Fin 6 => iprop(∃ X : FVec F S256x768 .f32, own c (bufP M16 p.1.val p.1.isLt p.2) X))
      ∗ Pipeline.ownSems0 (Ix := Unit) (Name := ℕ) (U := Pipeline.UD sig nD τ) (Lvl := ℕ) (Val := Elt F) (τ := τ) osem c) := by
  have e : (iprop(six (idleN c 0) ∗ six (idleN c 1)) : sProp 𝕄) = bigSep Finset.univ fun p : Fin 2 × Fin 6 => idle c M15 M16 M21 p.1.val p.1.isLt p.2 := by
    rw [pair_big, two_big, six_big, six_big]; rfl
  have e' : (Pipeline.ownSems0 (Ix := Unit) (Name := ℕ) (U := Pipeline.UD sig nD τ) (Lvl := ℕ) (Val := Elt F) (τ := τ) osem c : sProp 𝕄)
      = bigSep Finset.univ fun p : Fin 2 × Fin 6 => iprop(sem0 c M21 p.1.val p.1.isLt 0 p.2 ∗ sem0 c M21 p.1.val p.1.isLt 1 p.2) := by
    unfold Pipeline.ownSems0
    rw [pair_big]
    exact bigSep_congr fun p _ => (two_big _).trans rfl
  rw [e, e', ← bigSep_sep', ← bigSep_sep']
  rfl

theorem slots_first (c : Dev nD) : iprop(slotA m c 0 ∗ slotB m c 0) = iprop(six (idleN c 0) ∗ six (idleN c 1)) := by
  unfold slotA slotB
  rw [if_neg (by omega), if_neg (by omega)]
theorem slots_last (c : Dev nD) : iprop(slotA m c 167 ∗ slotB m c 167) = iprop(six (idleN c 1) ∗ six (idleN c 0)) := by
  unfold slotA slotB
  rw [if_neg (by omega), if_neg (by omega)]
  congr 1

/-! ## The two outputs -/

/-- The row block of an output's element. -/
def rbOf (y : S167x1536x768.Idx) : Fin 6 := ⟨(y 1).val / 256, by have : (y 1).val < 1536 := (y 1).isLt; omega⟩
/-- Its place in the row block. -/
def inOf (y : S167x1536x768.Idx) : S256x768.Idx := ix2 ⟨(y 1).val % 256, by omega⟩ ⟨(y 2).val, (y 2).isLt⟩

/-- The teacher's output at the end: the logits in the live row blocks, elsewhere as at launch. -/
def GT (c : Dev nD) : Buf (Elt F) ((c : Thread nD τ).loc main_v0_0) := fun y : S167x1536x768.Idx =>
  if liveC (v0Of m c) (rbOf y) then XT m c (y 0).val (rbOf y) (inOf y) else V m c main_v0_0 y
/-- The student's. -/
def GS (c : Dev nD) : Buf (Elt F) ((c : Thread nD τ).loc main_v0_1) := fun y : S167x1536x768.Idx =>
  if liveC (v0Of m c) (rbOf y) then YT m c (y 0).val (rbOf y) (inOf y) else V m c main_v0_1 y

theorem emb_out (v : ℕ) (hv : v < 167) (rb : Fin 6) (z : S256x768.Idx) :
    let y : S167x1536x768.Idx := (Rect.unit (s := S167x1536x768) ![v, 256 * rb.val, 0] S1x256x768.size (inbOut v hv rb)).emb (Shape.reshapeEquiv squeezes_S1x256x768_S256x768.numel_eq z)
    (y 0).val = v ∧ rbOf y = rb ∧ inOf y = z := by
  obtain ⟨a, b, rfl⟩ : ∃ a b, z = ix2 a b := ⟨z 0, z 1, ValueIdx.eq_ix2 z⟩
  have e : Shape.reshapeEquiv squeezes_S1x256x768_S256x768.numel_eq (ix2 a b) = ix3 (0 : Fin 1) a b := ValueIdx.reshapeEquiv_ix2_1ab _ a b
  intro y
  have hy : y = (Rect.unit (s := S167x1536x768) ![v, 256 * rb.val, 0] S1x256x768.size (inbOut v hv rb)).emb (ix3 (0 : Fin 1) a b) := by rw [← e]
  have h0 : (y 0).val = v := by rw [hy, Rect.emb_apply]; show v + 1 * 0 = v; omega
  have h1 : (y 1).val = 256 * rb.val + a.val := by rw [hy, Rect.emb_apply]; show 256 * rb.val + 1 * a.val = _; omega
  have h2 : (y 2).val = b.val := by rw [hy, Rect.emb_apply]; show 0 + 1 * b.val = _; omega
  have ha := a.isLt
  refine ⟨h0, Fin.ext ?_, ?_⟩
  · show (y 1).val / 256 = rb.val; omega
  · unfold inOf
    congr 1
    · exact Fin.ext (by show (y 1).val % 256 = a.val; omega)
    · exact Fin.ext h2

theorem outD_eq (c : Dev nD) (v : Fin 167) (rb : Fin 6) :
    outDN m c v.val rb = iprop((((c : Thread nD τ).loc main_v0_0) ↦[I10 (v, rb)]{fullShare} GT m c) ∗ (((c : Thread nD τ).loc main_v0_1) ↦[I11 (v, rb)]{fullShare} GS m c)) := by
  unfold outDN
  rw [outD_congr m c (v.val % 167) v.val _ v.isLt (Nat.mod_eq_of_lt v.isLt)]
  unfold outD
  by_cases h : liveC (v0Of m c) rb
  · rw [if_pos h]
    have e0 : (outP M10 v.val v.isLt rb).view.read (Elt F) (GT m c) = XT m c v.val rb := by
      funext z
      obtain ⟨h0, h1, h2⟩ := emb_out v.val v.isLt rb z
      refine Eq.trans (show _ = GT m c ((Rect.unit (s := S167x1536x768) ![v.val, 256 * rb.val, 0] S1x256x768.size (inbOut v.val v.isLt rb)).emb (Shape.reshapeEquiv squeezes_S1x256x768_S256x768.numel_eq z)) from rfl) ?_
      unfold GT
      rw [h1, h2, h0, if_pos h]
    have e1 : (outP M11 v.val v.isLt rb).view.read (Elt F) (GS m c) = YT m c v.val rb := by
      funext z
      obtain ⟨h0, h1, h2⟩ := emb_out v.val v.isLt rb z
      refine Eq.trans (show _ = GS m c ((Rect.unit (s := S167x1536x768) ![v.val, 256 * rb.val, 0] S1x256x768.size (inbOut v.val v.isLt rb)).emb (Shape.reshapeEquiv squeezes_S1x256x768_S256x768.numel_eq z)) from rfl) ?_
      unfold GS
      rw [h1, h2, h0, if_pos h]
    rw [← own_of_read c (outP M10 v.val v.isLt rb) (GT m c) _ e0, ← own_of_read c (outP M11 v.val v.isLt rb) (GS m c) _ e1]
    rfl
  · rw [if_neg h]
    unfold outV
    have e0 : ∀ y ∈ I10 (v, rb), VT m c y = GT m c y := fun y hy => by
      have := ((mem_out (hv := v.isLt)).1 (I10_eq (v, rb) ▸ hy)).2
      unfold GT
      rw [show rbOf y = rb from Fin.ext this, if_neg h]
    have e1 : ∀ y ∈ I11 (v, rb), VS m c y = GS m c y := fun y hy => by
      have := ((mem_out (hv := v.isLt)).1 (I11_eq (v, rb) ▸ hy)).2
      unfold GS
      rw [show rbOf y = rb from Fin.ext this, if_neg h]
    rw [← pointsTo_congr (ℓ := (c : Thread nD τ).loc main_v0_0) e0, ← pointsTo_congr (ℓ := (c : Thread nD τ).loc main_v0_1) e1]
    rfl

/-- The outputs' tiles at the end are the outputs. -/
theorem outs_last (c : Dev nD) : (bigSep Finset.univ (cell m c 167) : sProp 𝕄)
    = iprop((((c : Thread nD τ).loc main_v0_0) ↦{fullShare} GT m c) ∗ (((c : Thread nD τ).loc main_v0_1) ↦{fullShare} GS m c)) := by
  rw [Ring.pointsTo_blocks (ℓ := (c : Thread nD τ).loc main_v0_0) I10 (disj_out I10 I10_eq).1 (disj_out I10 I10_eq).2 (GT m c),
    Ring.pointsTo_blocks (ℓ := (c : Thread nD τ).loc main_v0_1) I11 (disj_out I11 I11_eq).1 (disj_out I11 I11_eq).2 (GS m c), ← bigSep_sep', pair_big]
  refine bigSep_congr fun v _ => ?_
  unfold cell
  rw [if_pos (.inr rfl), six_big]
  exact bigSep_congr fun rb _ => outD_eq m c v rb
theorem outs_first (c : Dev nD) : (bigSep Finset.univ (cell m c 0) : sProp 𝕄)
    = iprop((((c : Thread nD τ).loc main_v0_0) ↦{fullShare} V m c main_v0_0) ∗ (((c : Thread nD τ).loc main_v0_1) ↦{fullShare} V m c main_v0_1)) := by
  rw [Ring.pointsTo_blocks (ℓ := (c : Thread nD τ).loc main_v0_0) I10 (disj_out I10 I10_eq).1 (disj_out I10 I10_eq).2 (V m c main_v0_0),
    Ring.pointsTo_blocks (ℓ := (c : Thread nD τ).loc main_v0_1) I11 (disj_out I11 I11_eq).1 (disj_out I11 I11_eq).2 (V m c main_v0_1), ← bigSep_sep', pair_big]
  refine bigSep_congr fun v _ => ?_
  unfold cell
  rw [if_neg (by omega), if_neg (by omega), six_big]
  refine bigSep_congr fun rb _ => ?_
  unfold outVN
  rw [outV_congr m c (v.val % 167) v.val _ v.isLt (Nat.mod_eq_of_lt v.isLt)]
  rfl

end Cert.Proof.Fwd

end
-- ==== Proof.Launched.lean ====
/-
  The launch of `fwd`: it runs, and what it leaves.
-/
module

public import proofs.«01_k».proof.Proof.Ends
public import Idealize.ShloMosaic.Lib.ValueIdxCore
public import Idealize.ShloMosaic.Lib.ValueLayout
public import Idealize.ShloMosaic.Lib.Ring
public import Idealize.ShloMosaic.Lib.SparseCore.Launch
public import Idealize.ShloMosaic.Lib.Pipeline.FrameValue

@[expose] public section

set_option maxRecDepth 65536

noncomputable section

namespace Cert.Proof.Fwd

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A whole buffer is held as its contents. -/
theorem whole_own (c : Dev nD) (b : Ref sig .tc) (f : Buf (Elt F) ((c : Thread nD τ).loc b)) :
    (((c : Thread nD τ).loc b) ↦{fullShare} f : sProp 𝕄) = own c (Memref.whole b) f := by
  rw [← own_of_read c (Memref.whole b) f f (View.read_whole b f)]
  show _ = ((c : Thread nD τ).loc b ↦[(View.whole b).set]{fullShare} f : sProp 𝕄)
  rw [View.set_whole]

theorem own_scratch (c : Dev nD) (b : Ref sig .tc) (X) :
    (own c (Memref.whole b) X : sProp 𝕄) ⊢ iprop(∃ f : Buf (Elt F) ((c : Thread nD τ).loc b), ((c : Thread nD τ).loc b) ↦{fullShare} f) := by
  have h := ent_of_eq (whole_own (F := F) c b X).symm
  iintro H
  ihave H := h $$ H
  iexists _
  iexact H

theorem tab_own (c : Dev nD) :
    (((c : Thread nD τ).loc main_arg0) ↦{fullShare.right} V m c main_arg0 : sProp 𝕄) = ownTab c M1 (tabOf m c) := by
  unfold ownTab
  rw [show (M1.view.loc (c : Thread nD τ) ↦[M1.view.set]{fullShare.right} M1.view.rep (tabOf m c) : sProp 𝕄) = _ from
    (pointsTo_rep (c : Thread nD τ) M1 (V m c main_arg0) fullShare.right).symm]
  show _ = ((c : Thread nD τ).loc main_arg0 ↦[(View.whole main_arg0).set]{fullShare.right} V m c main_arg0 : sProp 𝕄)
  rw [View.set_whole]

/-- What the buffers hold after the run, the outputs the body writes itself included. -/
def GG (c : Dev nD) (b : Ref sig .tc) : Buf (Elt F) ((c : Thread nD τ).loc b) :=
  Function.update (Function.update (V m c) main_v0_0 (GT m c)) main_v0_1 (GS m c) b
theorem GG_0 (c : Dev nD) : GG m c main_v0_0 = GT m c := by
  unfold GG; rw [Function.update_of_ne (by decide), Function.update_self]
theorem GG_1 (c : Dev nD) : GG m c main_v0_1 = GS m c := by
  unfold GG; rw [Function.update_self]

/-- The buffers the body writes itself. -/
abbrev R0 : Finset (Ref sig .tc) := {main_v0_0, main_v0_1}
theorem R0_sub : R0 ⊆ Pipeline.restRefsP sig pre0 spec0 \ ∅ := by decide
theorem R0_big (Φ : Ref sig .tc → sProp 𝕄) : bigSep R0 Φ = iprop(Φ main_v0_0 ∗ Φ main_v0_1) :=
  BI.bigSep_eq_bigSepL_of_eq (S := R0) [main_v0_0, main_v0_1] (by decide) (by decide) Φ

set_option backward.isDefEq.respectTransparency.types false in
theorem hin (c : Dev nD) : (iprop(Pipeline.ΦDRG osem (cfgA m).spec ∅ R0 (V m) (V m) c ∗ Pipeline.ΦT pre0 (adm m 0).1 c) : sProp 𝕄) ⊢ (dats m 0 c).Φ 0 := by
  rw [Pipeline.ΦDRG_eq]
  unfold Pipeline.routed
  rw [R0_big]
  show _ ⊢ Φn m c 0
  have hT : (Pipeline.ΦT pre0 (adm m 0).1 c : sProp 𝕄) = (((c : Thread nD τ).loc main_arg0) ↦{fullShare.right} V m c main_arg0) := by
    unfold Pipeline.ΦT Pipeline.prefHeld
    rw [bigSep_univ_eq_bigSepL [(0 : Fin 1)] (by decide) (by decide)]
    have : c = 0 := Subsingleton.elim _ _
    subst this
    rfl
  have hS := scopedRest0_eq (Ix := Unit) (Val := Elt F) (Name := ℕ) (U := Pipeline.UD sig nD τ) (Lvl := ℕ) c
  have e1 := (ent_of_eq (slots_eq (F := F) c).symm).trans (ent_of_eq (slots_first m c).symm)
  unfold Φn
  iintro ⟨⟨HS, Hg, HO, -, Ha, Hb⟩, HT⟩
  ihave HS := (ent_of_eq hS) $$ HS
  icases HS with ⟨⟨%f0, H0⟩, H1, H2, ⟨%f3, H3⟩, ⟨%f4, H4⟩, ⟨%f5, H5⟩, ⟨%f6, H6⟩⟩
  ihave H1 := (split15 c) $$ H1
  ihave H2 := (split16 c) $$ H2
  ihave HT := (ent_of_eq hT) $$ HT
  ihave HT := (ent_of_eq (tab_own m c)) $$ HT
  ihave H0 := (ent_of_eq (whole_own c cc0_scratch0 f0)) $$ H0
  ihave H3 := (ent_of_eq (whole_own c cc0_scratch3 f3)) $$ H3
  ihave H4 := (ent_of_eq (whole_own c cc0_scratch4 f4)) $$ H4
  ihave H5 := (ent_of_eq (whole_own c cc0_scratch5 f5)) $$ H5
  ihave H6 := (ent_of_eq (whole_own c cc0_scratch6 f6)) $$ H6
  ihave HSl := e1 $$ [H1 H2 HO]
  · isplitl [H1]; · iexact H1
    isplitl [H2]; · iexact H2
    iexact HO
  icases HSl with ⟨HA, HB⟩
  ihave HV := (ent_of_eq (outs_first m c).symm) $$ [Ha Hb]
  · isplitl [Ha]; · iexact Ha
    iexact Hb
  isplitl [HT]; · iexact HT
  isplitl [Hg]; · iexact Hg
  isplitl [H0]; · iexists f0; iexact H0
  isplitl [H3 H4 H5 H6]
  · iexists (⟨f3, f4, f5, f6⟩ : St F)
    isplitr
    · ipureintro; exact fun h => absurd rfl h
    unfold ownSt
    isplitl [H3]; · iexact H3
    isplitl [H4]; · iexact H4
    isplitl [H5]; · iexact H5
    iexact H6
  isplitl [HA]; · iexact HA
  isplitl [HB]; · iexact HB
  iexact HV

set_option backward.isDefEq.respectTransparency.types false in
theorem hout (c : Dev nD) : (dats m 0 c).Φ (Fin.last (cfgA m).N) ⊢ (Pipeline.ΦDRG osem (cfgA m).spec ∅ R0 (V m) (GG m) c : sProp 𝕄) := by
  rw [Pipeline.ΦDRG_eq]
  unfold Pipeline.routed
  rw [R0_big, GG_0, GG_1]
  have hN : (Fin.last (cfgA m).N).val = 167 := N_0
  show Φn m c (Fin.last (cfgA m).N).val ⊢ _
  rw [hN]
  have hS := scopedRest0_eq (Ix := Unit) (Val := Elt F) (Name := ℕ) (U := Pipeline.UD sig nD τ) (Lvl := ℕ) c
  have e1 : (iprop(six (idleN c 0) ∗ six (idleN c 1)) : sProp 𝕄) ⊢ _ := ent_of_eq (slots_eq (F := F) c)
  have e2 := ent_of_eq (slots_last m c)
  unfold Φn
  iintro ⟨HT, Hg, ⟨%X0, H0⟩, ⟨%S, -, HSt⟩, HA, HB, HV⟩
  unfold ownSt
  icases HSt with ⟨H3, H4, H5, H6⟩
  ihave HV := (ent_of_eq (outs_last m c)) $$ HV
  icases HV with ⟨Ha, Hb⟩
  ihave HSl := e2 $$ [HA HB]
  · isplitl [HA]; · iexact HA
    iexact HB
  icases HSl with ⟨HB, HA⟩
  ihave HSl := e1 $$ [HA HB]
  · isplitl [HA]; · iexact HA
    iexact HB
  icases HSl with ⟨H1, H2, HO⟩
  ihave H1 := (join15 m c) $$ H1
  ihave H2 := (join16 m c) $$ H2
  ihave H0 := (own_scratch c cc0_scratch0 _) $$ H0
  ihave H3 := (own_scratch c cc0_scratch3 _) $$ H3
  ihave H4 := (own_scratch c cc0_scratch4 _) $$ H4
  ihave H5 := (own_scratch c cc0_scratch5 _) $$ H5
  ihave H6 := (own_scratch c cc0_scratch6 _) $$ H6
  ihave HR := (ent_of_eq hS.symm) $$ [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [HR]; · iexact HR
  isplitl [Hg]; · iexact Hg
  isplitl [HO]; · iexact HO
  isplitr
  · rw [bigSep_empty]; iempintro
  isplitl [Ha]; · iexact Ha
  iexact Hb

theorem hmain : Pipeline.HMainP (Ix := Unit) (Name := ℕ) (U := Pipeline.UD sig nD τ) (Lvl := ℕ) pcfgs 0 (defs₀ (F := F)) Variants.none m main (V m) :=
  Pipeline.hmainP_region pcfgs 0 defs₀ Variants.none m main fun c => (main_chain (F := F) c).trans rfl

set_option backward.isDefEq.respectTransparency.types false in
theorem run_main : θ_run defs (onTc (τ := τ) (main (F := F))) ⟨m, fun _ => 0, ρ⟩
    (fun r => Pipeline.FramePostRG (Pipeline.pin pcfgs (adm m)) (dats m) 0 R0 (V m) (GG m) r ∧ r.2.sem = fun _ => 0) :=
  Pipeline.θ_run_frameP_dmaRG (Q' := _) pcfgs (adm m) (dats m) (0 : Fin 1) launch0 osem defs₀ Variants.none osemFacts ∅ R0 (Finset.empty_subset _) R0_sub m ρ main
    (hbody := fun c => (body_obligation m c).loose) (hshare := fun c => (dats m 0 c).share_full fun _ => rfl)
    (howed := fun _ _ => rfl) (V := V m) (hmain := hmain m) (hA := A_eq m)
    (hpf := fun c k => by have : c = 0 := Subsingleton.elim _ _; subst this; rfl) (G := GG m)
    (hin := hin m) (hout := hout m)

end Cert.Proof.Fwd

end
-- ==== Proof.Named.lean ====
/-
  What `fwd` leaves: its arguments as they were, the outputs and the statistics by name.
-/
module

public import proofs.«01_k».proof.Proof.Launched
public import Idealize.ShloMosaic.Lib.Pipeline.ValueKit.Geometry
public import Idealize.ShloMosaic.Lib.ValueIdxCore
public import Idealize.ShloMosaic.Lib.ValueLayout
public import Idealize.ShloMosaic.Lib.Ring
public import Idealize.ShloMosaic.Lib.SparseCore.Launch
public import Idealize.ShloMosaic.Lib.Pipeline.FrameValue

@[expose] public section

set_option maxRecDepth 65536

noncomputable section

namespace Cert.Proof.Fwd

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem flush_last (w : Fin (cfgA m).W) (t : Fin (cfgA m).N) (h : t.val = 166) (ho : ((cfgA m).win w).isOut = true) : ((cfgA m).win w).flush t = true := by
  have hN : (cfgA m).grid.N = 167 := N_0
  unfold Pipeline.Window.flush
  rw [Bool.and_eq_true_iff]
  refine ⟨ho, ?_⟩
  rw [Bool.or_eq_true_iff]
  exact .inl (decide_eq_true (by rw [h, hN]))

/-- The last point. -/
def tL : Fin (cfgA m).N := ⟨166, by show 166 < (cfgA m).grid.N; rw [show (cfgA m).grid.N = 167 from N_0]; omega⟩
theorem whole8 : ((cfgA m).win 8).WholeAt (tL m) := by
  refine ⟨flush_last m 8 _ rfl rfl, fun t h => Fin.ext ?_, fun a => ?_⟩
  · show t.val = 166
    by_contra hne
    rw [flush0_8 m t hne] at h
    exact Bool.noConfusion h
  · match a with
    | ⟨0, _⟩ => exact ⟨rfl, by rfl⟩
    | ⟨1, _⟩ => exact ⟨rfl, by rfl⟩
theorem whole9 : ((cfgA m).win 9).WholeAt (tL m) := by
  refine ⟨flush_last m 9 _ rfl rfl, fun t h => Fin.ext ?_, fun a => ?_⟩
  · show t.val = 166
    by_contra hne
    rw [flush0_9 m t hne] at h
    exact Bool.noConfusion h
  · match a with
    | ⟨0, _⟩ => exact ⟨rfl, by rfl⟩
    | ⟨1, _⟩ => exact ⟨rfl, by rfl⟩

/-- The teacher's log-sum at the end, and the student's. -/
def G8 (c : Dev nD) : S1536x128.Idx → Elt F .f32 := k0_pay1 (stAt m c 167).mt (stAt m c 167).lt
def G9 (c : Dev nD) : S1536x128.Idx → Elt F .f32 := k0_pay2 (stAt m c 167).ms (stAt m c 167).ls
theorem arr8 (c : Dev nD) : (dats m 0 c).arrAt 8 (cfgA m).N = G8 m c :=
  (dats m 0 c).arrAt_eq_of_after_last 8 (tL m) (whole8 m) (G8 m c) fun j => rfl
theorem arr9 (c : Dev nD) : (dats m 0 c).arrAt 9 (cfgA m).N = G9 m c :=
  (dats m 0 c).arrAt_eq_of_after_last 9 (tL m) (whole9 m) (G9 m c) fun j => rfl

/-- The run: the arguments unchanged, the four results named, every semaphore at zero. -/
theorem run_val : θ_run defs (onTc (τ := τ) (main (F := F))) ⟨m, fun _ => 0, ρ⟩ (fun r => (∀ c : Dev nD, (
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.mem ((c.tc : Thread nD τ).loc main_v0_0) = GT m c ∧ r.2.mem ((c.tc : Thread nD τ).loc main_v0_1) = GS m c
      ∧ r.2.mem ((c.tc : Thread nD τ).loc main_v0_2) = G8 m c ∧ r.2.mem ((c.tc : Thread nD τ).loc main_v0_3) = G9 m c)
      ∧ r.2.sem = fun _ => 0) :=
  (θ_run defs _ _).mono (fun r h => ⟨fun c => ⟨⟨(h.1.1 c).2 main_arg0 (Finset.mem_sdiff.mpr ⟨Pipeline.mem_restRefs_of main_arg0 (by decide) (show ∀ w : Fin 10, (spec0 w).arr.view.ref ≠ main_arg0 by decide), by decide⟩),
      ((h.1.1 c).1 0).trans ((dats m 0 c).arrAt_in 0 rfl _),
      ((h.1.1 c).1 1).trans ((dats m 0 c).arrAt_in 1 rfl _),
      ((h.1.1 c).1 2).trans ((dats m 0 c).arrAt_in 2 rfl _),
      ((h.1.1 c).1 3).trans ((dats m 0 c).arrAt_in 3 rfl _),
      ((h.1.1 c).1 4).trans ((dats m 0 c).arrAt_in 4 rfl _),
      ((h.1.1 c).1 5).trans ((dats m 0 c).arrAt_in 5 rfl _),
      ((h.1.1 c).1 6).trans ((dats m 0 c).arrAt_in 6 rfl _),
      ((h.1.1 c).1 7).trans ((dats m 0 c).arrAt_in 7 rfl _)⟩,
      (h.1.2 c main_v0_0 (by decide)).trans (GG_0 m c), (h.1.2 c main_v0_1 (by decide)).trans (GG_1 m c),
      ((h.1.1 c).1 8).trans (arr8 m c), ((h.1.1 c).1 9).trans (arr9 m c)⟩, h.2⟩) (run_main m ρ)

/-- THE FRAME: the call runs to its end, changes no argument, and leaves every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => (h.1 c).1, h.2⟩) (run_val m ρ)

end Cert.Proof.Fwd

end
-- ==== Proof.Transfer.lean ====
/-
  The idealized program is the kernel's at the exact instance: what was proved at any instance carries over.
-/
module

public import proofs.«01_k».proof.Proof.Named
public import proofs.«01_k».proof.Proof.Gen.KernelIdeal
public import Idealize.ShloMosaic.PureOps.Ideal

@[expose] public section

set_option maxRecDepth 65536

noncomputable section

namespace Cert.Proof.Fwd

open Idealize.ShloMosaic
open Idealize.ShloMosaic.TcCoe
open Idealize.SL.Sem

def KI0 := @Cert.KernelIdeal.defs₀ Ideal _ _
def K0 := @Cert.Kernel.defs₀ Ideal _ _
theorem defs₀_eq : KI0 = K0 := by
  unfold KI0 K0 Cert.KernelIdeal.defs₀ Cert.Kernel.defs₀
  congr 1
  funext ℓ a
  match ℓ, a with
  | 0, (t, s) => rfl

/-- The procedures of the two programs agree. -/
theorem defs_eq : @Cert.KernelIdeal.defs Ideal _ _ = @Cert.Kernel.defs Ideal _ _ := by
  show Pipeline.defs (nD := Cert.Kernel.nD) (τ := Cert.Kernel.τ) (Cert.Kernel.pcfgs (F := Ideal)) KI0 = Pipeline.defs (Cert.Kernel.pcfgs (F := Ideal)) K0
  rw [defs₀_eq]

/-- The idealized program runs as the kernel's does at the exact instance. -/
theorem run_ideal (m : (ℓ : Loc Cert.KernelIdeal.nD Cert.KernelIdeal.τ Cert.KernelIdeal.sig) → Buf (Elt Ideal) ℓ) (ρ : Dev Cert.KernelIdeal.nD → PrngReg)
    (Q : PUnit × MemSt Cert.KernelIdeal.nD Cert.KernelIdeal.τ Cert.KernelIdeal.sig (Elt Ideal) → Prop)
    (h : θ_run (Cert.Kernel.defs (F := Ideal)) (onTc (τ := Cert.Kernel.τ) (Cert.Kernel.main (F := Ideal))) ⟨m, fun _ => 0, ρ⟩ Q) :
    θ_run (Cert.KernelIdeal.defs (F := Ideal)) (onTc (τ := Cert.KernelIdeal.τ) (Cert.KernelIdeal.main (F := Ideal))) ⟨m, fun _ => 0, ρ⟩ Q := by
  rw [defs_eq]
  exact h

/-- The idealized program's frame. -/
theorem frame_ideal (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0) :=
  run_ideal m ρ _ (frame (F := Ideal) m ρ)

end Cert.Proof.Fwd

end
-- ==== Proof.KBlk.lean ====
/-
  A tile's input blocks, element by element, from the arguments.
-/
module

public import proofs.«01_k».proof.Proof.Named
public import Idealize.ShloMosaic.Lib.Pipeline.ValueKit

@[expose] public section

set_option maxRecDepth 16384

noncomputable section

namespace Cert.Proof.Fwd

open Cert.Kernel Cert.Kernel.Gen
open Idealize.ShloMosaic Idealize.ShloMosaic.TcCoe Idealize.SL.Sem

variable {F : FTy → Type} [FloatOps F]
variable (m : (ℓ : Loc nD τ sig) → Buf (Elt F) ℓ)

theorem tr0 : ∀ t : Fin grid0.N, cc0_transform_0 (grid0.coords t) = ![0, 0] := by decide +kernel
theorem tr1 : ∀ t : Fin grid0.N, cc0_transform_1 (grid0.coords t) = ![0, 0] := by decide +kernel
theorem tr2 : ∀ t : Fin grid0.N, cc0_transform_2 (grid0.coords t) = ![0, 0] := by decide +kernel
theorem tr3 : ∀ t : Fin grid0.N, cc0_transform_3 (grid0.coords t) = ![0, t.val] := by decide +kernel
theorem tr4 : ∀ t : Fin grid0.N, cc0_transform_4 (grid0.coords t) = ![0, t.val] := by decide +kernel
theorem tr5 : ∀ t : Fin grid0.N, cc0_transform_5 (grid0.coords t) = ![0, t.val] := by decide +kernel
theorem tr6 : ∀ t : Fin grid0.N, cc0_transform_6 (grid0.coords t) = ![t.val, 0] := by decide +kernel
theorem tr7 : ∀ t : Fin grid0.N, cc0_transform_7 (grid0.coords t) = ![t.val, 0, 0] := by decide +kernel

theorem ix0' (t : Fin (cfgA m).N) : ((cfgA m).win 0).index t = ![0, 0] := tr0 t
theorem ix1' (t : Fin (cfgA m).N) : ((cfgA m).win 1).index t = ![0, 0] := tr1 t
theorem ix2' (t : Fin (cfgA m).N) : ((cfgA m).win 2).index t = ![0, 0] := tr2 t
theorem ix3' (t : Fin (cfgA m).N) : ((cfgA m).win 3).index t = ![0, t.val] := tr3 t
theorem ix4' (t : Fin (cfgA m).N) : ((cfgA m).win 4).index t = ![0, t.val] := tr4 t
theorem ix5' (t : Fin (cfgA m).N) : ((cfgA m).win 5).index t = ![0, t.val] := tr5 t
theorem ix6' (t : Fin (cfgA m).N) : ((cfgA m).win 6).index t = ![t.val, 0] := tr6 t
theorem ix7' (t : Fin (cfgA m).N) : ((cfgA m).win 7).index t = ![t.val, 0, 0] := tr7 t

theorem pk_at (c : Dev nD) (n : ℕ) (hn : n < 167) (i : Fin 1536) (j : Fin 768) :
    (It m c n).pk (ix2 i j) = V m c main_arg4 (ix2 i ⟨n * 768 + j.val, by omega⟩) := by
  have ht : (tOf m n).val = n := Nat.mod_eq_of_lt hn
  show iblk m c 3 (tOf m n) (ix2 i j) = _
  blk_simp [iblk]
  refine congrArg (V m c main_arg4) (funext fun a => Fin.ext ?_)
  refine (((cfgA m).win 3).rect_emb_val (tOf m n) (ix2 i j) a).trans ?_
  rw [ix3']
  fin_cases a
  · show 0 * 1536 + i.val = i.val; omega
  · show (tOf m n).val * 768 + j.val = n * 768 + j.val; rw [ht]

theorem sc_at (c : Dev nD) (n : ℕ) (hn : n < 167) (i : Fin 24) (j : Fin 768) :
    (It m c n).sc (ix2 i j) = V m c main_arg5 (ix2 i ⟨n * 768 + j.val, by omega⟩) := by
  have ht : (tOf m n).val = n := Nat.mod_eq_of_lt hn
  show iblk m c 4 (tOf m n) (ix2 i j) = _
  blk_simp [iblk]
  refine congrArg (V m c main_arg5) (funext fun a => Fin.ext ?_)
  refine (((cfgA m).win 4).rect_emb_val (tOf m n) (ix2 i j) a).trans ?_
  rw [ix4']
  fin_cases a
  · show 0 * 24 + i.val = i.val; omega
  · show (tOf m n).val * 768 + j.val = n * 768 + j.val; rw [ht]

theorem zr_at (c : Dev nD) (n : ℕ) (hn : n < 167) (i : Fin 24) (j : Fin 768) :
    (It m c n).zr (ix2 i j) = V m c main_arg6 (ix2 i ⟨n * 768 + j.val, by omega⟩) := by
  have ht : (tOf m n).val = n := Nat.mod_eq_of_lt hn
  show iblk m c 5 (tOf m n) (ix2 i j) = _
  blk_simp [iblk]
  refine congrArg (V m c main_arg6) (funext fun a => Fin.ext ?_)
  refine (((cfgA m).win 5).rect_emb_val (tOf m n) (ix2 i j) a).trans ?_
  rw [ix5']
  fin_cases a
  · show 0 * 24 + i.val = i.val; omega
  · show (tOf m n).val * 768 + j.val = n * 768 + j.val; rw [ht]

theorem ws_at (c : Dev nD) (n : ℕ) (hn : n < 167) (i : Fin 768) (j : Fin 2048) :
    (It m c n).ws (ix2 i j) = V m c main_arg7 (ix2 ⟨n * 768 + i.val, by omega⟩ j) := by
  have ht : (tOf m n).val = n := Nat.mod_eq_of_lt hn
  show iblk m c 6 (tOf m n) (ix2 i j) = _
  blk_simp [iblk]
  refine congrArg (V m c main_arg7) (funext fun a => Fin.ext ?_)
  refine (((cfgA m).win 6).rect_emb_val (tOf m n) (ix2 i j) a).trans ?_
  rw [ix6']
  fin_cases a
  · show (tOf m n).val * 768 + i.val = n * 768 + i.val; rw [ht]
  · show 0 * 2048 + j.val = j.val; omega

theorem hb_at (c : Dev nD) (n : ℕ) (hn : n < 167) (i : Fin 1536) (j : Fin 3072) :
    (It m c n).hb (ix2 i j) = V m c main_arg1 (ix2 i j) := by
  have ht : (tOf m n).val = n := Nat.mod_eq_of_lt hn
  show iblk m c 0 (tOf m n) (ix2 i j) = _
  blk_simp [iblk]
  refine congrArg (V m c main_arg1) (funext fun a => Fin.ext ?_)
  refine (((cfgA m).win 0).rect_emb_val (tOf m n) (ix2 i j) a).trans ?_
  rw [ix0']
  fin_cases a
  · show 0 * 1536 + i.val = i.val; omega
  · show 0 * 3072 + j.val = j.val; omega

theorem pc_at (c : Dev nD) (n : ℕ) (hn : n < 167) (i : Fin 1536) (j : Fin 2048) :
    (It m c n).pc (ix2 i j) = V m c main_arg2 (ix2 i j) := by
  have ht : (tOf m n).val = n := Nat.mod_eq_of_lt hn
  show iblk m c 1 (tOf m n) (ix2 i j) = _
  blk_simp [iblk]
  refine congrArg (V m c main_arg2) (funext fun a => Fin.ext ?_)
  refine (((cfgA m).win 1).rect_emb_val (tOf m n) (ix2 i j) a).trans ?_
  rw [ix1']
  fin_cases a
  · show 0 * 1536 + i.val = i.val; omega
  · show 0 * 2048 + j.val = j.val; omega

theorem ps_at (c : Dev nD) (n : ℕ) (hn : n < 167) (i : Fin 1536) (j : Fin 128) :
    (It m c n).ps (ix2 i j) = V m c main_arg3 (ix2 i j) := by
  have ht : (tOf m n).val = n := Nat.mod_eq_of_lt hn
  show iblk m c 2 (tOf m n) (ix2 i j) = _
  blk_simp [iblk]
  refine congrArg (V m c main_arg3) (funext fun a => Fin.ext ?_)
  refine (((cfgA m).win 2).rect_emb_val (tOf m n) (ix2 i j) a).trans ?_
  rw [ix2']
  fin_cases a
  · show 0 * 1536 + i.val = i.val; omega
  · show 0 * 128 + j.val = j.val; omega

theorem wss_at (c : Dev nD) (n : ℕ) (hn : n < 167) (j : Fin 768) :
    (It m c n).wss (ix3 0 0 j) = V m c main_arg8 (ix3 ⟨n, hn⟩ 0 j) := by
  have ht : (tOf m n).val = n := Nat.mod_eq_of_lt hn
  show iblk m c 7 (tOf m n) (ix3 0 0 j) = _
  blk_simp [iblk]
  refine congrArg (V m c main_arg8) (funext fun a => Fin.ext ?_)
  refine (((cfgA m).win 7).rect_emb_val (tOf m n) (ix3 0 0 j) a).trans ?_
  rw [ix7']
  fin_cases a
  · show (tOf m n).val * 1 + 0 = n; rw [ht]; omega
  · rfl
  · show 0 * 768 + j.val = j.val; omega

end Cert.Proof.Fwd

end
-- ==== Proof.Spec.lean ====
/-
  The mathematics of the logits, element by element: 4-bit codes less their zero, times their scale, against the activations; and the student's product with its scales.
-/
module

public import proofs.«01_k».proof.Kernel
public import Idealize.ShloMosaic.PureOps.Ideal
public import Idealize.ShloMosaic.Lib.Pointwise

@[expose] public section

noncomputable section

namespace Cert.Proof.Spec

open Cert.Kernel
open Idealize.ShloMosaic Idealize.ShloMosaic.TcCoe Idealize.SL.Sem

/-- A packed byte's low code, and its high one. -/
def lo (b : BitVec 8) : EReal := FloatOps.uitofp (F := Ideal) .bf16 (IntOp.andi b 15#8)
def hi (b : BitVec 8) : EReal := FloatOps.sitofp (F := Ideal) .bf16 (IntOp.shrsi ArithUnit.vector (BitVec.setWidth 32 b) 4#32)

/-- The column of the activations that a packed row's low code belongs to, and its high one's; the row's group. -/
def ev (k : Fin 1536) : Fin 3072 := ⟨256 * (k.val / 128) + k.val % 128, by omega⟩
def od (k : Fin 1536) : Fin 3072 := ⟨256 * (k.val / 128) + 128 + k.val % 128, by omega⟩
def gr (k : Fin 1536) : Fin 24 := ⟨k.val / 64, by omega⟩

/-- The teacher's logit of a row and a word, in base 2. -/
def ut (ht : FVec Ideal S1536x3072 .bf16) (pk : IVec S1536x128256 8) (sc zr : FVec Ideal S24x128256 .f32) (r : Fin 1536) (v : Fin 128256) : EReal :=
  ((∑ k : Fin 1536, (ht (ix2 r (ev k)) : EReal) * ((lo (pk (ix2 k v)) - zr (ix2 (gr k) v)) * sc (ix2 (gr k) v)))
    + ∑ k : Fin 1536, (ht (ix2 r (od k)) : EReal) * ((hi (pk (ix2 k v)) - zr (ix2 (gr k) v)) * sc (ix2 (gr k) v)))
    * Ideal.ofBits FTy.f32 0x3F38AA3B#32

/-- The student's. -/
def us (pc : FVec Ideal S1536x2048 .fp8e4m3) (ps : FVec Ideal S1536x128 .f32) (ws : FVec Ideal S128256x2048 .fp8e4m3) (wss : FVec Ideal S167x1x768 .f32) (r : Fin 1536) (v : Fin 128256) : EReal :=
  ((∑ k : Fin 2048, (pc (ix2 r k) : EReal) * ws (ix2 v k)) * ps (ix2 r ⟨v.val % 128, by omega⟩))
    * wss (ix3 ⟨v.val / 768, by omega⟩ 0 ⟨v.val % 768, by omega⟩)

end Cert.Proof.Spec

end
-- ==== Proof.KPay.lean ====
/-
  The kernel's stored values at an index, over the extended reals.
-/
module

public import proofs.«01_k».proof.Proof.Wt
public import proofs.«01_k».proof.Proof.Spec

@[expose] public section

set_option maxRecDepth 16384

noncomputable section

namespace Cert.Proof.Fwd

open Cert.Kernel Cert.Kernel.Gen
open Idealize.ShloMosaic Idealize.ShloMosaic.TcCoe Idealize.SL.Sem

theorem q9 (z s : FVec Ideal S1x768 .f32) (p : IVec S64x768 8) (i : Fin 64) (j : Fin 768) :
    (k0_pay9 (F := Ideal) z s p (ix2 i j) : EReal) = (Spec.lo (p (ix2 i j)) - z (ix2 0 j)) * s (ix2 0 j) := by
  pointwise [k0_pay9, k0_pay7, k0_pay8, Spec.lo]
theorem q10 (z s : FVec Ideal S1x768 .f32) (p : IVec S64x768 8) (i : Fin 64) (j : Fin 768) :
    (k0_pay10 (F := Ideal) z s p (ix2 i j) : EReal) = (Spec.hi (p (ix2 i j)) - z (ix2 0 j)) * s (ix2 0 j) := by
  pointwise [k0_pay10, k0_pay7, k0_pay8, Spec.hi]
theorem q128 (h : FVec Ideal S256x3072 .bf16) (W : FVec Ideal S3072x768 .bf16) (i : Fin 256) (j : Fin 768) :
    (k0_pay128 (F := Ideal) h W (ix2 i j) : EReal) = (∑ k : Fin 3072, (h (ix2 i k) : EReal) * W (ix2 k j)) * Ideal.ofBits FTy.f32 0x3F38AA3B#32 := by
  pointwise [k0_pay128]
theorem q140 (z : FVec Ideal S1x1x768 .f32) (p : FVec Ideal S256x2048 .fp8e4m3) (w : FVec Ideal S768x2048 .fp8e4m3) (s : FVec Ideal S256x128 .f32) (i : Fin 256) (j : Fin 768) :
    (k0_pay140 (F := Ideal) (k0_pay127 z) p w s (ix2 i j) : EReal)
      = (∑ k : Fin 2048, (p (ix2 i k) : EReal) * w (ix2 j k)) * s (ix2 i ⟨j.val % 128, by omega⟩) * z (ix3 0 0 j) := by
  pointwise [k0_pay140, k0_pay127]
  refine congrArg (fun q : EReal => q * z (ix3 0 0 j)) (congrArg (fun q : EReal => _ * q) ?_)
  split_ifs <;> exact congrArg (fun q => s (ix2 i q)) (Fin.ext (by simp only []; omega))

end Cert.Proof.Fwd

end
-- ==== Proof.KLog.lean ====
/-
  The kernel's logits, element by element, from its arguments.
-/
module

public import proofs.«01_k».proof.Proof.KBlk
public import proofs.«01_k».proof.Proof.KPay

@[expose] public section

set_option maxRecDepth 16384

noncomputable section

namespace Cert.Proof.Fwd

open Cert.Kernel Cert.Kernel.Gen
open Idealize.ShloMosaic Idealize.ShloMosaic.TcCoe Idealize.SL.Sem

/-- The sum over all columns of the activations is the low codes' and the high codes'. -/
theorem sum_split (f : Fin 3072 → EReal) : (∑ y : Fin 3072, f y) = (∑ k : Fin 1536, f (Spec.ev k)) + ∑ k : Fin 1536, f (Spec.od k) := by
  have hb : Function.Bijective (Sum.elim Spec.ev Spec.od : Fin 1536 ⊕ Fin 1536 → Fin 3072) := by
    refine (Fintype.bijective_iff_injective_and_card _).mpr ⟨?_, by simp⟩
    rintro (a | a) (b | b) h <;> have h' := congrArg Fin.val h <;> simp only [Sum.elim_inl, Sum.elim_inr, Spec.ev, Spec.od] at h'
    · exact congrArg _ (Fin.ext (by omega))
    · omega
    · omega
    · exact congrArg _ (Fin.ext (by omega))
  refine (Equiv.sum_comp (Equiv.ofBijective _ hb) f).symm.trans ?_
  exact Fintype.sum_sum_type (fun s => f (Sum.elim Spec.ev Spec.od s))

section
variable {F : FTy → Type} [FloatOps F]
theorem row_at (x : Vec F S24x768 .f32) (g : Fin 24) (j : Fin 768) : rowOf x g (ix2 0 j) = x (ix2 g j) := by
  refine congrArg x (funext fun a => Fin.ext ?_)
  fin_cases a
  · show g.val + 1 * 0 = g.val; omega
  · show 0 + 1 * j.val = j.val; omega
theorem pkr_at (x : Vec F S1536x768 .i8) (g : Fin 24) (i : Fin 64) (j : Fin 768) : pkOf x g (ix2 i j) = x (ix2 ⟨64 * g.val + i.val, by omega⟩ j) := by
  refine congrArg x (funext fun a => Fin.ext ?_)
  fin_cases a
  · show 64 * g.val + 1 * i.val = 64 * g.val + i.val; omega
  · show 0 + 1 * j.val = j.val; omega
theorem rows_at (x : Vec F S1536x128 .f32) (rb : Fin 6) (i : Fin 256) (j : Fin 128) : rowsOf rb x (ix2 i j) = x (ix2 ⟨256 * rb.val + i.val, by omega⟩ j) := by
  refine congrArg x (funext fun a => Fin.ext ?_)
  fin_cases a
  · show 256 * rb.val + 1 * i.val = 256 * rb.val + i.val; omega
  · show 0 + 1 * j.val = j.val; omega
theorem hbr_at (x : Vec F S1536x3072 .bf16) (rb : Fin 6) (i : Fin 256) (j : Fin 3072) :
    x ((Rect.unit (s := S1536x3072) ![256 * rb.val, 0] S256x3072.size (inbHt rb)).toLoadRect.idx (ix2 i j)) = x (ix2 ⟨256 * rb.val + i.val, by omega⟩ j) := by
  refine congrArg x (funext fun a => Fin.ext ?_)
  fin_cases a
  · show 256 * rb.val + 1 * i.val = 256 * rb.val + i.val; omega
  · show 0 + 1 * j.val = j.val; omega
theorem pcr_at (x : Vec F S1536x2048 .fp8e4m3) (rb : Fin 6) (i : Fin 256) (j : Fin 2048) :
    x ((Rect.unit (s := S1536x2048) ![256 * rb.val, 0] S256x2048.size (inbPc rb)).toLoadRect.idx (ix2 i j)) = x (ix2 ⟨256 * rb.val + i.val, by omega⟩ j) := by
  refine congrArg x (funext fun a => Fin.ext ?_)
  fin_cases a
  · show 256 * rb.val + 1 * i.val = 256 * rb.val + i.val; omega
  · show 0 + 1 * j.val = j.val; omega
theorem wtr_at (x : Vec F S3072x768 .bf16) (i : Fin 3072) (j : Fin 768) :
    x ((Rect.unit (s := S3072x768) ![0, 0] S3072x768.size inb_S3072x768_S3072x768_0_0).toLoadRect.idx (ix2 i j)) = x (ix2 i j) := by
  refine congrArg x (funext fun a => Fin.ext ?_)
  fin_cases a
  · show 0 + 1 * i.val = i.val; omega
  · show 0 + 1 * j.val = j.val; omega
theorem wsr_at (x : Vec F S768x2048 .fp8e4m3) (i : Fin 768) (j : Fin 2048) :
    x ((Rect.unit (s := S768x2048) ![0, 0] S768x2048.size inb_S768x2048_S768x2048_0_0).toLoadRect.idx (ix2 i j)) = x (ix2 i j) := by
  refine congrArg x (funext fun a => Fin.ext ?_)
  fin_cases a
  · show 0 + 1 * i.val = i.val; omega
  · show 0 + 1 * j.val = j.val; omega
theorem wssr_at (x : Vec F S1x1x768 .f32) (j : Fin 768) :
    x ((Rect.unit (s := S1x1x768) ![0, 0, 0] S1x1x768.size inb_S1x1x768_S1x1x768_0_0_0).toLoadRect.idx (ix3 0 0 j)) = x (ix3 0 0 j) := by
  refine congrArg x (funext fun a => Fin.ext ?_)
  fin_cases a
  · rfl
  · rfl
  · show 0 + 1 * j.val = j.val; omega
end

theorem wt_ev (I : Ins Ideal) (k : Fin 1536) (j : Fin 768) :
    (WT I (ix2 (Spec.ev k) j) : EReal) = (Spec.lo (I.pk (ix2 k j)) - I.zr (ix2 (Spec.gr k) j)) * I.sc (ix2 (Spec.gr k) j) := by
  have hk := k.isLt
  have hg : grpOf (ix2 (Spec.ev k) j) = Spec.gr k := Fin.ext (by show 2 * ((256 * (k.val / 128) + k.val % 128) / 256) + (256 * (k.val / 128) + k.val % 128) % 128 / 64 = k.val / 64; omega)
  have hp : posOf (ix2 (Spec.ev k) j) = ix2 ⟨k.val % 64, by omega⟩ j := by
    funext a
    fin_cases a
    · exact Fin.ext (by show (256 * (k.val / 128) + k.val % 128) % 64 = k.val % 64; omega)
    · rfl
  have hr : (⟨64 * (Spec.gr k).val + k.val % 64, by have := (Spec.gr k).isLt; omega⟩ : Fin 1536) = k := Fin.ext (by show 64 * (k.val / 64) + k.val % 64 = k.val; omega)
  unfold WT
  rw [if_pos (by show (256 * (k.val / 128) + k.val % 128) % 256 < 128; omega), hg, hp]
  refine (q9 _ _ _ _ _).trans ?_
  rw [row_at, row_at, pkr_at, hr]

theorem wt_od (I : Ins Ideal) (k : Fin 1536) (j : Fin 768) :
    (WT I (ix2 (Spec.od k) j) : EReal) = (Spec.hi (I.pk (ix2 k j)) - I.zr (ix2 (Spec.gr k) j)) * I.sc (ix2 (Spec.gr k) j) := by
  have hk := k.isLt
  have hg : grpOf (ix2 (Spec.od k) j) = Spec.gr k := Fin.ext (by show 2 * ((256 * (k.val / 128) + 128 + k.val % 128) / 256) + (256 * (k.val / 128) + 128 + k.val % 128) % 128 / 64 = k.val / 64; omega)
  have hp : posOf (ix2 (Spec.od k) j) = ix2 ⟨k.val % 64, by omega⟩ j := by
    funext a
    fin_cases a
    · exact Fin.ext (by show (256 * (k.val / 128) + 128 + k.val % 128) % 64 = k.val % 64; omega)
    · rfl
  have hr : (⟨64 * (Spec.gr k).val + k.val % 64, by have := (Spec.gr k).isLt; omega⟩ : Fin 1536) = k := Fin.ext (by show 64 * (k.val / 64) + k.val % 64 = k.val; omega)
  unfold WT
  rw [if_neg (by show ¬ (256 * (k.val / 128) + 128 + k.val % 128) % 256 < 128; omega), hg, hp]
  refine (q10 _ _ _ _ _).trans ?_
  rw [row_at, row_at, pkr_at, hr]

variable (m : (ℓ : Loc nD τ sig) → Buf (Elt Ideal) ℓ)

/-- The teacher's logits of a row block of a tile. -/
theorem XT_at (c : Dev nD) (n : ℕ) (hn : n < 167) (rb : Fin 6) (i : Fin 256) (j : Fin 768) : (XT m c n rb (ix2 i j) : EReal)
    = Spec.ut (m ((c : Thread nD τ).loc main_arg1)) (m ((c : Thread nD τ).loc main_arg4)) (m ((c : Thread nD τ).loc main_arg5)) (m ((c : Thread nD τ).loc main_arg6))
      ⟨256 * rb.val + i.val, by omega⟩ ⟨n * 768 + j.val, by omega⟩ := by
  unfold XT uT Spec.ut
  rw [q128]
  refine congrArg (fun q : EReal => q * _) ?_
  rw [sum_split]
  refine congrArg₂ (· + ·) (Finset.sum_congr rfl fun k _ => ?_) (Finset.sum_congr rfl fun k _ => ?_)
  · rw [hbr_at (It m c n).hb, wtr_at (WT (It m c n)), wt_ev, hb_at m c n hn, pk_at m c n hn, sc_at m c n hn, zr_at m c n hn]
  · rw [hbr_at (It m c n).hb, wtr_at (WT (It m c n)), wt_od, hb_at m c n hn, pk_at m c n hn, sc_at m c n hn, zr_at m c n hn]

/-- The student's. -/
theorem YT_at (c : Dev nD) (n : ℕ) (hn : n < 167) (rb : Fin 6) (i : Fin 256) (j : Fin 768) : (YT m c n rb (ix2 i j) : EReal)
    = Spec.us (m ((c : Thread nD τ).loc main_arg2)) (m ((c : Thread nD τ).loc main_arg3)) (m ((c : Thread nD τ).loc main_arg7)) (m ((c : Thread nD τ).loc main_arg8))
      ⟨256 * rb.val + i.val, by omega⟩ ⟨n * 768 + j.val, by omega⟩ := by
  have h1 : (⟨(n * 768 + j.val) % 128, by omega⟩ : Fin 128) = ⟨j.val % 128, by omega⟩ := Fin.ext (by show (n * 768 + j.val) % 128 = j.val % 128; omega)
  have h2 : (⟨(n * 768 + j.val) / 768, by omega⟩ : Fin 167) = ⟨n, hn⟩ := Fin.ext (by show (n * 768 + j.val) / 768 = n; omega)
  have h3 : (⟨(n * 768 + j.val) % 768, by omega⟩ : Fin 768) = j := Fin.ext (by show (n * 768 + j.val) % 768 = j.val; omega)
  unfold YT uS Spec.us
  rw [q140]
  simp only [h1, h2, h3]
  rw [wssr_at (It m c n).wss, wss_at m c n hn, rows_at, ps_at m c n hn]
  refine congrArg₂ (· * ·) (congrArg₂ (· * ·) (Finset.sum_congr rfl fun k _ => ?_) rfl) rfl
  rw [pcr_at (It m c n).pc, wsr_at (It m c n).ws, pc_at m c n hn, ws_at m c n hn]

end Cert.Proof.Fwd

end
-- ==== Proof.RefVal.lean ====
/-
  What the reference leaves in its four results, as functions of what its one region reads.
-/
module

public import proofs.«01_k».proof.Proof.Gen.ReferenceIdeal.Frame
public import Idealize.ShloMosaic.Lib.Pipeline.ValueKit
public import Idealize.ShloMosaic.PureOps.Ideal

@[expose] public section

set_option maxRecDepth 16384

noncomputable section

namespace Cert.Proof.Ref

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0, 0] ∧ win0_10.index t = ![0, 0, 0] ∧ win0_11.index t = ![0, 0] ∧ win0_12.index t = ![0, 0] :=
  (by decide +kernel : ∀ t : Fin grid0.N, _)

theorem blk0 (c : Dev nD) (t : Fin cfg0.N) : iblk m c 0 t = V m c main_v9 := by blk_ext! [iblk, idx t]
theorem blk1 (c : Dev nD) (t : Fin cfg0.N) : iblk m c 1 t = V m c main_v12 := by blk_ext! [iblk, idx t]
theorem blk2 (c : Dev nD) (t : Fin cfg0.N) : iblk m c 2 t = V m c main_arg2 := by blk_ext! [iblk, idx t]
theorem blk3 (c : Dev nD) (t : Fin cfg0.N) : iblk m c 3 t = V m c main_v15 := by blk_ext! [iblk, idx t]
theorem blk4 (c : Dev nD) (t : Fin cfg0.N) : iblk m c 4 t = V m c main_arg4 := by blk_ext! [iblk, idx t]
theorem blk5 (c : Dev nD) (t : Fin cfg0.N) : iblk m c 5 t = V m c main_v5 := by blk_ext! [iblk, idx t]
theorem blk6 (c : Dev nD) (t : Fin cfg0.N) : iblk m c 6 t = V m c main_v2 := by blk_ext! [iblk, idx t]
theorem blk7 (c : Dev nD) (t : Fin cfg0.N) : iblk m c 7 t = V m c main_arg7 := by blk_ext! [iblk, idx t]
theorem blk8 (c : Dev nD) (t : Fin cfg0.N) : iblk m c 8 t = V m c main_v16 := by blk_ext! [iblk, idx t]

theorem pay10_eq (x0 : Vec Ideal S1536x1536 .bf16) (x1 : Vec Ideal S1536x1536 .bf16) (x2 : Vec Ideal S1536x2048 .fp8e4m3) (x3 : Vec Ideal S1536x128256 .f32) (x4 : Vec Ideal S1536x128256 .i8) (x5 : Vec Ideal S1536x128256 .bf16) (x6 : Vec Ideal S1536x128256 .bf16) (x7 : Vec Ideal S128256x2048 .fp8e4m3) (x8 : Vec Ideal S1x128256 .f32) :
    k0_pay10 x0 x1 x2 x3 x4 x5 x6 x7 x8 = k0_pay2 x4 x6 x5 x4 x6 x5 x0 x1 := by
  unfold k0_pay10
  frame_out
theorem pay11_eq (x0 : Vec Ideal S1536x1536 .bf16) (x1 : Vec Ideal S1536x1536 .bf16) (x2 : Vec Ideal S1536x2048 .fp8e4m3) (x3 : Vec Ideal S1536x128256 .f32) (x4 : Vec Ideal S1536x128256 .i8) (x5 : Vec Ideal S1536x128256 .bf16) (x6 : Vec Ideal S1536x128256 .bf16) (x7 : Vec Ideal S128256x2048 .fp8e4m3) (x8 : Vec Ideal S1x128256 .f32) :
    k0_pay11 x0 x1 x2 x3 x4 x5 x6 x7 x8 = k0_pay3 x2 x7 := by
  unfold k0_pay11
  frame_out

theorem final9 (c : Dev nD) : (dats m 0 c).arrAt 9 (cfgs 0).N = k0_pay6 (k0_pay2 (V m c main_arg4) (V m c main_v2) (V m c main_v5) (V m c main_arg4) (V m c main_v2) (V m c main_v5) (V m c main_v9) (V m c main_v12)) := by
  refine (dats m 0 c).arrAt_eq_of_after_last 9 t0_0 (by decide +kernel) _ fun j => ?_
  blk_simp
  rw [after0_9]
  frame_out
  rw [blk0, blk1, blk2, blk3, blk4, blk5, blk6, blk7, blk8, pay10_eq]

theorem final10 (c : Dev nD) : (dats m 0 c).arrAt 10 (cfgs 0).N = k0_pay7 (k0_pay3 (V m c main_arg2) (V m c main_arg7)) (V m c main_v15) (V m c main_v16) := by
  refine (dats m 0 c).arrAt_eq_of_after_last 10 t0_0 (by decide +kernel) _ fun j => ?_
  blk_simp
  rw [after0_10]
  frame_out
  rw [blk0, blk1, blk2, blk3, blk4, blk5, blk6, blk7, blk8, pay11_eq]

theorem final11 (c : Dev nD) : (dats m 0 c).arrAt 11 (cfgs 0).N = k0_pay8 (k0_pay2 (V m c main_arg4) (V m c main_v2) (V m c main_v5) (V m c main_arg4) (V m c main_v2) (V m c main_v5) (V m c main_v9) (V m c main_v12)) := by
  refine (dats m 0 c).arrAt_eq_of_after_last 11 t0_0 (by decide +kernel) _ fun j => ?_
  blk_simp
  rw [after0_11]
  frame_out
  rw [blk0, blk1, blk2, blk3, blk4, blk5, blk6, blk7, blk8, pay10_eq]

theorem final12 (c : Dev nD) : (dats m 0 c).arrAt 12 (cfgs 0).N = k0_pay1 (k0_pay9 (k0_pay3 (V m c main_arg2) (V m c main_arg7)) (V m c main_v15) (V m c main_v16)) := by
  refine (dats m 0 c).arrAt_eq_of_after_last 12 t0_0 (by decide +kernel) _ fun j => ?_
  blk_simp
  rw [after0_12]
  frame_out
  rw [blk0, blk1, blk2, blk3, blk4, blk5, blk6, blk7, blk8, pay11_eq]

end Cert.Proof.Ref

end
-- ==== Proof.RefRead.lean ====
/-
  What the reference's region reads of the arrays prepared before it, element by element.
-/
module

public import proofs.«01_k».proof.Proof.RefVal
public import proofs.«01_k».proof.Proof.Spec
public import Idealize.ShloMosaic.Lib.StableHlo.ReadAt

@[expose] public section

set_option maxRecDepth 16384

noncomputable section

namespace Cert.Proof.Ref

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ)

theorem v2at (c : Dev nD) (k : Fin 1536) (v : Fin 128256) : V m c main_v2 (ix2 k v) = m ((c : Thread nD τ).loc main_arg6) (ix2 (Spec.gr k) v) := by
  unfold V
  after_reads_at
  rfl

theorem v5at (c : Dev nD) (k : Fin 1536) (v : Fin 128256) : V m c main_v5 (ix2 k v) = m ((c : Thread nD τ).loc main_arg5) (ix2 (Spec.gr k) v) := by
  unfold V
  after_reads_at
  rfl
theorem v15at (c : Dev nD) (k : Fin 1536) (v : Fin 128256) : V m c main_v15 (ix2 k v) = m ((c : Thread nD τ).loc main_arg3) (ix2 k ⟨v.val % 128, by omega⟩) := by
  unfold V
  after_reads_at
theorem v16at (c : Dev nD) (k : Fin 1) (v : Fin 128256) : V m c main_v16 (ix2 k v) = m ((c : Thread nD τ).loc main_arg8) (ix3 ⟨v.val / 768, by omega⟩ 0 ⟨v.val % 768, by omega⟩) := by
  unfold V
  after_reads_at
theorem v9at (c : Dev nD) (r : Fin 1536) (k : Fin 1536) : V m c main_v9 (ix2 r k) = m ((c : Thread nD τ).loc main_arg1) (ix2 r (Spec.ev k)) := by
  unfold V
  after_reads_at
  exact congrArg (fun z => m ((c : Thread nD τ).loc main_arg1) (ix2 r z)) (Fin.ext (by unfold Spec.ev; show _ = _; simp only []; omega))
theorem v12at (c : Dev nD) (r : Fin 1536) (k : Fin 1536) : V m c main_v12 (ix2 r k) = m ((c : Thread nD τ).loc main_arg1) (ix2 r (Spec.od k)) := by
  unfold V
  after_reads_at
  exact congrArg (fun z => m ((c : Thread nD τ).loc main_arg1) (ix2 r z)) (Fin.ext (by unfold Spec.od; show _ = _; simp only []; omega))
end Cert.Proof.Ref

end
-- ==== Proof.RefPay.lean ====
/-
  The reference's stored values at an index.
-/
module

public import proofs.«01_k».proof.Proof.RefVal
public import proofs.«01_k».proof.Proof.Spec

@[expose] public section

set_option maxRecDepth 16384

noncomputable section

namespace Cert.Proof.Ref

open Cert.ReferenceIdeal Cert.ReferenceIdeal.Gen
open Idealize.ShloMosaic Idealize.ShloMosaic.TcCoe Idealize.SL.Sem

theorem p6 (X : FVec Ideal S1536x128256 .f32) (a : Fin 167) (b : Fin 1536) (d : Fin 768) : k0_pay6 X (ix3 a b d) = X (ix2 b ⟨a.val * 768 + d.val, by omega⟩) := by
  pointwise [k0_pay6]
theorem p7 (Z : FVec Ideal S1536x128256 .f32) (P2 : FVec Ideal S1536x128256 .f32) (P3 : FVec Ideal S1x128256 .f32) (a : Fin 167) (b : Fin 1536) (d : Fin 768) :
    k0_pay7 Z P2 P3 (ix3 a b d) = k0_pay4 Z P2 P3 (ix2 b ⟨a.val * 768 + d.val, by omega⟩) := by
  pointwise [k0_pay7]
theorem p2 (P0 : IVec S1536x128256 8) (P1 P2 : FVec Ideal S1536x128256 .bf16) (P3 P4 : FVec Ideal S1536x1536 .bf16) (r : Fin 1536) (v : Fin 128256) :
    (k0_pay2 (F := Ideal) P0 P1 P2 P0 P1 P2 P3 P4 (ix2 r v) : EReal)
      = ((∑ x : Fin 1536, (P3 (ix2 r x) : EReal) * ((Spec.lo (P0 (ix2 x v)) - P1 (ix2 x v)) * P2 (ix2 x v)))
        + ∑ x : Fin 1536, (P4 (ix2 r x) : EReal) * ((Spec.hi (P0 (ix2 x v)) - P1 (ix2 x v)) * P2 (ix2 x v))) * Ideal.ofBits FTy.f32 0x3F38AA3B#32 := by
  pointwise [k0_pay2, Spec.lo, Spec.hi]
theorem p3 (P0 : FVec Ideal S1536x2048 .fp8e4m3) (P1 : FVec Ideal S128256x2048 .fp8e4m3) (r : Fin 1536) (v : Fin 128256) :
    (k0_pay3 (F := Ideal) P0 P1 (ix2 r v) : EReal) = ∑ x : Fin 2048, (P0 (ix2 r x) : EReal) * P1 (ix2 v x) := by
  pointwise [k0_pay3]
theorem p4 (Z : FVec Ideal S1536x128256 .f32) (P2 : FVec Ideal S1536x128256 .f32) (P3 : FVec Ideal S1x128256 .f32) (r : Fin 1536) (v : Fin 128256) :
    (k0_pay4 (F := Ideal) Z P2 P3 (ix2 r v) : EReal) = (Z (ix2 r v) : EReal) * P2 (ix2 r v) * P3 (ix2 0 v) := by
  pointwise [k0_pay4]

end Cert.Proof.Ref

end
-- ==== Proof.RefLog.lean ====
/-
  The reference's logits, element by element, from its arguments.
-/
module

public import proofs.«01_k».proof.Proof.RefRead
public import proofs.«01_k».proof.Proof.RefPay

@[expose] public section

set_option maxRecDepth 16384

noncomputable section

namespace Cert.Proof.Ref

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ)

/-- The teacher's logits as one matrix, and the student's. -/
def UT (c : Dev nD) : FVec Ideal S1536x128256 .f32 :=
  k0_pay2 (V m c main_arg4) (V m c main_v2) (V m c main_v5) (V m c main_arg4) (V m c main_v2) (V m c main_v5) (V m c main_v9) (V m c main_v12)
def US (c : Dev nD) : FVec Ideal S1536x128256 .f32 :=
  k0_pay4 (k0_pay3 (V m c main_arg2) (V m c main_arg7)) (V m c main_v15) (V m c main_v16)

theorem UT_at (c : Dev nD) (r : Fin 1536) (v : Fin 128256) : (UT m c (ix2 r v) : EReal)
    = Spec.ut (m ((c : Thread nD τ).loc main_arg1)) (m ((c : Thread nD τ).loc main_arg4)) (m ((c : Thread nD τ).loc main_arg5)) (m ((c : Thread nD τ).loc main_arg6)) r v := by
  unfold UT Spec.ut
  rw [p2]
  refine congrArg₂ (· * ·) (congrArg₂ (· + ·) (Finset.sum_congr rfl fun k _ => ?_) (Finset.sum_congr rfl fun k _ => ?_)) rfl
  · rw [v9at, v2at, v5at, V_main_arg4]
  · rw [v12at, v2at, v5at, V_main_arg4]

theorem US_at (c : Dev nD) (r : Fin 1536) (v : Fin 128256) : (US m c (ix2 r v) : EReal)
    = Spec.us (m ((c : Thread nD τ).loc main_arg2)) (m ((c : Thread nD τ).loc main_arg3)) (m ((c : Thread nD τ).loc main_arg7)) (m ((c : Thread nD τ).loc main_arg8)) r v := by
  unfold US Spec.us
  rw [p4, p3, v15at, v16at, V_main_arg2, V_main_arg7]

theorem fin9 (c : Dev nD) (a : Fin 167) (b : Fin 1536) (d : Fin 768) :
    (dats m 0 c).arrAt 9 (cfgs 0).N (ix3 a b d) = UT m c (ix2 b ⟨a.val * 768 + d.val, by omega⟩) := by
  rw [final9]
  exact p6 (UT m c) a b d

theorem fin10 (c : Dev nD) (a : Fin 167) (b : Fin 1536) (d : Fin 768) :
    (dats m 0 c).arrAt 10 (cfgs 0).N (ix3 a b d) = US m c (ix2 b ⟨a.val * 768 + d.val, by omega⟩) := by
  rw [final10]
  exact p7 _ _ _ a b d

end Cert.Proof.Ref

end
-- ==== Proof.Mask.lean ====
/-
  Where the mask of the claim is set, the row block is live.
-/
module

public import proofs.«01_k».proof.Proof.Ends
public import proofs.«01_k».proof.Proof.Spec
public import proofs.«01_k».proof.Proof.Gen.On_live

@[expose] public section

set_option maxRecDepth 16384

noncomputable section

namespace Cert.Proof.Fwd

open Cert.Kernel Cert.Kernel.Gen
open Idealize.ShloMosaic Idealize.ShloMosaic.TcCoe Idealize.SL.Sem

/-- A row's block number, as the mask computes it. -/
theorem div_row : ∀ b : Fin 1536, IntOp.divsi ArithUnit.host (BitVec.ofNat 32 b.val) 256#32 = BitVec.ofNat 32 (b.val / 256) := by decide +kernel

theorem live_word (v w : BitVec 32) (h : IntOp.cmpi CmpIPredicate.slt w v = 1#1) :
    Scalar.cmpi .ne (Scalar.extui (Scalar.cmpi .sgt v w : BitVec 1) : BitVec 32) 0#32 = 1#1 := by
  have h' : IntOp.cmpi CmpIPredicate.sgt v w = 1#1 := h
  show IntOp.cmpi .ne (BitVec.setWidth 32 (IntOp.cmpi CmpIPredicate.sgt v w)) 0#32 = 1#1
  rw [h']
  rfl

variable (m : (ℓ : Loc nD τ sig) → Buf (Elt Ideal) ℓ)

theorem live_of_mask (c : Dev nD) (a1 a2 a3 a4 a5 a6 a7 a8) (y : S167x1536x768.Idx)
    (h : (Cert.On_live.fn (F := Ideal) (m ((c : Thread nD τ).loc main_arg0)) a1 a2 a3 a4 a5 a6 a7 a8).1 y = 1#1) : liveC (v0Of m c) (rbOf y) := by
  obtain ⟨a, b, d, rfl⟩ : ∃ a b d, y = ix3 a b d := ⟨y 0, y 1, y 2, ValueIdx.eq_ix3 y⟩
  revert h
  pointwise [Cert.On_live.fn]
  intro h
  rw [div_row] at h
  have e : v0Of m c = (m ((c : Thread nD τ).loc main_arg0) : S1.Idx → BitVec 32) (ix1 0) := by
    unfold v0Of
    refine congrArg _ (funext fun k => ?_)
    fin_cases k
    rfl
  rw [e]
  exact live_word _ _ h

theorem live0 (c : Dev nD) (y : S167x1536x768.Idx)
    (h : (Cert.On_live.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))).1 y = 1#1) : liveC (v0Of m c) (rbOf y) :=
  live_of_mask m c _ _ _ _ _ _ _ _ y h
theorem live1 (c : Dev nD) (y : S167x1536x768.Idx)
    (h : (Cert.On_live.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))).2.1 y = 1#1) : liveC (v0Of m c) (rbOf y) :=
  live0 m c y h

end Cert.Proof.Fwd

end
-- ==== Proof.Logits.lean ====
/-
  Where the mask is set, the kernel's logits are the reference's.
-/
module

public import proofs.«01_k».proof.Proof.KLog
public import proofs.«01_k».proof.Proof.RefLog
public import proofs.«01_k».proof.Proof.Mask
public import proofs.«01_k».proof.KernelIdeal

@[expose] public section

set_option maxRecDepth 16384

noncomputable section

namespace Cert.Proof

open Idealize.ShloMosaic Idealize.ShloMosaic.TcCoe Idealize.SL.Sem

variable (m : (ℓ : Loc Cert.Kernel.nD Cert.Kernel.τ Cert.Kernel.sig) → Buf (Elt Ideal) ℓ)
variable (m' : (ℓ : Loc Cert.ReferenceIdeal.nD Cert.ReferenceIdeal.τ Cert.ReferenceIdeal.sig) → Buf (Elt Ideal) ℓ)

/-- The two memories hold the same arguments at a device. -/
structure Same (c : Dev Cert.Kernel.nD) : Prop where
  h1 : m' ((c.tc : Thread Cert.ReferenceIdeal.nD Cert.ReferenceIdeal.τ).loc Cert.ReferenceIdeal.main_arg1) = m ((c.tc : Thread Cert.Kernel.nD Cert.Kernel.τ).loc Cert.Kernel.main_arg1)
  h2 : m' ((c.tc : Thread Cert.ReferenceIdeal.nD Cert.ReferenceIdeal.τ).loc Cert.ReferenceIdeal.main_arg2) = m ((c.tc : Thread Cert.Kernel.nD Cert.Kernel.τ).loc Cert.Kernel.main_arg2)
  h3 : m' ((c.tc : Thread Cert.ReferenceIdeal.nD Cert.ReferenceIdeal.τ).loc Cert.ReferenceIdeal.main_arg3) = m ((c.tc : Thread Cert.Kernel.nD Cert.Kernel.τ).loc Cert.Kernel.main_arg3)
  h4 : m' ((c.tc : Thread Cert.ReferenceIdeal.nD Cert.ReferenceIdeal.τ).loc Cert.ReferenceIdeal.main_arg4) = m ((c.tc : Thread Cert.Kernel.nD Cert.Kernel.τ).loc Cert.Kernel.main_arg4)
  h5 : m' ((c.tc : Thread Cert.ReferenceIdeal.nD Cert.ReferenceIdeal.τ).loc Cert.ReferenceIdeal.main_arg5) = m ((c.tc : Thread Cert.Kernel.nD Cert.Kernel.τ).loc Cert.Kernel.main_arg5)
  h6 : m' ((c.tc : Thread Cert.ReferenceIdeal.nD Cert.ReferenceIdeal.τ).loc Cert.ReferenceIdeal.main_arg6) = m ((c.tc : Thread Cert.Kernel.nD Cert.Kernel.τ).loc Cert.Kernel.main_arg6)
  h7 : m' ((c.tc : Thread Cert.ReferenceIdeal.nD Cert.ReferenceIdeal.τ).loc Cert.ReferenceIdeal.main_arg7) = m ((c.tc : Thread Cert.Kernel.nD Cert.Kernel.τ).loc Cert.Kernel.main_arg7)
  h8 : m' ((c.tc : Thread Cert.ReferenceIdeal.nD Cert.ReferenceIdeal.τ).loc Cert.ReferenceIdeal.main_arg8) = m ((c.tc : Thread Cert.Kernel.nD Cert.Kernel.τ).loc Cert.Kernel.main_arg8)

/-- The teacher's logit of a row block of a tile is the reference's. -/
theorem XT_eq (c : Dev Cert.Kernel.nD) (hs : Same m m' c) (n : ℕ) (hn : n < 167) (rb : Fin 6) (i : Fin 256) (j : Fin 768) :
    (Fwd.XT m c n rb (ix2 i j) : EReal) = Ref.UT m' c (ix2 ⟨256 * rb.val + i.val, by omega⟩ ⟨n * 768 + j.val, by omega⟩) := by
  refine (Fwd.XT_at m c n hn rb i j).trans (Eq.symm ((Ref.UT_at m' c _ _).trans ?_))
  rw [hs.h1, hs.h4, hs.h5, hs.h6]

/-- The student's. -/
theorem YT_eq (c : Dev Cert.Kernel.nD) (hs : Same m m' c) (n : ℕ) (hn : n < 167) (rb : Fin 6) (i : Fin 256) (j : Fin 768) :
    (Fwd.YT m c n rb (ix2 i j) : EReal) = Ref.US m' c (ix2 ⟨256 * rb.val + i.val, by omega⟩ ⟨n * 768 + j.val, by omega⟩) := by
  refine (Fwd.YT_at m c n hn rb i j).trans (Eq.symm ((Ref.US_at m' c _ _).trans ?_))
  rw [hs.h2, hs.h3, hs.h7, hs.h8]

/-- The teacher's logits in a live row block. -/
theorem gt_eq (c : Dev Cert.Kernel.nD) (hs : Same m m' c) (y : Cert.Kernel.S167x1536x768.Idx) (hl : Fwd.liveC (Fwd.v0Of m c) (Fwd.rbOf y)) :
    (Fwd.GT m c : Cert.Kernel.S167x1536x768.Idx → EReal) y = ((Cert.ReferenceIdeal.Gen.dats m' 0 c).arrAt 9 (Cert.ReferenceIdeal.cfgs 0).N : Cert.Kernel.S167x1536x768.Idx → EReal) y := by
  obtain ⟨a, b, d, rfl⟩ : ∃ a b d, y = ix3 a b d := ⟨y 0, y 1, y 2, ValueIdx.eq_ix3 y⟩
  refine Eq.trans ?_ (Ref.fin9 m' c a b d).symm
  have hb : (⟨256 * (b.val / 256) + b.val % 256, by omega⟩ : Fin 1536) = b := Fin.ext (Nat.div_add_mod b.val 256)
  refine (if_pos hl).trans ((XT_eq m m' c hs a.val a.isLt (Fwd.rbOf (ix3 a b d)) ⟨b.val % 256, by omega⟩ d).trans ?_)
  exact congrArg (fun q : Fin 1536 => Ref.UT m' c (ix2 q _)) hb

/-- The student's. -/
theorem gs_eq (c : Dev Cert.Kernel.nD) (hs : Same m m' c) (y : Cert.Kernel.S167x1536x768.Idx) (hl : Fwd.liveC (Fwd.v0Of m c) (Fwd.rbOf y)) :
    (Fwd.GS m c : Cert.Kernel.S167x1536x768.Idx → EReal) y = ((Cert.ReferenceIdeal.Gen.dats m' 0 c).arrAt 10 (Cert.ReferenceIdeal.cfgs 0).N : Cert.Kernel.S167x1536x768.Idx → EReal) y := by
  obtain ⟨a, b, d, rfl⟩ : ∃ a b d, y = ix3 a b d := ⟨y 0, y 1, y 2, ValueIdx.eq_ix3 y⟩
  refine Eq.trans ?_ (Ref.fin10 m' c a b d).symm
  have hb : (⟨256 * (b.val / 256) + b.val % 256, by omega⟩ : Fin 1536) = b := Fin.ext (Nat.div_add_mod b.val 256)
  refine (if_pos hl).trans ((YT_eq m m' c hs a.val a.isLt (Fwd.rbOf (ix3 a b d)) ⟨b.val % 256, by omega⟩ d).trans ?_)
  exact congrArg (fun q : Fin 1536 => Ref.US m' c (ix2 q _)) hb

end Cert.Proof

end
-- ==== Proof.Lse.lean ====
/-
  A log-sum over the extended reals: a running maximum with a running sum, and the maximum and the sum taken at once, end
  at the same number.
-/
module

public import Idealize.ShloMosaic.PureOps.Ideal

@[expose] public section

noncomputable section

namespace Cert.Proof.Lse

open Idealize.ShloMosaic
open scoped Classical

/-- Two to the power of a number; zero at minus infinity. -/
def w (u : EReal) : ℝ := (Ideal.exp2 u).toReal

theorem w_bot : w ⊥ = 0 := rfl
theorem w_coe (r : ℝ) : w (r : EReal) = (2 : ℝ) ^ r := rfl

theorem e_real (u : EReal) (hu : u ≠ ⊤) (M : ℝ) : Ideal.exp2 (u - M) = ((w u * (2 : ℝ) ^ (-M) : ℝ) : EReal) := by
  induction u with
  | bot => rw [EReal.bot_sub, w_bot, zero_mul]; rfl
  | top => exact absurd rfl hu
  | coe r =>
    rw [← EReal.coe_sub, w_coe, ← Real.rpow_add two_pos, ← sub_eq_add_neg]
    rfl
theorem e_top (u : EReal) : Ideal.exp2 (u - ⊤) = 0 := by rw [EReal.sub_top]; rfl
theorem pow_cancel (M : ℝ) : (2 : ℝ) ^ (-M) * (2 : ℝ) ^ M = 1 := by
  rw [← Real.rpow_add two_pos, neg_add_cancel, Real.rpow_zero]

theorem coe_sum {ι : Type} (s : Finset ι) (f : ι → ℝ) : (∑ i ∈ s, (f i : EReal)) = ((∑ i ∈ s, f i : ℝ) : EReal) := by
  induction s using Finset.induction_on with
  | empty => rfl
  | insert a s ha ih => rw [Finset.sum_insert ha, Finset.sum_insert ha, ih, EReal.coe_add]

theorem log_zero : Ideal.log 0 = ⊥ := by
  show (if (0 : ℝ) ≤ 0 then (⊥ : EReal) else (Real.log 0 : EReal)) = ⊥
  rw [if_pos le_rfl]
theorem log_nonpos (x : ℝ) (h : x ≤ 0) : Ideal.log (x : EReal) = ⊥ := by
  show (if x ≤ 0 then (⊥ : EReal) else (Real.log x : EReal)) = ⊥
  rw [if_pos h]
theorem log_pos (x : ℝ) (h : 0 < x) : Ideal.log (x : EReal) = (Real.log x : EReal) := by
  show (if x ≤ 0 then (⊥ : EReal) else (Real.log x : EReal)) = _
  rw [if_neg (not_le.mpr h)]
theorem div_coe (x c : ℝ) (hc : c ≠ 0) : Ideal.div (x : EReal) (c : EReal) = ((x / c : ℝ) : EReal) := by
  unfold Ideal.div
  rw [if_neg (by exact_mod_cast hc), ← EReal.coe_inv, ← EReal.coe_mul, div_eq_mul_inv]
theorem div_bot (c : ℝ) (hc : 0 < c) : Ideal.div ⊥ (c : EReal) = ⊥ := by
  unfold Ideal.div
  rw [if_neg (by exact_mod_cast hc.ne'), ← EReal.coe_inv, EReal.bot_mul_coe_of_pos (inv_pos.mpr hc)]
theorem log2_pos : 0 < Real.log 2 := Real.log_pos one_lt_two

/-- The base-2 logarithm of a sum `T`, or minus infinity where a number was plus infinity. -/
def E (b : Prop) (T : ℝ) : EReal := if b then ⊥ else Ideal.div (Ideal.log (T : EReal)) (Real.log 2 : ℝ)

/-- A running maximum and a running sum account for numbers whose powers sum to `T`; `b`: one of them was plus infinity. -/
def Good (T : ℝ) (b : Prop) (m l : EReal) : Prop :=
  (b ∧ m = ⊤ ∧ l = 0) ∨ (¬ b ∧ ∃ M : ℝ, m = M ∧ l = ((T * (2 : ℝ) ^ (-M) : ℝ) : EReal))

theorem good_init (M : ℝ) : Good 0 False (M : EReal) 0 := Or.inr ⟨not_false, M, rfl, by rw [zero_mul]; rfl⟩

/-- The maximum of a number and six more, as a tile takes it. -/
def mx (m : EReal) (u : Fin 6 → EReal) : EReal := max (max (max (max (max (max m (u 0)) (u 1)) (u 2)) (u 3)) (u 4)) (u 5)
/-- The sum rescaled to the new maximum, and six more powers. -/
def sm (m l : EReal) (u : Fin 6 → EReal) : EReal :=
  l * Ideal.exp2 (m - mx m u) + Ideal.exp2 (u 0 - mx m u) + Ideal.exp2 (u 1 - mx m u) + Ideal.exp2 (u 2 - mx m u)
    + Ideal.exp2 (u 3 - mx m u) + Ideal.exp2 (u 4 - mx m u) + Ideal.exp2 (u 5 - mx m u)

theorem le_mx (m : EReal) (u : Fin 6 → EReal) (i : Fin 6) : u i ≤ mx m u := by
  unfold mx
  fin_cases i <;> simp [le_max_iff]
theorem m_le_mx (m : EReal) (u : Fin 6 → EReal) : m ≤ mx m u := by
  unfold mx
  simp [le_max_iff]

theorem good_step {T : ℝ} {b : Prop} {m l : EReal} (u : Fin 6 → EReal) (h : Good T b m l) :
    Good (T + ∑ i, w (u i)) (b ∨ ∃ i, u i = ⊤) (mx m u) (sm m l u) := by
  by_cases hb : b ∨ ∃ i, u i = ⊤
  · have hM : mx m u = ⊤ := by
      rcases hb with hb | ⟨i, hi⟩
      · rcases h with ⟨_, hm, _⟩ | ⟨hn, _⟩
        · exact top_le_iff.mp (hm ▸ m_le_mx m u)
        · exact absurd hb hn
      · exact top_le_iff.mp (hi ▸ le_mx m u i)
    refine Or.inl ⟨hb, hM, ?_⟩
    unfold sm
    rw [hM]
    simp only [e_top, mul_zero, add_zero]
  · have hn : ¬ b := fun h => hb (Or.inl h)
    have hu : ∀ i, u i ≠ ⊤ := fun i hi => hb (Or.inr ⟨i, hi⟩)
    rcases h with ⟨h', _⟩ | ⟨_, M, hm, hl⟩
    · exact absurd h' hn
    have hlt : mx m u < ⊤ := by
      unfold mx
      have hl : ∀ i, u i < ⊤ := fun i => lt_top_iff_ne_top.mpr (hu i)
      exact max_lt (max_lt (max_lt (max_lt (max_lt (max_lt (hm ▸ EReal.coe_lt_top M) (hl 0)) (hl 1)) (hl 2)) (hl 3)) (hl 4)) (hl 5)
    have hgt : ⊥ < mx m u := lt_of_lt_of_le (hm ▸ EReal.bot_lt_coe M) (m_le_mx m u)
    obtain ⟨M', hM'⟩ : ∃ M' : ℝ, mx m u = M' := ⟨(mx m u).toReal, (EReal.coe_toReal hlt.ne hgt.ne').symm⟩
    refine Or.inr ⟨hb, M', hM', ?_⟩
    unfold sm
    rw [hM', e_real _ (hu 0), e_real _ (hu 1), e_real _ (hu 2), e_real _ (hu 3), e_real _ (hu 4), e_real _ (hu 5), e_real m (hm ▸ EReal.coe_ne_top M),
      hl, hm, w_coe, Fin.sum_univ_six]
    simp only [← EReal.coe_mul, ← EReal.coe_add]
    refine congrArg _ ?_
    have := pow_cancel M
    linear_combination (T * (2 : ℝ) ^ (-M')) * this

theorem shift (S T : ℝ) : (S : EReal) + Ideal.div (Ideal.log ((T * (2 : ℝ) ^ (-S) : ℝ) : EReal)) (Real.log 2 : ℝ) = Ideal.div (Ideal.log (T : EReal)) (Real.log 2 : ℝ) := by
  have hp : (0 : ℝ) < (2 : ℝ) ^ (-S) := Real.rpow_pos_of_pos two_pos _
  by_cases h : T ≤ 0
  · rw [log_nonpos _ h, log_nonpos _ (mul_nonpos_of_nonpos_of_nonneg h hp.le), div_bot _ log2_pos, EReal.add_bot]
  · have h : 0 < T := not_le.mp h
    rw [log_pos _ h, log_pos _ (mul_pos h hp), div_coe _ _ log2_pos.ne', div_coe _ _ log2_pos.ne', ← EReal.coe_add,
      Real.log_mul h.ne' hp.ne', Real.log_rpow two_pos]
    refine congrArg _ ?_
    field_simp [log2_pos.ne']
    ring

/-- The lanes' statistics put together. -/
theorem kfin (T : Fin 128 → ℝ) (b : Fin 128 → Prop) (m l : Fin 128 → EReal) (h : ∀ q, Good (T q) (b q) (m q) (l q)) :
    Finset.fold max ⊥ m Finset.univ + Ideal.div (Ideal.log (∑ q, l q * Ideal.exp2 (m q - Finset.fold max ⊥ m Finset.univ))) (Real.log 2 : ℝ)
      = E (∃ q, b q) (∑ q, T q) := by
  have hs : Finset.fold max ⊥ m Finset.univ = Finset.univ.sup m := rfl
  rw [hs]
  unfold E
  by_cases hb : ∃ q, b q
  · rw [if_pos hb]
    obtain ⟨q, hq⟩ := hb
    have hm : m q = ⊤ := by
      rcases h q with ⟨_, hm, _⟩ | ⟨hn, _⟩
      · exact hm
      · exact absurd hq hn
    have ht : Finset.univ.sup m = ⊤ := top_le_iff.mp (hm ▸ Finset.le_sup (Finset.mem_univ q))
    rw [ht]
    simp only [e_top, mul_zero, Finset.sum_const_zero]
    rw [log_zero, div_bot _ log2_pos, EReal.add_bot]
  · rw [if_neg hb]
    have hr : ∀ q, ∃ M : ℝ, m q = M ∧ l q = ((T q * (2 : ℝ) ^ (-M) : ℝ) : EReal) := by
      intro q
      rcases h q with ⟨hq, _⟩ | ⟨_, hM⟩
      · exact absurd ⟨q, hq⟩ hb
      · exact hM
    choose M hM hl using hr
    obtain ⟨q0, _, hq0⟩ := Finset.exists_mem_eq_sup Finset.univ ⟨(0 : Fin 128), Finset.mem_univ _⟩ m
    rw [hq0, hM q0]
    have ht : ∀ q, l q * Ideal.exp2 (m q - (M q0 : EReal)) = ((T q * (2 : ℝ) ^ (-(M q0)) : ℝ) : EReal) := by
      intro q
      rw [e_real _ (hM q ▸ EReal.coe_ne_top _), hM q, hl q, w_coe, ← EReal.coe_mul]
      refine congrArg _ ?_
      linear_combination (T q * (2 : ℝ) ^ (-(M q0))) * pow_cancel (M q)
    rw [Finset.sum_congr rfl (fun q _ => ht q), coe_sum, ← Finset.sum_mul]
    exact shift _ _

/-- The maximum and the sum taken at once, in base e. -/
theorem rfin {n : ℕ} [NeZero n] (u : Fin n → EReal) :
    Ideal.div (Finset.fold max ⊥ (fun x => u x * (Real.log 2 : ℝ)) Finset.univ
        + Ideal.log (∑ x, Ideal.exp (u x * (Real.log 2 : ℝ) - Finset.fold max ⊥ (fun x => u x * (Real.log 2 : ℝ)) Finset.univ))) (Real.log 2 : ℝ)
      = E (∃ x, u x = ⊤) (∑ x, w (u x)) := by
  have hs : Finset.fold max ⊥ (fun x => u x * (Real.log 2 : ℝ)) Finset.univ = Finset.univ.sup (fun x => u x * ((Real.log 2 : ℝ) : EReal)) := rfl
  rw [hs]
  unfold E
  by_cases hb : ∃ x, u x = ⊤
  · rw [if_pos hb]
    obtain ⟨x, hx⟩ := hb
    have hm : u x * ((Real.log 2 : ℝ) : EReal) = ⊤ := by rw [hx, EReal.top_mul_coe_of_pos log2_pos]
    have ht : Finset.univ.sup (fun x => u x * ((Real.log 2 : ℝ) : EReal)) = ⊤ :=
      top_le_iff.mp (hm ▸ Finset.le_sup (f := fun x => u x * ((Real.log 2 : ℝ) : EReal)) (Finset.mem_univ x))
    have h0 : Ideal.exp ⊥ = 0 := rfl
    rw [ht]
    simp only [EReal.sub_top, h0, Finset.sum_const_zero]
    rw [log_zero, EReal.add_bot, div_bot _ log2_pos]
  · rw [if_neg hb]
    obtain ⟨x0, _, hx0⟩ := Finset.exists_mem_eq_sup Finset.univ ⟨(0 : Fin n), Finset.mem_univ _⟩ (fun x => u x * ((Real.log 2 : ℝ) : EReal))
    have hle : ∀ x, u x * ((Real.log 2 : ℝ) : EReal) ≤ u x0 * ((Real.log 2 : ℝ) : EReal) := fun x =>
      hx0 ▸ Finset.le_sup (f := fun x => u x * ((Real.log 2 : ℝ) : EReal)) (Finset.mem_univ x)
    rw [hx0]
    rcases eq_or_ne (u x0) ⊥ with h0 | h0
    · have hall : ∀ x, u x = ⊥ := by
        intro x
        have := hle x
        rw [h0, EReal.bot_mul_coe_of_pos log2_pos] at this
        have := le_bot_iff.mp this
        rcases hux : u x with _ | _ | r
        · rfl
        · exact absurd ⟨x, hux⟩ hb
        · rw [hux] at this
          exact absurd this (by rw [show (some (some r) : EReal) = ((r : ℝ) : EReal) from rfl, ← EReal.coe_mul]; exact EReal.coe_ne_bot _)
      rw [h0, EReal.bot_mul_coe_of_pos log2_pos, EReal.bot_add, div_bot _ log2_pos]
      simp only [hall, w_bot, Finset.sum_const_zero]
      rw [EReal.coe_zero, log_zero, div_bot _ log2_pos]
    · obtain ⟨r, hr⟩ : ∃ r : ℝ, u x0 = r := ⟨(u x0).toReal, (EReal.coe_toReal (fun h => hb ⟨x0, h⟩) h0).symm⟩
      rw [hr, ← EReal.coe_mul]
      have ht : ∀ x, Ideal.exp (u x * ((Real.log 2 : ℝ) : EReal) - ((r * Real.log 2 : ℝ) : EReal)) = ((w (u x) * Real.exp (-(r * Real.log 2)) : ℝ) : EReal) := by
        intro x
        have hx : u x ≠ ⊤ := fun h => hb ⟨x, h⟩
        generalize u x = v at hx
        induction v with
        | bot => rw [EReal.bot_mul_coe_of_pos log2_pos, EReal.bot_sub, w_bot, zero_mul]; rfl
        | top => exact absurd rfl hx
        | coe s =>
          rw [← EReal.coe_mul, ← EReal.coe_sub, w_coe, Real.rpow_def_of_pos two_pos, ← Real.exp_add]
          show ((Real.exp (s * Real.log 2 - r * Real.log 2) : ℝ) : EReal) = _
          refine congrArg _ (congrArg _ ?_)
          ring
      rw [Finset.sum_congr rfl (fun x _ => ht x), coe_sum, ← Finset.sum_mul]
      have hW : 0 < ∑ x, w (u x) := by
        refine Finset.sum_pos' (fun x _ => ?_) ⟨x0, Finset.mem_univ _, ?_⟩
        · have hx : u x ≠ ⊤ := fun h => hb ⟨x, h⟩
          generalize u x = v at hx
          induction v with
          | bot => exact le_refl _
          | top => exact absurd rfl hx
          | coe s => rw [w_coe]; exact (Real.rpow_pos_of_pos two_pos _).le
        · rw [hr, w_coe]; exact Real.rpow_pos_of_pos two_pos _
      rw [log_pos _ (mul_pos hW (Real.exp_pos _)), log_pos _ hW, Real.log_mul hW.ne' (Real.exp_pos _).ne', Real.log_exp, ← EReal.coe_add]
      refine congrArg (fun q : ℝ => Ideal.div (q : EReal) _) ?_
      ring

/-! ## The constants -/

theorem c_bot : Ideal.ofBits FTy.f32 0xFF800000#32 = ⊥ := by simp [Ideal.ofBits, Ideal.ieee]
theorem c_two : Ideal.ofBits FTy.f32 0x40000000#32 = ((2 : ℝ) : EReal) := by
  simp [Ideal.ofBits, Ideal.ieee, -EReal.coe_mul]; norm_num
theorem c_log2 : Ideal.log (Ideal.ofBits FTy.f32 0x40000000#32) = ((Real.log 2 : ℝ) : EReal) := by
  rw [c_two, log_pos _ two_pos]
theorem c_zero : Ideal.ofBits FTy.f32 0x00000000#32 = 0 := by simp [Ideal.ofBits, Ideal.ieee]
theorem c_low : ∃ x : ℝ, Ideal.ofBits FTy.f32 0xF149F2CA#32 = (x : EReal) := by
  simp [Ideal.ofBits, Ideal.ieee, -EReal.coe_mul, -EReal.coe_neg]

end Cert.Proof.Lse

end
-- ==== Proof.KStat.lean ====
/-
  The running statistics' stored values at an index, over the extended reals.
-/
module

public import proofs.«01_k».proof.Proof.KLog
public import proofs.«01_k».proof.Proof.Lse

@[expose] public section

set_option maxRecDepth 16384

noncomputable section

namespace Cert.Proof.Fwd

open Cert.Kernel Cert.Kernel.Gen
open Idealize.ShloMosaic Idealize.ShloMosaic.TcCoe Idealize.SL.Sem

/-- The six columns of a slab of logits that lane `q` of the statistics takes in. -/
def slot (q : Fin 128) : Fin 6 → Fin 768 :=
  ![⟨q.val, by omega⟩, ⟨128 + q.val, by omega⟩, ⟨256 + q.val, by omega⟩, ⟨384 + q.val, by omega⟩, ⟨512 + q.val, by omega⟩, ⟨640 + q.val, by omega⟩]

theorem slot_val (q : Fin 128) (k : Fin 6) : (slot q k).val = 128 * k.val + q.val := by
  fin_cases k <;> simp [slot]

theorem mPay_at (u : FVec Ideal S256x768 .f32) (m : FVec Ideal S256x128 .f32) (i : Fin 256) (q : Fin 128) :
    (mPay (F := Ideal) u m (ix2 i q) : EReal) = Lse.mx (m (ix2 i q)) (fun k => u (ix2 i (slot q k))) := by
  pointwise [mPay, k0_pay149, k0_pay148]
  rfl

theorem p148_at (u : FVec Ideal S256x768 .f32) (m : FVec Ideal S256x128 .f32) (i : Fin 256) (q : Fin 128) :
    (k0_pay148 (F := Ideal) (extractStridedSlice S256x128 ![0, 0] u slices_S256x768_o0_0_S256x128) (extractStridedSlice S256x128 ![0, 128] u slices_S256x768_o0_128_S256x128)
      (extractStridedSlice S256x128 ![0, 256] u slices_S256x768_o0_256_S256x128) (extractStridedSlice S256x128 ![0, 384] u slices_S256x768_o0_384_S256x128)
      (extractStridedSlice S256x128 ![0, 512] u slices_S256x768_o0_512_S256x128) (extractStridedSlice S256x128 ![0, 640] u slices_S256x768_o0_640_S256x128) m (ix2 i q) : EReal)
      = Lse.mx (m (ix2 i q)) (fun k => u (ix2 i (slot q k))) := by
  pointwise [k0_pay148]
  rfl

theorem lPay_at (u : FVec Ideal S256x768 .f32) (m l : FVec Ideal S256x128 .f32) (i : Fin 256) (q : Fin 128) :
    (lPay (F := Ideal) u m l (ix2 i q) : EReal) = Lse.sm (m (ix2 i q)) (l (ix2 i q)) (fun k => u (ix2 i (slot q k))) := by
  pointwise [lPay, k0_pay150]
  simp only [p148_at]
  rfl

theorem fin1_at (m l : FVec Ideal S1536x128 .f32) (i : Fin 1536) (q : Fin 128) :
    (k0_pay1 (F := Ideal) m l (ix2 i q) : EReal)
      = Finset.fold max ⊥ (fun x => (m (ix2 i x) : EReal)) Finset.univ
        + Ideal.div (Ideal.log (∑ x, l (ix2 i x) * Ideal.exp2 (m (ix2 i x) - Finset.fold max ⊥ (fun x => (m (ix2 i x) : EReal)) Finset.univ))) (Real.log 2 : ℝ) := by
  rw [← Lse.c_bot, ← Lse.c_log2]
  pointwise [k0_pay1]
  rfl

theorem fin2_at (m l : FVec Ideal S1536x128 .f32) (i : Fin 1536) (q : Fin 128) :
    (k0_pay2 (F := Ideal) m l (ix2 i q) : EReal)
      = Finset.fold max ⊥ (fun x => (m (ix2 i x) : EReal)) Finset.univ
        + Ideal.div (Ideal.log (∑ x, l (ix2 i x) * Ideal.exp2 (m (ix2 i x) - Finset.fold max ⊥ (fun x => (m (ix2 i x) : EReal)) Finset.univ))) (Real.log 2 : ℝ) := by
  rw [← Lse.c_bot, ← Lse.c_log2]
  pointwise [k0_pay2]
  rfl

theorem init_t (i : Fin 1536) (q : Fin 128) :
    Lse.Good 0 False (k0_pay3 (F := Ideal) (ix2 i q) : EReal) (k0_pay5 (F := Ideal) (ix2 i q) : EReal) := by
  obtain ⟨x, hx⟩ := Lse.c_low
  have h3 : (k0_pay3 (F := Ideal) (ix2 i q) : EReal) = (x : EReal) := by
    rw [← hx]; pointwise [k0_pay3]
  have h5 : (k0_pay5 (F := Ideal) (ix2 i q) : EReal) = 0 := by
    pointwise [k0_pay5]
  rw [h3, h5]
  exact Lse.good_init x

theorem init_s (i : Fin 1536) (q : Fin 128) :
    Lse.Good 0 False (k0_pay4 (F := Ideal) (ix2 i q) : EReal) (k0_pay6 (F := Ideal) (ix2 i q) : EReal) := by
  obtain ⟨x, hx⟩ := Lse.c_low
  have h3 : (k0_pay4 (F := Ideal) (ix2 i q) : EReal) = (x : EReal) := by
    rw [← hx]; pointwise [k0_pay4]
  have h5 : (k0_pay6 (F := Ideal) (ix2 i q) : EReal) = 0 := by
    pointwise [k0_pay6]
  rw [h3, h5]
  exact Lse.good_init x

/-- The block of rows a row lies in, and its place there. -/
def blkOf (r : Fin 1536) : Fin 6 := ⟨r.val / 256, by omega⟩
def inBlk (r : Fin 1536) : Fin 256 := ⟨r.val % 256, by omega⟩

theorem row_eq (r : Fin 1536) : (⟨256 * (blkOf r).val + (inBlk r).val, by have := (blkOf r).isLt; have := (inBlk r).isLt; omega⟩ : Fin 1536) = r :=
  Fin.ext (by show 256 * (r.val / 256) + r.val % 256 = r.val; omega)

/-- Rows put back: those of the block are new, the others as before. -/
theorem putRows_at (rb : Fin 6) (w : Vec Ideal S256x128 .f32) (X : Vec Ideal S1536x128 .f32) (r : Fin 1536) (q : Fin 128) :
    putRows rb w X (ix2 r q) = if rb = blkOf r then w (ix2 (inBlk r) q) else X (ix2 r q) := by
  have hv : ∀ x : S256x128.Idx, ((Rect.unit (s := S1536x128) ![256 * rb.val, 0] S256x128.size (inbSt rb)).emb x 0).val = 256 * rb.val + (x 0).val := by
    intro x
    rw [Rect.emb_apply]
    show 256 * rb.val + 1 * (x 0).val = _
    omega
  by_cases h : rb = blkOf r
  · subst h
    rw [if_pos rfl]
    have he : (Rect.unit (s := S1536x128) ![256 * (blkOf r).val, 0] S256x128.size (inbSt (blkOf r))).emb (ix2 (inBlk r) q) = ix2 r q := by
      funext d
      refine Fin.ext ?_
      rw [Rect.emb_apply]
      fin_cases d
      · show 256 * (r.val / 256) + 1 * (r.val % 256) = r.val; omega
      · show 0 + 1 * q.val = q.val; omega
    rw [← he]
    exact putR_emb (Rect.unit (s := S1536x128) ![256 * (blkOf r).val, 0] S256x128.size (inbSt (blkOf r))) w X (ix2 (inBlk r) q)
  · rw [if_neg h]
    refine putR_off (Rect.unit (s := S1536x128) ![256 * rb.val, 0] S256x128.size (inbSt rb)) w X (ix2 r q) fun x hx => h (Fin.ext ?_)
    have h1 := hv x
    rw [hx] at h1
    have h2 : r.val = 256 * rb.val + (x 0).val := h1
    have h3 : (x 0).val < 256 := (x 0).isLt
    show rb.val = r.val / 256
    omega

end Cert.Proof.Fwd

end
-- ==== Proof.KSum.lean ====
/-
  The running statistics after every tile, and the log-sums they end with, over the extended reals.
-/
module

public import proofs.«01_k».proof.Proof.KStat

@[expose] public section

set_option maxRecDepth 16384

noncomputable section

namespace Cert.Proof.Fwd

open Cert.Kernel Cert.Kernel.Gen
open Idealize.ShloMosaic Idealize.ShloMosaic.TcCoe Idealize.SL.Sem

theorem rows_own (x : Vec Ideal S1536x128 .f32) (r : Fin 1536) (q : Fin 128) : rowsOf (blkOf r) x (ix2 (inBlk r) q) = x (ix2 r q) :=
  (rows_at x (blkOf r) (inBlk r) q).trans (congrArg (fun k : Fin 1536 => x (ix2 k q)) (row_eq r))

theorem rb_mt (I : Ins Ideal) (W : Vec Ideal S3072x768 .bf16) (S : St Ideal) (rb : Fin 6) (r : Fin 1536) (q : Fin 128) :
    ((stepRb I W S rb).mt (ix2 r q) : EReal)
      = if rb = blkOf r then Lse.mx (S.mt (ix2 r q)) (fun k => uT I.hb W (blkOf r) (ix2 (inBlk r) (slot q k))) else S.mt (ix2 r q) := by
  refine (putRows_at rb _ S.mt r q).trans ?_
  by_cases h : rb = blkOf r
  · subst h
    rw [if_pos rfl, if_pos rfl, mPay_at, rows_own]
  · rw [if_neg h, if_neg h]

theorem rb_lt (I : Ins Ideal) (W : Vec Ideal S3072x768 .bf16) (S : St Ideal) (rb : Fin 6) (r : Fin 1536) (q : Fin 128) :
    ((stepRb I W S rb).lt (ix2 r q) : EReal)
      = if rb = blkOf r then Lse.sm (S.mt (ix2 r q)) (S.lt (ix2 r q)) (fun k => uT I.hb W (blkOf r) (ix2 (inBlk r) (slot q k))) else S.lt (ix2 r q) := by
  refine (putRows_at rb _ S.lt r q).trans ?_
  by_cases h : rb = blkOf r
  · subst h
    rw [if_pos rfl, if_pos rfl, lPay_at, rows_own, rows_own]
  · rw [if_neg h, if_neg h]

theorem rb_ms (I : Ins Ideal) (W : Vec Ideal S3072x768 .bf16) (S : St Ideal) (rb : Fin 6) (r : Fin 1536) (q : Fin 128) :
    ((stepRb I W S rb).ms (ix2 r q) : EReal)
      = if rb = blkOf r then Lse.mx (S.ms (ix2 r q)) (fun k => uS I (blkOf r) (ix2 (inBlk r) (slot q k))) else S.ms (ix2 r q) := by
  refine (putRows_at rb _ S.ms r q).trans ?_
  by_cases h : rb = blkOf r
  · subst h
    rw [if_pos rfl, if_pos rfl, mPay_at, rows_own]
  · rw [if_neg h, if_neg h]

theorem rb_ls (I : Ins Ideal) (W : Vec Ideal S3072x768 .bf16) (S : St Ideal) (rb : Fin 6) (r : Fin 1536) (q : Fin 128) :
    ((stepRb I W S rb).ls (ix2 r q) : EReal)
      = if rb = blkOf r then Lse.sm (S.ms (ix2 r q)) (S.ls (ix2 r q)) (fun k => uS I (blkOf r) (ix2 (inBlk r) (slot q k))) else S.ls (ix2 r q) := by
  refine (putRows_at rb _ S.ls r q).trans ?_
  by_cases h : rb = blkOf r
  · subst h
    rw [if_pos rfl, if_pos rfl, lPay_at, rows_own, rows_own]
  · rw [if_neg h, if_neg h]

/-- Six updates of a pair in turn, of which one is live. -/
theorem once {P : Type} (f : P → P) (j : Fin 6) (x : P) (y : Fin 7 → P) (h0 : y 0 = x)
    (h : ∀ k : Fin 6, y k.succ = if k = j then f (y k.castSucc) else y k.castSucc) : y 6 = f x := by
  have a0 := h 0; have a1 := h 1; have a2 := h 2; have a3 := h 3; have a4 := h 4; have a5 := h 5
  subst h0
  change y 1 = if 0 = j then f (y 0) else y 0 at a0
  change y 2 = if 1 = j then f (y 1) else y 1 at a1
  change y 3 = if 2 = j then f (y 2) else y 2 at a2
  change y 4 = if 3 = j then f (y 3) else y 3 at a3
  change y 5 = if 4 = j then f (y 4) else y 4 at a4
  change y 6 = if 5 = j then f (y 5) else y 5 at a5
  rw [a5, a4, a3, a2, a1, a0]
  fin_cases j <;> simp

/-- The statistics after the first row blocks of a tile. -/
def upto (I : Ins Ideal) (W : Vec Ideal S3072x768 .bf16) (S : St Ideal) : Fin 7 → St Ideal :=
  ![S, stepRb I W S 0, stepRb I W (stepRb I W S 0) 1, stepRb I W (stepRb I W (stepRb I W S 0) 1) 2, stepRb I W (stepRb I W (stepRb I W (stepRb I W S 0) 1) 2) 3,
    stepRb I W (stepRb I W (stepRb I W (stepRb I W (stepRb I W S 0) 1) 2) 3) 4, stepT I W S]

theorem upto_succ (I : Ins Ideal) (W : Vec Ideal S3072x768 .bf16) (S : St Ideal) (k : Fin 6) : upto I W S k.succ = stepRb I W (upto I W S k.castSucc) k := by
  fin_cases k <;> rfl

/-- The teacher's pair of statistics at a row and a lane. -/
def prT (r : Fin 1536) (q : Fin 128) (S : St Ideal) : EReal × EReal := (S.mt (ix2 r q), S.lt (ix2 r q))
/-- The student's. -/
def prS (r : Fin 1536) (q : Fin 128) (S : St Ideal) : EReal × EReal := (S.ms (ix2 r q), S.ls (ix2 r q))
/-- A tile's update of a pair. -/
def upd (u : Fin 6 → EReal) (p : EReal × EReal) : EReal × EReal := (Lse.mx p.1 u, Lse.sm p.1 p.2 u)

theorem stepT_t (I : Ins Ideal) (W : Vec Ideal S3072x768 .bf16) (S : St Ideal) (r : Fin 1536) (q : Fin 128) :
    prT r q (stepT I W S) = upd (fun k => uT I.hb W (blkOf r) (ix2 (inBlk r) (slot q k))) (prT r q S) := by
  refine once (upd fun k => uT I.hb W (blkOf r) (ix2 (inBlk r) (slot q k))) (blkOf r) (prT r q S) (fun k => prT r q (upto I W S k)) rfl fun k => ?_
  show prT r q (upto I W S k.succ) = _
  rw [upto_succ]
  by_cases h : k = blkOf r
  · rw [if_pos h]
    simp only [prT, upd, rb_mt, rb_lt, if_pos h]
  · rw [if_neg h]
    simp only [prT, upd, rb_mt, rb_lt, if_neg h]

theorem stepT_s (I : Ins Ideal) (W : Vec Ideal S3072x768 .bf16) (S : St Ideal) (r : Fin 1536) (q : Fin 128) :
    prS r q (stepT I W S) = upd (fun k => uS I (blkOf r) (ix2 (inBlk r) (slot q k))) (prS r q S) := by
  refine once (upd fun k => uS I (blkOf r) (ix2 (inBlk r) (slot q k))) (blkOf r) (prS r q S) (fun k => prS r q (upto I W S k)) rfl fun k => ?_
  show prS r q (upto I W S k.succ) = _
  rw [upto_succ]
  by_cases h : k = blkOf r
  · rw [if_pos h]
    simp only [prS, upd, rb_ms, rb_ls, if_pos h]
  · rw [if_neg h]
    simp only [prS, upd, rb_ms, rb_ls, if_neg h]

/-- A pair updated once a tile accounts for all that the tiles brought. -/
theorem good_run (p : ℕ → EReal × EReal) (u : ℕ → Fin 6 → EReal) (h0 : Lse.Good 0 False (p 0).1 (p 0).2) (hp : ∀ n, p (n + 1) = upd (u n) (p n)) (n : ℕ) :
    Lse.Good (∑ t ∈ Finset.range n, ∑ k, Lse.w (u t k)) (∃ t, t < n ∧ ∃ k, u t k = ⊤) (p n).1 (p n).2 := by
  induction n with
  | zero =>
    have hb : (∃ t, t < 0 ∧ ∃ k, u t k = ⊤) = False := eq_false fun ⟨t, ht, _⟩ => absurd ht (Nat.not_lt_zero t)
    rw [hb, Finset.sum_range_zero]
    exact h0
  | succ n ih =>
    have hb : (∃ t, t < n + 1 ∧ ∃ k, u t k = ⊤) = ((∃ t, t < n ∧ ∃ k, u t k = ⊤) ∨ ∃ k, u n k = ⊤) := by
      refine propext ⟨fun ⟨t, ht, hk⟩ => ?_, fun h => ?_⟩
      · rcases Nat.lt_succ_iff_lt_or_eq.mp ht with h | h
        · exact Or.inl ⟨t, h, hk⟩
        · subst h; exact Or.inr hk
      · rcases h with ⟨t, ht, hk⟩ | hk
        · exact ⟨t, Nat.lt_succ_of_lt ht, hk⟩
        · exact ⟨n, Nat.lt_succ_self n, hk⟩
    rw [hb, Finset.sum_range_succ, hp]
    exact Lse.good_step (u n) ih

variable (m : (ℓ : Loc nD τ sig) → Buf (Elt Ideal) ℓ)

theorem good_t (c : Dev nD) (r : Fin 1536) (q : Fin 128) (n : ℕ) :
    Lse.Good (∑ t ∈ Finset.range n, ∑ k, Lse.w (XT m c t (blkOf r) (ix2 (inBlk r) (slot q k)))) (∃ t, t < n ∧ ∃ k, (XT m c t (blkOf r) (ix2 (inBlk r) (slot q k)) : EReal) = ⊤)
      ((stAt m c n).mt (ix2 r q)) ((stAt m c n).lt (ix2 r q)) :=
  good_run (fun n => prT r q (stAt m c n)) (fun t k => XT m c t (blkOf r) (ix2 (inBlk r) (slot q k))) (init_t r q)
    (fun n => stepT_t (It m c n) (WT (It m c n)) (stAt m c n) r q) n

theorem good_s (c : Dev nD) (r : Fin 1536) (q : Fin 128) (n : ℕ) :
    Lse.Good (∑ t ∈ Finset.range n, ∑ k, Lse.w (YT m c t (blkOf r) (ix2 (inBlk r) (slot q k)))) (∃ t, t < n ∧ ∃ k, (YT m c t (blkOf r) (ix2 (inBlk r) (slot q k)) : EReal) = ⊤)
      ((stAt m c n).ms (ix2 r q)) ((stAt m c n).ls (ix2 r q)) :=
  good_run (fun n => prS r q (stAt m c n)) (fun t k => YT m c t (blkOf r) (ix2 (inBlk r) (slot q k))) (init_s r q)
    (fun n => stepT_s (It m c n) (WT (It m c n)) (stAt m c n) r q) n

/-- The teacher's log-sum the kernel ends with. -/
theorem G8_at (c : Dev nD) (r : Fin 1536) (q : Fin 128) :
    (G8 m c (ix2 r q) : EReal) = Lse.E (∃ p : Fin 128, ∃ t, t < 167 ∧ ∃ k, (XT m c t (blkOf r) (ix2 (inBlk r) (slot p k)) : EReal) = ⊤)
      (∑ p : Fin 128, ∑ t ∈ Finset.range 167, ∑ k, Lse.w (XT m c t (blkOf r) (ix2 (inBlk r) (slot p k)))) :=
  (fin1_at _ _ r q).trans (Lse.kfin _ _ _ _ fun p => good_t m c r p 167)

/-- The student's. -/
theorem G9_at (c : Dev nD) (r : Fin 1536) (q : Fin 128) :
    (G9 m c (ix2 r q) : EReal) = Lse.E (∃ p : Fin 128, ∃ t, t < 167 ∧ ∃ k, (YT m c t (blkOf r) (ix2 (inBlk r) (slot p k)) : EReal) = ⊤)
      (∑ p : Fin 128, ∑ t ∈ Finset.range 167, ∑ k, Lse.w (YT m c t (blkOf r) (ix2 (inBlk r) (slot p k)))) :=
  (fin2_at _ _ r q).trans (Lse.kfin _ _ _ _ fun p => good_s m c r p 167)

end Cert.Proof.Fwd

end
-- ==== Proof.RefLse.lean ====
/-
  The reference's log-sums, element by element: the base-2 logarithm of the sum of `2 ^ u` over a row of logits.
-/
module

public import proofs.«01_k».proof.Proof.RefLog
public import proofs.«01_k».proof.Proof.Lse

@[expose] public section

set_option maxRecDepth 16384

noncomputable section

namespace Cert.Proof.Ref

open Cert.ReferenceIdeal Cert.ReferenceIdeal.Gen
open Idealize.ShloMosaic Idealize.ShloMosaic.TcCoe Idealize.SL.Sem

/-- The logits in base e. -/
def scl (X : FVec Ideal S1536x128256 .f32) : FVec Ideal S1536x128256 .f32 :=
  mulf X (broadcastTo S1536x128256 (k0_pay5 (F := Ideal)) broadcasts_S1536x1_S1536x128256)

/-- The largest entry of each row. -/
def rmax (X : FVec Ideal S1536x128256 .f32) : FVec Ideal S1536 .f32 :=
  multiReduction .maximumf [1] S1536 X 0xFF800000#32 reduces_S1536x128256_S1536 (.inl rfl) rfl

/-- The exponentials of each row, less a value per row, summed. -/
def rsum (X : FVec Ideal S1536x128256 .f32) (a : FVec Ideal S1536 .f32) : FVec Ideal S1536 .f32 :=
  multiReduction .add [1] S1536
    (exp (subf X (broadcastTo S1536x128256 (shapeCast S1536x1 a shapeCasts_S1536_S1536x1 : FVec Ideal S1536x1 .f32) broadcasts_S1536x1_S1536x128256)))
    0x00000000#32 reduces_S1536x128256_S1536 (.inl rfl) rfl

/-- Back to base 2. -/
def rfn (a b : FVec Ideal S1536 .f32) : FVec Ideal S1536x1 .f32 :=
  divf (shapeCast S1536x1 (addf a (log b) : FVec Ideal S1536 .f32) shapeCasts_S1536_S1536x1) (k0_pay5 (F := Ideal))

theorem pay8_eq (X : FVec Ideal S1536x128256 .f32) :
    k0_pay8 (F := Ideal) X = k0_pay1 (rfn (rmax (scl X)) (rsum (scl X) (rmax (scl X)))) := rfl

theorem pay9_eq (a b : FVec Ideal S1536x128256 .f32) (d : FVec Ideal S1x128256 .f32) :
    k0_pay9 (F := Ideal) a b d = rfn (rmax (scl (k0_pay4 a b d))) (rsum (scl (k0_pay4 a b d)) (rmax (scl (k0_pay4 a b d)))) := rfl

theorem pay5_at (i : Fin 1536) : (k0_pay5 (F := Ideal) (ix2 i 0) : EReal) = (Real.log 2 : ℝ) := by
  refine Eq.trans ?_ Lse.c_log2
  pointwise [k0_pay5]

theorem scl_at (X : FVec Ideal S1536x128256 .f32) (i : Fin 1536) (x : Fin 128256) :
    (scl X (ix2 i x) : EReal) = X (ix2 i x) * (Real.log 2 : ℝ) := by
  rw [← pay5_at i]
  pointwise [scl]

theorem rmax_at (X : FVec Ideal S1536x128256 .f32) (i : Fin 1536) :
    (rmax X (ix1 i) : EReal) = Finset.fold max ⊥ (fun x => (X (ix2 i x) : EReal)) Finset.univ := by
  rw [← Lse.c_bot]
  pointwise [rmax]

theorem rsum_at (X : FVec Ideal S1536x128256 .f32) (a : FVec Ideal S1536 .f32) (i : Fin 1536) :
    (rsum X a (ix1 i) : EReal) = ∑ x, Ideal.exp (X (ix2 i x) - a (ix1 i)) := by
  pointwise [rsum]

theorem rfn_at (a b : FVec Ideal S1536 .f32) (i : Fin 1536) (q : Fin 128) :
    (k0_pay1 (rfn a b) (ix2 i q) : EReal) = Ideal.div (a (ix1 i) + Ideal.log (b (ix1 i))) (Real.log 2 : ℝ) := by
  rw [← pay5_at i]
  pointwise [rfn, k0_pay1]

/-- The log-sum of a row. -/
theorem lse_at (X : FVec Ideal S1536x128256 .f32) (i : Fin 1536) (q : Fin 128) :
    (k0_pay1 (rfn (rmax (scl X)) (rsum (scl X) (rmax (scl X)))) (ix2 i q) : EReal)
      = Lse.E (∃ x, (X (ix2 i x) : EReal) = ⊤) (∑ x, Lse.w (X (ix2 i x))) := by
  rw [rfn_at, rsum_at, rmax_at]
  simp only [scl_at]
  exact Lse.rfin fun x => X (ix2 i x)

variable (m : (ℓ : Loc nD τ sig) → Buf (Elt Ideal) ℓ)

theorem fin11 (c : Dev nD) (i : Fin 1536) (q : Fin 128) :
    ((dats m 0 c).arrAt 11 (cfgs 0).N (ix2 i q) : EReal)
      = Lse.E (∃ x, (UT m c (ix2 i x) : EReal) = ⊤) (∑ x, Lse.w (UT m c (ix2 i x))) := by
  rw [final11, pay8_eq]
  exact lse_at (UT m c) i q

theorem fin12 (c : Dev nD) (i : Fin 1536) (q : Fin 128) :
    ((dats m 0 c).arrAt 12 (cfgs 0).N (ix2 i q) : EReal)
      = Lse.E (∃ x, (US m c (ix2 i x) : EReal) = ⊤) (∑ x, Lse.w (US m c (ix2 i x))) := by
  rw [final12, pay9_eq]
  exact lse_at (US m c) i q

end Cert.Proof.Ref

end
-- ==== Proof.LogSums.lean ====
/-
  The log-sums of the kernel are the reference's.
-/
module

public import proofs.«01_k».proof.Proof.KSum
public import proofs.«01_k».proof.Proof.RefLse
public import proofs.«01_k».proof.Proof.Logits

@[expose] public section

set_option maxRecDepth 16384

noncomputable section

namespace Cert.Proof

open Idealize.ShloMosaic Idealize.ShloMosaic.TcCoe Idealize.SL.Sem

/-- The column of the vocabulary that a lane, a tile and a slot name. -/
def col (x : Fin 128 × Fin 167 × Fin 6) : Fin 128256 :=
  ⟨x.2.1.val * 768 + (Fwd.slot x.1 x.2.2).val, by have := x.2.1.isLt; have := (Fwd.slot x.1 x.2.2).isLt; omega⟩

theorem col_bij : Function.Bijective col := by
  refine (Fintype.bijective_iff_injective_and_card col).mpr ⟨?_, by simp only [Fintype.card_prod, Fintype.card_fin]⟩
  rintro ⟨q, t, k⟩ ⟨q', t', k'⟩ h
  have h : t.val * 768 + (Fwd.slot q k).val = t'.val * 768 + (Fwd.slot q' k').val := congrArg Fin.val h
  rw [Fwd.slot_val, Fwd.slot_val] at h
  have hq : q = q' := Fin.ext (by omega)
  have ht : t = t' := Fin.ext (by omega)
  have hk : k = k' := Fin.ext (by omega)
  rw [hq, ht, hk]

/-- Numbers taken by lane, tile and slot are the numbers of a row. -/
theorem regroup (f : Fin 128256 → EReal) (u : Fin 128 → ℕ → Fin 6 → EReal) (hu : ∀ q (t : Fin 167) k, u q t.val k = f (col (q, t, k))) :
    Lse.E (∃ q : Fin 128, ∃ t, t < 167 ∧ ∃ k, u q t k = ⊤) (∑ q : Fin 128, ∑ t ∈ Finset.range 167, ∑ k, Lse.w (u q t k)) = Lse.E (∃ x, f x = ⊤) (∑ x, Lse.w (f x)) := by
  have hb : (∃ q : Fin 128, ∃ t, t < 167 ∧ ∃ k, u q t k = ⊤) = (∃ x, f x = ⊤) := by
    refine propext ⟨fun ⟨q, t, ht, k, h⟩ => ⟨col (q, ⟨t, ht⟩, k), (hu q ⟨t, ht⟩ k).symm.trans h⟩, fun ⟨x, h⟩ => ?_⟩
    obtain ⟨⟨q, t, k⟩, rfl⟩ := col_bij.2 x
    exact ⟨q, t.val, t.isLt, k, (hu q t k).trans h⟩
  have hs : (∑ q : Fin 128, ∑ t ∈ Finset.range 167, ∑ k, Lse.w (u q t k)) = ∑ x, Lse.w (f x) := by
    rw [← Function.Bijective.sum_comp col_bij (fun x => Lse.w (f x)), Fintype.sum_prod_type]
    refine Finset.sum_congr rfl fun q _ => ?_
    rw [Fintype.sum_prod_type, Finset.sum_range]
    exact Finset.sum_congr rfl fun t _ => Finset.sum_congr rfl fun k _ => congrArg Lse.w (hu q t k)
  rw [hb, hs]

variable (m : (ℓ : Loc Cert.Kernel.nD Cert.Kernel.τ Cert.Kernel.sig) → Buf (Elt Ideal) ℓ)
variable (m' : (ℓ : Loc Cert.ReferenceIdeal.nD Cert.ReferenceIdeal.τ Cert.ReferenceIdeal.sig) → Buf (Elt Ideal) ℓ)

/-- The teacher's log-sum of a row. -/
theorem g8_eq (c : Dev Cert.Kernel.nD) (hs : Same m m' c) (y : Cert.Kernel.S1536x128.Idx) :
    (Fwd.G8 m c : Cert.Kernel.S1536x128.Idx → EReal) y = ((Cert.ReferenceIdeal.Gen.dats m' 0 c).arrAt 11 (Cert.ReferenceIdeal.cfgs 0).N : Cert.Kernel.S1536x128.Idx → EReal) y := by
  obtain ⟨r, q, rfl⟩ : ∃ r q, y = ix2 r q := ⟨y 0, y 1, ValueIdx.eq_ix2 y⟩
  refine (Fwd.G8_at m c r q).trans (Eq.trans ?_ (Ref.fin11 m' c r q).symm)
  refine regroup (fun x => Ref.UT m' c (ix2 r x)) (fun p t k => Fwd.XT m c t (Fwd.blkOf r) (ix2 (Fwd.inBlk r) (Fwd.slot p k))) fun p t k => ?_
  exact (XT_eq m m' c hs t.val t.isLt (Fwd.blkOf r) (Fwd.inBlk r) (Fwd.slot p k)).trans (congrArg (fun b : Fin 1536 => Ref.UT m' c (ix2 b _)) (Fwd.row_eq r))

/-- The student's. -/
theorem g9_eq (c : Dev Cert.Kernel.nD) (hs : Same m m' c) (y : Cert.Kernel.S1536x128.Idx) :
    (Fwd.G9 m c : Cert.Kernel.S1536x128.Idx → EReal) y = ((Cert.ReferenceIdeal.Gen.dats m' 0 c).arrAt 12 (Cert.ReferenceIdeal.cfgs 0).N : Cert.Kernel.S1536x128.Idx → EReal) y := by
  obtain ⟨r, q, rfl⟩ : ∃ r q, y = ix2 r q := ⟨y 0, y 1, ValueIdx.eq_ix2 y⟩
  refine (Fwd.G9_at m c r q).trans (Eq.trans ?_ (Ref.fin12 m' c r q).symm)
  refine regroup (fun x => Ref.US m' c (ix2 r x)) (fun p t k => Fwd.YT m c t (Fwd.blkOf r) (ix2 (Fwd.inBlk r) (Fwd.slot p k))) fun p t k => ?_
  exact (YT_eq m m' c hs t.val t.isLt (Fwd.blkOf r) (Fwd.inBlk r) (Fwd.slot p k)).trans (congrArg (fun b : Fin 1536 => Ref.US m' c (ix2 b _)) (Fwd.row_eq r))

end Cert.Proof

end
-- ==== Proof.RefRun.lean ====
/-
  The reference runs to its end and leaves its results as the proof data name them.
-/
module

public import proofs.«01_k».proof.Proof.RefVal
public import proofs.«01_k».proof.Proof.Gen.ReferenceIdeal.Frame

@[expose] public section

set_option maxRecDepth 16384

noncomputable section

namespace Cert.Proof.Ref

open Cert.ReferenceIdeal Cert.ReferenceIdeal.Gen
open Idealize.ShloMosaic Idealize.ShloMosaic.TcCoe Idealize.SL.Sem

variable {F : FTy → Type} [FloatOps F] (m : (ℓ : Loc nD τ sig) → Buf (Elt F) ℓ) (ρ : Dev nD → PrngReg)

theorem run_val : θ_run defs (onTc (τ := τ) (main (F := F))) ⟨m, fun _ => 0, ρ⟩ (fun r => ∀ c : Dev nD,
      r.2.mem ((c : Thread nD τ).loc main_v17_0) = (dats m 0 c).arrAt 9 (cfgs 0).N
      ∧ r.2.mem ((c : Thread nD τ).loc main_v17_1) = (dats m 0 c).arrAt 10 (cfgs 0).N
      ∧ r.2.mem ((c : Thread nD τ).loc main_v17_2) = (dats m 0 c).arrAt 11 (cfgs 0).N
      ∧ r.2.mem ((c : Thread nD τ).loc main_v17_3) = (dats m 0 c).arrAt 12 (cfgs 0).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun r h c => ⟨(h.1 c).1 9, (h.1 c).1 10, (h.1 c).1 11, (h.1 c).1 12, h.2 c⟩)
    (θ_run_and (run_main m ρ) (unchanged m ρ))

end Cert.Proof.Ref

end
-- ==== Proof.Alg.lean ====
/-
  The claim of values: the idealized kernel and the idealized reference end with the same results where the mask is set.
-/
module

public import proofs.«01_k».proof.Defs
public import proofs.«01_k».proof.Proof.Transfer
public import proofs.«01_k».proof.Proof.Logits
public import proofs.«01_k».proof.Proof.LogSums
public import proofs.«01_k».proof.Proof.RefRun
public import proofs.«01_k».proof.Proof.Gen.KernelIdeal

@[expose] public section

set_option maxRecDepth 16384

noncomputable section

namespace Cert.Proof

open Idealize.ShloMosaic Idealize.ShloMosaic.TcCoe Idealize.SL.Sem

theorem algebraic : Cert.algebraic_KernelIdeal_ReferenceIdeal_on_live (hKernelIdeal := Cert.KernelIdeal.Gen.facts)
    (hReferenceIdeal := Cert.ReferenceIdeal.Gen.facts) (hOn_live := Cert.On_live.Gen.facts) := by
  intro m g m' g' _ hm
  have hs : ∀ c, Same m m' c := fun c => ⟨(hm c).2.1, (hm c).2.2.1, (hm c).2.2.2.1, (hm c).2.2.2.2.1, (hm c).2.2.2.2.2.1, (hm c).2.2.2.2.2.2.1,
    (hm c).2.2.2.2.2.2.2.1, (hm c).2.2.2.2.2.2.2.2⟩
  refine ⟨fun c => (Cert.ReferenceIdeal.Gen.dats m' 0 c).arrAt 9 (Cert.ReferenceIdeal.cfgs 0).N, fun c => (Cert.ReferenceIdeal.Gen.dats m' 0 c).arrAt 10 (Cert.ReferenceIdeal.cfgs 0).N,
    fun c => (Cert.ReferenceIdeal.Gen.dats m' 0 c).arrAt 11 (Cert.ReferenceIdeal.cfgs 0).N, fun c => (Cert.ReferenceIdeal.Gen.dats m' 0 c).arrAt 12 (Cert.ReferenceIdeal.cfgs 0).N, ?_, ?_⟩
  · refine Fwd.run_ideal m g _ ((θ_run Cert.Kernel.defs _ _).mono (fun r h c => ?_) (Fwd.run_val (F := Ideal) m g))
    obtain ⟨ha, h0, h1, h2, h3⟩ := h.1 c
    refine ⟨fun i hi => ?_, fun i hi => ?_, fun i _ => ?_, fun i _ => ?_, ha⟩
    · exact (congrFun h0 i).trans (gt_eq m m' c (hs c) i (Fwd.live0 m c i hi))
    · exact (congrFun h1 i).trans (gs_eq m m' c (hs c) i (Fwd.live1 m c i hi))
    · exact (congrFun h2 i).trans (g8_eq m m' c (hs c) i)
    · exact (congrFun h3 i).trans (g9_eq m m' c (hs c) i)
  · refine (θ_run Cert.ReferenceIdeal.defs _ _).mono (fun r h c => ?_) (Ref.run_val (F := Ideal) m' g')
    obtain ⟨h0, h1, h2, h3, ha⟩ := h c
    exact ⟨fun i _ => congrFun h0 i, fun i _ => congrFun h1 i, fun i _ => congrFun h2 i, fun i _ => congrFun h3 i, ha⟩

end Cert.Proof

end
-- ==== Proof.lean ====
module

public import proofs.«01_k».proof.Defs
public import proofs.«01_k».proof.Proof.Transfer
public import proofs.«01_k».proof.Proof.Gen.ReferenceIdeal
public import proofs.«01_k».proof.Proof.Gen.ReferenceIdeal.Frame
public import proofs.«01_k».proof.Proof.Gen.On_live
public import proofs.«01_k».proof.Proof.Alg

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.On_live.Gen.facts,
    fun m ρ _ => Fwd.frame m ρ, fun m ρ _ => Fwd.frame_ideal m ρ, fun m ρ _ => Cert.ReferenceIdeal.Gen.frame m ρ,
    trivial, algebraic⟩

end Cert.Proof

end
